-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_2)) (v2 : (c : Dev Cert.Kernel3Ideal.nD) → Buf (Elt Ideal) ((c.tc : Thread Cert.Kernel3Ideal.nD Cert.Kernel3Ideal.τ).loc Cert.Kernel3Ideal.main_v0_3)) (v3 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_2) = v1 c
          ∧ r.2.mem ((c.tc : Thread Cert.Kernel3Ideal.nD Cert.Kernel3Ideal.τ).loc Cert.Kernel3Ideal.main_v0_3) = v2 c
          ∧ r.2.mem ((c.tc : Thread Cert.Kernel3Ideal.nD Cert.Kernel3Ideal.τ).loc Cert.Kernel3Ideal.main_v0_4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x512x4096 : Shape := ⟨3, ![8, 512, 4096]⟩
abbrev S8x4096x1024 : Shape := ⟨3, ![8, 4096, 1024]⟩
abbrev S16x1024 : Shape := ⟨2, ![16, 1024]⟩
abbrev S512x16 : Shape := ⟨2, ![512, 16]⟩
abbrev S8x4096x512 : Shape := ⟨3, ![8, 4096, 512]⟩
abbrev S1x512 : Shape := ⟨2, ![1, 512]⟩
abbrev S1x128x4096 : Shape := ⟨3, ![1, 128, 4096]⟩
abbrev S1x4096x256 : Shape := ⟨3, ![1, 4096, 256]⟩
abbrev S16x256 : Shape := ⟨2, ![16, 256]⟩
abbrev S128x16 : Shape := ⟨2, ![128, 16]⟩
abbrev S1x4096x128 : Shape := ⟨3, ![1, 4096, 128]⟩
abbrev S1x128 : Shape := ⟨2, ![1, 128]⟩
abbrev S8x128x1024 : Shape := ⟨3, ![8, 128, 1024]⟩
abbrev S2x272x1024 : Shape := ⟨3, ![2, 272, 1024]⟩
abbrev S2x256x512 : Shape := ⟨3, ![2, 256, 512]⟩
abbrev S2x512x1024 : Shape := ⟨3, ![2, 512, 1024]⟩
abbrev S2x1x1024 : Shape := ⟨3, ![2, 1, 1024]⟩
abbrev S2x1x512 : Shape := ⟨3, ![2, 1, 512]⟩
abbrev S272x1024 : Shape := ⟨2, ![272, 1024]⟩
abbrev S256x512 : Shape := ⟨2, ![256, 512]⟩
abbrev S8x1x1024 : Shape := ⟨3, ![8, 1, 1024]⟩
abbrev S8x144x1024 : Shape := ⟨3, ![8, 144, 1024]⟩
abbrev S16x512 : Shape := ⟨2, ![16, 512]⟩
abbrev S16x16 : Shape := ⟨2, ![16, 16]⟩
abbrev S256x1024 : Shape := ⟨2, ![256, 1024]⟩
abbrev S1x128x512 : Shape := ⟨3, ![1, 128, 512]⟩
abbrev S128x512 : Shape := ⟨2, ![128, 512]⟩
abbrev S64x512 : Shape := ⟨2, ![64, 512]⟩
abbrev S1x64x512 : Shape := ⟨3, ![1, 64, 512]⟩
abbrev S64x1 : Shape := ⟨2, ![64, 1]⟩
abbrev S1x256x256 : Shape := ⟨3, ![1, 256, 256]⟩
abbrev S256x256 : Shape := ⟨2, ![256, 256]⟩
abbrev S272x256 : Shape := ⟨2, ![272, 256]⟩
abbrev S1x128x1024 : Shape := ⟨3, ![1, 128, 1024]⟩
abbrev S128x1024 : Shape := ⟨2, ![128, 1024]⟩
abbrev S272x128 : Shape := ⟨2, ![272, 128]⟩
abbrev S272x512 : Shape := ⟨2, ![272, 512]⟩
abbrev S1x272x1024 : Shape := ⟨3, ![1, 272, 1024]⟩
abbrev S1024 : Shape := ⟨1, ![1024]⟩
abbrev S1x1024 : Shape := ⟨2, ![1, 1024]⟩
abbrev S1x1x1024 : Shape := ⟨3, ![1, 1, 1024]⟩
abbrev S128x256 : Shape := ⟨2, ![128, 256]⟩
abbrev S256x128 : Shape := ⟨2, ![256, 128]⟩
abbrev S1x256x512 : Shape := ⟨3, ![1, 256, 512]⟩
abbrev S512 : Shape := ⟨1, ![512]⟩
abbrev S1x1x512 : Shape := ⟨3, ![1, 1, 512]⟩
abbrev S1x128x256 : Shape := ⟨3, ![1, 128, 256]⟩
abbrev S144x256 : Shape := ⟨2, ![144, 256]⟩
abbrev S144x1024 : Shape := ⟨2, ![144, 1024]⟩
abbrev S144x16 : Shape := ⟨2, ![144, 16]⟩
abbrev S1x144x1024 : Shape := ⟨3, ![1, 144, 1024]⟩
abbrev S1x256 : Shape := ⟨2, ![1, 256]⟩
abbrev S144x512 : Shape := ⟨2, ![144, 512]⟩
abbrev S1x1x256 : Shape := ⟨3, ![1, 1, 256]⟩
abbrev S1x144x256 : Shape := ⟨3, ![1, 144, 256]⟩
abbrev S512x128 : Shape := ⟨2, ![512, 128]⟩
abbrev S1x512x128 : Shape := ⟨3, ![1, 512, 128]⟩
abbrev S1x512x256 : Shape := ⟨3, ![1, 512, 256]⟩
abbrev S512x256 : Shape := ⟨2, ![512, 256]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 8
  | .vmem => 27
  | .smem => 0
  | _ => 0

abbrev bufTy : (tb : Table) → Fin (tcTables nBuf tb) → BufTy
  | .hbm, ⟨0, _⟩ => ⟨S8x512x4096, .bf16⟩
  | .hbm, ⟨1, _⟩ => ⟨S8x4096x1024, .bf16⟩
  | .hbm, ⟨2, _⟩ => ⟨S8x512x4096, .bf16⟩
  | .hbm, ⟨3, _⟩ => ⟨S16x1024, .bf16⟩
  | .hbm, ⟨4, _⟩ => ⟨S512x16, .bf16⟩
  | .hbm, ⟨5, _⟩ => ⟨S8x4096x512, .bf16⟩
  | .hbm, ⟨6, _⟩ => ⟨S1x512, .f32⟩
  | .hbm, ⟨7, _⟩ => ⟨S8x4096x512, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S16x256, .bf16⟩
  | .local _ .vmem, ⟨7, _⟩ => ⟨S16x256, .bf16⟩
  | .local _ .vmem, ⟨8, _⟩ => ⟨S128x16, .bf16⟩
  | .local _ .vmem, ⟨9, _⟩ => ⟨S128x16, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x128, .f32⟩
  | .local _ .vmem, ⟨13, _⟩ => ⟨S1x128, .f32⟩
  | .local _ .vmem, ⟨14, _⟩ => ⟨S1x4096x128, .bf16⟩
  | .local _ .vmem, ⟨15, _⟩ => ⟨S1x4096x128, .bf16⟩
  | .local _ .vmem, ⟨16, _⟩ => ⟨S8x128x1024, .bf16⟩
  | .local _ .vmem, ⟨17, _⟩ => ⟨S2x272x1024, .f32⟩
  | .local _ .vmem, ⟨18, _⟩ => ⟨S2x256x512, .f32⟩
  | .local _ .vmem, ⟨19, _⟩ => ⟨S2x512x1024, .f32⟩
  | .local _ .vmem, ⟨20, _⟩ => ⟨S2x1x1024, .f32⟩
  | .local _ .vmem, ⟨21, _⟩ => ⟨S2x1x512, .f32⟩
  | .local _ .vmem, ⟨22, _⟩ => ⟨S2x1x1024, .f32⟩
  | .local _ .vmem, ⟨23, _⟩ => ⟨S272x1024, .f32⟩
  | .local _ .vmem, ⟨24, _⟩ => ⟨S256x512, .f32⟩
  | .local _ .vmem, ⟨25, _⟩ => ⟨S8x1x1024, .f32⟩
  | .local _ .vmem, ⟨26, _⟩ => ⟨S8x144x1024, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_3 : BitVec 32 := 0#32
  let c8_i32 : BitVec 32 := 8#32
  let v7 : BitVec 32 := Scalar.addi c0_i32_3 c8_i32
  let c1_i32 : BitVec 32 := 1#32
  ⟨c0_i32_3, v7, c1_i32⟩
def k0_mult1 (k0_t1 : Fin k0_t1_loop.trips) : BitVec 32 :=
  let c0_i32_3 : BitVec 32 := 0#32
  let c1_i32 : BitVec 32 := 1#32
  let arg21 : BitVec 32 := Scf.iv c0_i32_3 c1_i32 k0_t1
  let c512_i32 : BitVec 32 := 512#32
  let v548 : BitVec 32 := Scalar.muli arg21 c512_i32
  v548
def k0_off1 (k0_t1 : Fin k0_t1_loop.trips) : Fin 3 → Nat :=
  let c0_372 : Index := 0#32
  let c0_373 : Index := 0#32
  let c0_i32_3 : BitVec 32 := 0#32
  let c1_i32 : BitVec 32 := 1#32
  let arg21 : BitVec 32 := Scf.iv c0_i32_3 c1_i32 k0_t1
  let c512_i32 : BitVec 32 := 512#32
  let v548 : BitVec 32 := Scalar.muli arg21 c512_i32
  let v549 : BitVec 32 := v548
  let v550 : Index := Scalar.indexCast v549
  ![0, 0, v550.toNat]
def k0_off2 (k0_t1 : Fin k0_t1_loop.trips) : Fin 3 → Nat :=
  let c0_i32_3 : BitVec 32 := 0#32
  let c1_i32 : BitVec 32 := 1#32
  let arg21 : BitVec 32 := Scf.iv c0_i32_3 c1_i32 k0_t1
  let v554 : Index := Scalar.indexCast arg21
  let c0_374 : Index := 0#32
  let c0_375 : Index := 0#32
  ![v554.toNat, 0, 0]
def k0_off3 (k0_t1 : Fin k0_t1_loop.trips) : Fin 3 → Nat :=
  let c0_i32_3 : BitVec 32 := 0#32
  let c1_i32 : BitVec 32 := 1#32
  let arg21 : BitVec 32 := Scf.iv c0_i32_3 c1_i32 k0_t1
  let v559 : Index := Scalar.indexCast arg21
  let c0_376 : Index := 0#32
  let c512_377 : Index := 512#32
  ![v559.toNat, 0, 512]
def k0_off4 (k0_t1 : Fin k0_t1_loop.trips) : Fin 3 → Nat :=
  let c0_i32_3 : BitVec 32 := 0#32
  let c1_i32 : BitVec 32 := 1#32
  let arg21 : BitVec 32 := Scf.iv c0_i32_3 c1_i32 k0_t1
  let v592 : Index := Scalar.indexCast arg21
  let c64_386 : Index := 64#32
  let c0_387 : Index := 0#32
  ![v592.toNat, 64, 0]
def k0_off5 (k0_t1 : Fin k0_t1_loop.trips) : Fin 3 → Nat :=
  let c0_i32_3 : BitVec 32 := 0#32
  let c1_i32 : BitVec 32 := 1#32
  let arg21 : BitVec 32 := Scf.iv c0_i32_3 c1_i32 k0_t1
  let v626 : Index := Scalar.indexCast arg21
  let c64_399 : Index := 64#32
  let c512_400 : Index := 512#32
  ![v626.toNat, 64, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x512x4096 : Shape := ⟨3, ![8, 512, 4096]⟩
abbrev S8x4096x1024 : Shape := ⟨3, ![8, 4096, 1024]⟩
abbrev S16x1024 : Shape := ⟨2, ![16, 1024]⟩
abbrev S512x16 : Shape := ⟨2, ![512, 16]⟩
abbrev S8x4096x512 : Shape := ⟨3, ![8, 4096, 512]⟩
abbrev S1x512 : Shape := ⟨2, ![1, 512]⟩
abbrev S8x8x64x4096 : Shape := ⟨4, ![8, 8, 64, 4096]⟩
abbrev S8x4096x8x64 : Shape := ⟨4, ![8, 4096, 8, 64]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S8x4112x8x128 : Shape := ⟨4, ![8, 4112, 8, 128]⟩
abbrev S16x512 : Shape := ⟨2, ![16, 512]⟩
abbrev S1x16x512 : Shape := ⟨3, ![1, 16, 512]⟩
abbrev S8x16x512 : Shape := ⟨3, ![8, 16, 512]⟩
abbrev S8x4112x512 : Shape := ⟨3, ![8, 4112, 512]⟩
abbrev S8x4112x8x64 : Shape := ⟨4, ![8, 4112, 8, 64]⟩
abbrev S8x64 : Shape := ⟨2, ![8, 64]⟩
abbrev S_ : Shape := ⟨0, ![]⟩
abbrev S8x4112x8 : Shape := ⟨3, ![8, 4112, 8]⟩
abbrev S8x8x4096x4112 : Shape := ⟨4, ![8, 8, 4096, 4112]⟩
abbrev S8x8x4112 : Shape := ⟨3, ![8, 8, 4112]⟩
abbrev S8x8x1x4112 : Shape := ⟨4, ![8, 8, 1, 4112]⟩
abbrev S4096x4112 : Shape := ⟨2, ![4096, 4112]⟩
abbrev S8x8x4096 : Shape := ⟨3, ![8, 8, 4096]⟩
abbrev S8x8x4096x1 : Shape := ⟨4, ![8, 8, 4096, 1]⟩
abbrev S8x4096x8 : Shape := ⟨3, ![8, 4096, 8]⟩
abbrev S8x4096x8x1 : Shape := ⟨4, ![8, 4096, 8, 1]⟩
abbrev S1x1x512 : Shape := ⟨3, ![1, 1, 512]⟩

abbrev nBuf : Space → Nat
  | .hbm => 111
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x4096x1024, .bf16⟩
  | .hbm, ⟨2, _⟩ => ⟨S8x512x4096, .bf16⟩
  | .hbm, ⟨3, _⟩ => ⟨S16x1024, .bf16⟩
  | .hbm, ⟨4, _⟩ => ⟨S512x16, .bf16⟩
  | .hbm, ⟨5, _⟩ => ⟨S8x4096x512, .bf16⟩
  | .hbm, ⟨6, _⟩ => ⟨S1x512, .f32⟩
  | .hbm, ⟨7, _⟩ => ⟨S8x512x4096, .f32⟩
  | .hbm, ⟨8, _⟩ => ⟨S8x8x64x4096, .f32⟩
  | .hbm, ⟨9, _⟩ => ⟨S8x4096x8x64, .f32⟩
  | .hbm, ⟨10, _⟩ => ⟨S16x1024, .f32⟩
  | .hbm, ⟨11, _⟩ => ⟨S1x16x1024, .f32⟩
  | .hbm, ⟨12, _⟩ => ⟨S8x16x1024, .f32⟩
  | .hbm, ⟨13, _⟩ => ⟨S8x4096x1024, .f32⟩
  | .hbm, ⟨14, _⟩ => ⟨S8x4112x1024, .f32⟩
  | .hbm, ⟨15, _⟩ => ⟨S8x4112x8x128, .f32⟩
  | .hbm, ⟨16, _⟩ => ⟨S512x16, .f32⟩
  | .hbm, ⟨17, _⟩ => ⟨S16x512, .f32⟩
  | .hbm, ⟨18, _⟩ => ⟨S1x16x512, .f32⟩
  | .hbm, ⟨19, _⟩ => ⟨S8x16x512, .f32⟩
  | .hbm, ⟨20, _⟩ => ⟨S8x512x4096, .f32⟩
  | .hbm, ⟨21, _⟩ => ⟨S8x4096x512, .f32⟩
  | .hbm, ⟨22, _⟩ => ⟨S8x4112x512, .f32⟩
  | .hbm, ⟨23, _⟩ => ⟨S8x4112x8x64, .f32⟩
  | .hbm, ⟨24, _⟩ => ⟨S8x4112x8x64, .f32⟩
  | .hbm, ⟨25, _⟩ => ⟨S8x64, .i32⟩
  | .hbm, ⟨26, _⟩ => ⟨S8x64, .i32⟩
  | .hbm, ⟨27, _⟩ => ⟨S8x64, .i1⟩
  | .hbm, ⟨28, _⟩ => ⟨S_, .i32⟩
  | .hbm, ⟨29, _⟩ => ⟨S8x64, .i32⟩
  | .hbm, ⟨30, _⟩ => ⟨S8x64, .i32⟩
  | .hbm, ⟨31, _⟩ => ⟨S8x64, .i1⟩
  | .hbm, ⟨32, _⟩ => ⟨S8x64, .i1⟩
  | .hbm, ⟨33, _⟩ => ⟨S_, .i32⟩
  | .hbm, ⟨34, _⟩ => ⟨S8x64, .i32⟩
  | .hbm, ⟨35, _⟩ => ⟨S8x64, .i32⟩
  | .hbm, ⟨36, _⟩ => ⟨S8x64, .i1⟩
  | .hbm, ⟨37, _⟩ => ⟨S8x64, .i1⟩
  | .hbm, ⟨38, _⟩ => ⟨S8x4112x8x64, .f32⟩
  | .hbm, ⟨39, _⟩ => ⟨S_, .f32⟩
  | .hbm, ⟨40, _⟩ => ⟨S_, .f32⟩
  | .hbm, ⟨41, _⟩ => ⟨S8x4112x8x64, .i1⟩
  | .hbm, ⟨42, _⟩ => ⟨S8x4112x8x64, .f32⟩
  | .hbm, ⟨43, _⟩ => ⟨S8x4112x8x64, .f32⟩
  | .hbm, ⟨44, _⟩ => ⟨S_, .f32⟩
  | .hbm, ⟨45, _⟩ => ⟨S8x4112x8, .f32⟩
  | .hbm, ⟨46, _⟩ => ⟨S8x8x4096x4112, .f32⟩
  | .hbm, ⟨47, _⟩ => ⟨S8x8x4112, .f32⟩
  | .hbm, ⟨48, _⟩ => ⟨S8x8x1x4112, .f32⟩
  | .hbm, ⟨49, _⟩ => ⟨S8x8x4096x4112, .f32⟩
  | .hbm, ⟨50, _⟩ => ⟨S8x8x4096x4112, .f32⟩
  | .hbm, ⟨51, _⟩ => ⟨S4096x4112, .i32⟩
  | .hbm, ⟨52, _⟩ => ⟨S_, .i32⟩
  | .hbm, ⟨53, _⟩ => ⟨S4096x4112, .i32⟩
  | .hbm, ⟨54, _⟩ => ⟨S4096x4112, .i32⟩
  | .hbm, ⟨55, _⟩ => ⟨S4096x4112, .i32⟩
  | .hbm, ⟨56, _⟩ => ⟨S4096x4112, .i1⟩
  | .hbm, ⟨57, _⟩ => ⟨S_, .f32⟩
  | .hbm, ⟨58, _⟩ => ⟨S_, .f32⟩
  | .hbm, ⟨59, _⟩ => ⟨S8x8x4096x4112, .i1⟩
  | .hbm, ⟨60, _⟩ => ⟨S8x8x4096x4112, .f32⟩
  | .hbm, ⟨61, _⟩ => ⟨S8x8x4096x4112, .f32⟩
  | .hbm, ⟨62, _⟩ => ⟨S_, .f32⟩
  | .hbm, ⟨63, _⟩ => ⟨S_, .f32⟩
  | .hbm, ⟨64, _⟩ => ⟨S8x8x4096x4112, .f32⟩
  | .hbm, ⟨65, _⟩ => ⟨S8x8x4096x4112, .f32⟩
  | .hbm, ⟨66, _⟩ => ⟨S_, .f32⟩
  | .hbm, ⟨67, _⟩ => ⟨S8x8x4096, .f32⟩
  | .hbm, ⟨68, _⟩ => ⟨S_, .f32⟩
  | .hbm, ⟨69, _⟩ => ⟨S8x8x4096, .f32⟩
  | .hbm, ⟨70, _⟩ => ⟨S8x8x4096, .f32⟩
  | .hbm, ⟨71, _⟩ => ⟨S8x8x4096x1, .f32⟩
  | .hbm, ⟨72, _⟩ => ⟨S8x8x4096x4112, .f32⟩
  | .hbm, ⟨73, _⟩ => ⟨S8x8x4096x4112, .f32⟩
  | .hbm, ⟨74, _⟩ => ⟨S8x8x4096x4112, .f32⟩
  | .hbm, ⟨75, _⟩ => ⟨S_, .f32⟩
  | .hbm, ⟨76, _⟩ => ⟨S8x8x4096, .f32⟩
  | .hbm, ⟨77, _⟩ => ⟨S8x8x4096x1, .f32⟩
  | .hbm, ⟨78, _⟩ => ⟨S8x8x4096x4112, .f32⟩
  | .hbm, ⟨79, _⟩ => ⟨S8x8x4096x4112, .f32⟩
  | .hbm, ⟨80, _⟩ => ⟨S8x8x64x4096, .f32⟩
  | .hbm, ⟨81, _⟩ => ⟨S8x4096x8x64, .f32⟩
  | .hbm, ⟨82, _⟩ => ⟨S8x4096x8x64, .f32⟩
  | .hbm, ⟨83, _⟩ => ⟨S_, .f32⟩
  | .hbm, ⟨84, _⟩ => ⟨S8x4096x8, .f32⟩
  | .hbm, ⟨85, _⟩ => ⟨S8x4096x8x1, .f32⟩
  | .hbm, ⟨86, _⟩ => ⟨S_, .f32⟩
  | .hbm, ⟨87, _⟩ => ⟨S8x4096x8x1, .f32⟩
  | .hbm, ⟨88, _⟩ => ⟨S8x4096x8x1, .f32⟩
  | .hbm, ⟨89, _⟩ => ⟨S_, .f32⟩
  | .hbm, ⟨90, _⟩ => ⟨S8x4096x8x1, .f32⟩
  | .hbm, ⟨91, _⟩ => ⟨S8x4096x8x1, .f32⟩
  | .hbm, ⟨92, _⟩ => ⟨S8x4096x8x1, .f32⟩
  | .hbm, ⟨93, _⟩ => ⟨S8x4096x8x64, .f32⟩
  | .hbm, ⟨94, _⟩ => ⟨S8x4096x8x64, .f32⟩
  | .hbm, ⟨95, _⟩ => ⟨S8x4096x512, .f32⟩
  | .hbm, ⟨96, _⟩ => ⟨S1x1x512, .f32⟩
  | .hbm, ⟨97, _⟩ => ⟨S8x4096x512, .f32⟩
  | .hbm, ⟨98, _⟩ => ⟨S8x4096x512, .f32⟩
  | .hbm, ⟨99, _⟩ => ⟨S8x4096x512, .f32⟩
  | .hbm, ⟨100, _⟩ => ⟨S8x4096x512, .f32⟩
  | .hbm, ⟨101, _⟩ => ⟨S8x4096x512, .f32⟩
  | .hbm, ⟨102, _⟩ => ⟨S_, .f32⟩
  | .hbm, ⟨103, _⟩ => ⟨S8x4096x512, .f32⟩
  | .hbm, ⟨104, _⟩ => ⟨S8x4096x512, .f32⟩
  | .hbm, ⟨105, _⟩ => ⟨S_, .f32⟩
  | .hbm, ⟨106, _⟩ => ⟨S8x4096x512, .f32⟩
  | .hbm, ⟨107, _⟩ => ⟨S8x4096x512, .f32⟩
  | .hbm, ⟨108, _⟩ => ⟨S8x4096x512, .f32⟩
  | .hbm, ⟨109, _⟩ => ⟨S8x4096x512, .f32⟩
  | .hbm, ⟨110, _⟩ => ⟨S8x4096x512, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1x1024x512 : Shape := ⟨3, ![1, 1024, 512]⟩
abbrev S3x1024x1024 : Shape := ⟨3, ![3, 1024, 1024]⟩
abbrev S3 : Shape := ⟨1, ![3]⟩
abbrev S1 : Shape := ⟨1, ![1]⟩
abbrev S_ : Shape := ⟨0, ![]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S3x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_49 : BitVec 32 := 0#32
  c0_i32_49
def k0_mult2 : BitVec 32 :=
  let c1024_i32_56 : BitVec 32 := 1024#32
  c1024_i32_56
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_49 : BitVec 32 := 3#32
  let v97 : BitVec 32 := Scalar.addi v1 c3_i32_49
  let c1_i32_50 : BitVec 32 := 1#32
  let v98 : BitVec 32 := Scalar.subi v97 c1_i32_50
  let c4_i32_57 : BitVec 32 := 4#32
  let c0_i32_58 : BitVec 32 := 0#32
  let v109 : BitVec 1 := Scalar.cmpi .eq c4_i32_57 c0_i32_58
  let c1_i32_59 : BitVec 32 := 1#32
  let v110 : BitVec 32 := Scalar.select v109 c1_i32_59 c4_i32_57
  let v111 : BitVec 32 := Scalar.remsi v98 v110
  let c0_i32_61 : BitVec 32 := 0#32
  let v113 : BitVec 1 := Scalar.cmpi .slt v111 c0_i32_61
  let c0_i32_62 : BitVec 32 := 0#32
  let v114 : BitVec 1 := Scalar.cmpi .slt v110 c0_i32_62
  let v115 : BitVec 1 := Scalar.xori v113 v114
  let c0_i32_60 : BitVec 32 := 0#32
  let v112 : BitVec 1 := Scalar.cmpi .ne v111 c0_i32_60
  let v116 : BitVec 1 := Scalar.andi v115 v112
  let v117 : BitVec 32 := Scalar.addi v111 v110
  let v118 : BitVec 32 := Scalar.select v116 v117 v111
  let c1024_i32_63 : BitVec 32 := 1024#32
  let v119 : BitVec 32 := Scalar.muli v118 c1024_i32_63
  v119
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_49 : BitVec 32 := 3#32
  let v97 : BitVec 32 := Scalar.addi v1 c3_i32_49
  let c1_i32_50 : BitVec 32 := 1#32
  let v98 : BitVec 32 := Scalar.subi v97 c1_i32_50
  let c3_i32_51 : BitVec 32 := 3#32
  let c0_i32_52 : BitVec 32 := 0#32
  let v99 : BitVec 1 := Scalar.cmpi .eq c3_i32_51 c0_i32_52
  let c1_i32_53 : BitVec 32 := 1#32
  let v100 : BitVec 32 := Scalar.select v99 c1_i32_53 c3_i32_51
  let v101 : BitVec 32 := Scalar.remsi v98 v100
  let c0_i32_55 : BitVec 32 := 0#32
  let v103 : BitVec 1 := Scalar.cmpi .slt v101 c0_i32_55
  let c0_i32_56 : BitVec 32 := 0#32
  let v104 : BitVec 1 := Scalar.cmpi .slt v100 c0_i32_56
  let v105 : BitVec 1 := Scalar.xori v103 v104
  let c0_i32_54 : BitVec 32 := 0#32
  let v102 : BitVec 1 := Scalar.cmpi .ne v101 c0_i32_54
  let v106 : BitVec 1 := Scalar.andi v105 v102
  let v107 : BitVec 32 := Scalar.addi v101 v100
  let v108 : BitVec 32 := Scalar.select v106 v107 v101
  ![v108.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_49 : BitVec 32 := 3#32
  let v97 : BitVec 32 := Scalar.addi v1 c3_i32_49
  let c1_i32_50 : BitVec 32 := 1#32
  let v98 : BitVec 32 := Scalar.subi v97 c1_i32_50
  let c3_i32_51 : BitVec 32 := 3#32
  let c0_i32_52 : BitVec 32 := 0#32
  let v99 : BitVec 1 := Scalar.cmpi .eq c3_i32_51 c0_i32_52
  let c1_i32_53 : BitVec 32 := 1#32
  let v100 : BitVec 32 := Scalar.select v99 c1_i32_53 c3_i32_51
  let v101 : BitVec 32 := Scalar.remsi v98 v100
  let c0_i32_55 : BitVec 32 := 0#32
  let v103 : BitVec 1 := Scalar.cmpi .slt v101 c0_i32_55
  let c0_i32_56 : BitVec 32 := 0#32
  let v104 : BitVec 1 := Scalar.cmpi .slt v100 c0_i32_56
  let v105 : BitVec 1 := Scalar.xori v103 v104
  let c0_i32_54 : BitVec 32 := 0#32
  let v102 : BitVec 1 := Scalar.cmpi .ne v101 c0_i32_54
  let v106 : BitVec 1 := Scalar.andi v105 v102
  let v107 : BitVec 32 := Scalar.addi v101 v100
  let v108 : BitVec 32 := Scalar.select v106 v107 v101
  let c0_i32_71 : BitVec 32 := 0#32
  let c0_i32_72 : BitVec 32 := 0#32
  ![v108.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_49 : BitVec 32 := 3#32
  let v97 : BitVec 32 := Scalar.addi v1 c3_i32_49
  let c1_i32_50 : BitVec 32 := 1#32
  let v98 : BitVec 32 := Scalar.subi v97 c1_i32_50
  let c0_i32_65 : BitVec 32 := 0#32
  let v122 : BitVec 1 := Scalar.cmpi .sgt v98 c0_i32_65
  let v123 : BitVec 32 := Scalar.extui v122
  let c0_i32_66 : BitVec 32 := 0#32
  let v124 : BitVec 1 := Scalar.cmpi .slt v98 c0_i32_66
  let v125 : BitVec 32 := Scalar.extui v124
  let v126 : BitVec 32 := Scalar.subi v123 v125
  let c4_i32_64 : BitVec 32 := 4#32
  let c0_i32_67 : BitVec 32 := 0#32
  let v127 : BitVec 1 := Scalar.cmpi .sgt c4_i32_64 c0_i32_67
  let v128 : BitVec 32 := Scalar.extui v127
  let c0_i32_68 : BitVec 32 := 0#32
  let v129 : BitVec 1 := Scalar.cmpi .slt c4_i32_64 c0_i32_68
  let v130 : BitVec 32 := Scalar.extui v129
  let v131 : BitVec 32 := Scalar.subi v128 v130
  let v132 : BitVec 1 := Scalar.cmpi .ne v126 v131
  let v133 : BitVec 32 := Scalar.remsi v98 c4_i32_64
  let c0_i32_69 : BitVec 32 := 0#32
  let v134 : BitVec 1 := Scalar.cmpi .ne v133 c0_i32_69
  let v135 : BitVec 1 := Scalar.andi v132 v134
  let v121 : BitVec 32 := Scalar.divsi v98 c4_i32_64
  let c1_i32_70 : BitVec 32 := 1#32
  let v136 : BitVec 32 := Scalar.subi v121 c1_i32_70
  let v137 : BitVec 32 := Scalar.select v135 v136 v121
  let c4_i32_57 : BitVec 32 := 4#32
  let c0_i32_58 : BitVec 32 := 0#32
  let v109 : BitVec 1 := Scalar.cmpi .eq c4_i32_57 c0_i32_58
  let c1_i32_59 : BitVec 32 := 1#32
  let v110 : BitVec 32 := Scalar.select v109 c1_i32_59 c4_i32_57
  let v111 : BitVec 32 := Scalar.remsi v98 v110
  let c0_i32_61 : BitVec 32 := 0#32
  let v113 : BitVec 1 := Scalar.cmpi .slt v111 c0_i32_61
  let c0_i32_62 : BitVec 32 := 0#32
  let v114 : BitVec 1 := Scalar.cmpi .slt v110 c0_i32_62
  let v115 : BitVec 1 := Scalar.xori v113 v114
  let c0_i32_60 : BitVec 32 := 0#32
  let v112 : BitVec 1 := Scalar.cmpi .ne v111 c0_i32_60
  let v116 : BitVec 1 := Scalar.andi v115 v112
  let v117 : BitVec 32 := Scalar.addi v111 v110
  let v118 : BitVec 32 := Scalar.select v116 v117 v111
  let c1024_i32_63 : BitVec 32 := 1024#32
  let v119 : BitVec 32 := Scalar.muli v118 c1024_i32_63
  let v120 : BitVec 32 := v119
  let c0_i32_73 : BitVec 32 := 0#32
  ![v137.toNat, v120.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1024_i32 : BitVec 32 := 1024#32
  let v30 : BitVec 32 := Scalar.muli v29 c1024_i32
  v30
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_21 : BitVec 32 := 0#32
  let c0_i32_22 : BitVec 32 := 0#32
  ![v19.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_15 : BitVec 32 := 0#32
  let v33 : BitVec 1 := Scalar.cmpi .sgt v1 c0_i32_15
  let v34 : BitVec 32 := Scalar.extui v33
  let c0_i32_16 : BitVec 32 := 0#32
  let v35 : BitVec 1 := Scalar.cmpi .slt v1 c0_i32_16
  let v36 : BitVec 32 := Scalar.extui v35
  let v37 : BitVec 32 := Scalar.subi v34 v36
  let c4_i32_14 : BitVec 32 := 4#32
  let c0_i32_17 : BitVec 32 := 0#32
  let v38 : BitVec 1 := Scalar.cmpi .sgt c4_i32_14 c0_i32_17
  let v39 : BitVec 32 := Scalar.extui v38
  let c0_i32_18 : BitVec 32 := 0#32
  let v40 : BitVec 1 := Scalar.cmpi .slt c4_i32_14 c0_i32_18
  let v41 : BitVec 32 := Scalar.extui v40
  let v42 : BitVec 32 := Scalar.subi v39 v41
  let v43 : BitVec 1 := Scalar.cmpi .ne v37 v42
  let v44 : BitVec 32 := Scalar.remsi v1 c4_i32_14
  let c0_i32_19 : BitVec 32 := 0#32
  let v45 : BitVec 1 := Scalar.cmpi .ne v44 c0_i32_19
  let v46 : BitVec 1 := Scalar.andi v43 v45
  let v32 : BitVec 32 := Scalar.divsi v1 c4_i32_14
  let c1_i32_20 : BitVec 32 := 1#32
  let v47 : BitVec 32 := Scalar.subi v32 c1_i32_20
  let v48 : BitVec 32 := Scalar.select v46 v47 v32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1024_i32 : BitVec 32 := 1024#32
  let v30 : BitVec 32 := Scalar.muli v29 c1024_i32
  let v31 : BitVec 32 := v30
  let c0_i32_23 : BitVec 32 := 0#32
  ![v48.toNat, v31.toNat, 0]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_24 : BitVec 32 := 3#32
  let c0_i32_25 : BitVec 32 := 0#32
  let v55 : BitVec 1 := Scalar.cmpi .eq c3_i32_24 c0_i32_25
  let c1_i32_26 : BitVec 32 := 1#32
  let v56 : BitVec 32 := Scalar.select v55 c1_i32_26 c3_i32_24
  let v57 : BitVec 32 := Scalar.remsi v1 v56
  let c0_i32_28 : BitVec 32 := 0#32
  let v59 : BitVec 1 := Scalar.cmpi .slt v57 c0_i32_28
  let c0_i32_29 : BitVec 32 := 0#32
  let v60 : BitVec 1 := Scalar.cmpi .slt v56 c0_i32_29
  let v61 : BitVec 1 := Scalar.xori v59 v60
  let c0_i32_27 : BitVec 32 := 0#32
  let v58 : BitVec 1 := Scalar.cmpi .ne v57 c0_i32_27
  let v62 : BitVec 1 := Scalar.andi v61 v58
  let v63 : BitVec 32 := Scalar.addi v57 v56
  let v64 : BitVec 32 := Scalar.select v62 v63 v57
  let v65 : Index := Scalar.indexCast v64
  let c0 : Index := 0#32
  let c0_30 : Index := 0#32
  ![v65.toNat, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S1024, .f32⟩
  | .hbm, ⟨5, _⟩ => ⟨S8x4096x512, .f32⟩
  | .hbm, ⟨6, _⟩ => ⟨S8x4096x512, .f32⟩
  | .hbm, ⟨7, _⟩ => ⟨S8x4096x1024, .f32⟩
  | .hbm, ⟨8, _⟩ => ⟨S1024x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S4112x1024 : Shape := ⟨2, ![4112, 1024]⟩
abbrev S8x1 : Shape := ⟨2, ![8, 1]⟩
abbrev S3x512 : Shape := ⟨2, ![3, 512]⟩
abbrev S1x512 : Shape := ⟨2, ![1, 512]⟩
abbrev S8x512 : Shape := ⟨2, ![8, 512]⟩
abbrev S8x512x4096 : Shape := ⟨3, ![8, 512, 4096]⟩
abbrev S8x4096x512 : Shape := ⟨3, ![8, 4096, 512]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S8x128 : Shape := ⟨2, ![8, 128]⟩
abbrev S2x1040x512 : Shape := ⟨3, ![2, 1040, 512]⟩
abbrev S1x1x512 : Shape := ⟨3, ![1, 1, 512]⟩
abbrev S2x512 : Shape := ⟨2, ![2, 512]⟩
abbrev S1x2x512 : Shape := ⟨3, ![1, 2, 512]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S1024x512 : Shape := ⟨2, ![1024, 512]⟩
abbrev S1x128 : Shape := ⟨2, ![1, 128]⟩
abbrev S1024x128 : Shape := ⟨2, ![1024, 128]⟩
abbrev S1040x1024 : Shape := ⟨2, ![1040, 1024]⟩
abbrev S8x1024 : Shape := ⟨2, ![8, 1024]⟩
abbrev S32x1024 : Shape := ⟨2, ![32, 1024]⟩
abbrev S64x1024 : Shape := ⟨2, ![64, 1024]⟩
abbrev S40x1024 : Shape := ⟨2, ![40, 1024]⟩
abbrev S128x1024 : Shape := ⟨2, ![128, 1024]⟩
abbrev S1x1024x128 : Shape := ⟨3, ![1, 1024, 128]⟩

abbrev nBuf : Space → Nat
  | .hbm => 13
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S4112x1024, .bf16⟩
  | .hbm, ⟨3, _⟩ => ⟨S8x1, .f32⟩
  | .hbm, ⟨4, _⟩ => ⟨S3x512, .f32⟩
  | .hbm, ⟨5, _⟩ => ⟨S1x512, .f32⟩
  | .hbm, ⟨6, _⟩ => ⟨S8x512, .f32⟩
  | .hbm, ⟨7, _⟩ => ⟨S8x1, .f32⟩
  | .hbm, ⟨8, _⟩ => ⟨S8x512x4096, .bf16⟩
  | .hbm, ⟨9, _⟩ => ⟨S8x4096x1024, .bf16⟩
  | .hbm, ⟨10, _⟩ => ⟨S8x512x4096, .bf16⟩
  | .hbm, ⟨11, _⟩ => ⟨S8x4096x512, .bf16⟩
  | .hbm, ⟨12, _⟩ => ⟨S8x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S4112x1024, .bf16⟩
  | .local _ .vmem, ⟨4, _⟩ => ⟨S8x1, .f32⟩
  | .local _ .vmem, ⟨5, _⟩ => ⟨S3x512, .f32⟩
  | .local _ .vmem, ⟨6, _⟩ => ⟨S1x512, .f32⟩
  | .local _ .vmem, ⟨7, _⟩ => ⟨S8x512, .f32⟩
  | .local _ .vmem, ⟨8, _⟩ => ⟨S8x1, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S8x128, .f32⟩
  | .local _ .vmem, ⟨20, _⟩ => ⟨S2x1040x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S1x1024 : Shape := ⟨2, ![1, 1024]⟩
abbrev S4112x1024 : Shape := ⟨2, ![4112, 1024]⟩
abbrev S8x1 : Shape := ⟨2, ![8, 1]⟩
abbrev S3x512 : Shape := ⟨2, ![3, 512]⟩
abbrev S1x512 : Shape := ⟨2, ![1, 512]⟩
abbrev S8x512 : Shape := ⟨2, ![8, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S512x1024 : Shape := ⟨2, ![512, 1024]⟩
abbrev S8x4096x512 : Shape := ⟨3, ![8, 4096, 512]⟩
abbrev S2x512 : Shape := ⟨2, ![2, 512]⟩
abbrev S1x2x512 : Shape := ⟨3, ![1, 2, 512]⟩
abbrev S8x2x512 : Shape := ⟨3, ![8, 2, 512]⟩
abbrev S8x4098x512 : Shape := ⟨3, ![8, 4098, 512]⟩
abbrev S512 : Shape := ⟨1, ![512]⟩
abbrev S1x1x512 : Shape := ⟨3, ![1, 1, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S8x512x4096 : Shape := ⟨3, ![8, 512, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S4112x1024, .bf16⟩
  | .hbm, ⟨3, _⟩ => ⟨S8x1, .f32⟩
  | .hbm, ⟨4, _⟩ => ⟨S3x512, .f32⟩
  | .hbm, ⟨5, _⟩ => ⟨S1x512, .f32⟩
  | .hbm, ⟨6, _⟩ => ⟨S8x512, .f32⟩
  | .hbm, ⟨7, _⟩ => ⟨S8x1, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S4112x1024, .f32⟩
  | .hbm, ⟨25, _⟩ => ⟨S512x1024, .f32⟩
  | .hbm, ⟨26, _⟩ => ⟨S8x4096x512, .f32⟩
  | .hbm, ⟨27, _⟩ => ⟨S512x1024, .f32⟩
  | .hbm, ⟨28, _⟩ => ⟨S8x4096x512, .f32⟩
  | .hbm, ⟨29, _⟩ => ⟨S512x1024, .f32⟩
  | .hbm, ⟨30, _⟩ => ⟨S8x4096x512, .f32⟩
  | .hbm, ⟨31, _⟩ => ⟨S512x1024, .f32⟩
  | .hbm, ⟨32, _⟩ => ⟨S8x4096x512, .f32⟩
  | .hbm, ⟨33, _⟩ => ⟨S512x1024, .f32⟩
  | .hbm, ⟨34, _⟩ => ⟨S8x4096x512, .f32⟩
  | .hbm, ⟨35, _⟩ => ⟨S512x1024, .f32⟩
  | .hbm, ⟨36, _⟩ => ⟨S8x4096x512, .f32⟩
  | .hbm, ⟨37, _⟩ => ⟨S512x1024, .f32⟩
  | .hbm, ⟨38, _⟩ => ⟨S8x4096x512, .f32⟩
  | .hbm, ⟨39, _⟩ => ⟨S2x512, .f32⟩
  | .hbm, ⟨40, _⟩ => ⟨S1x2x512, .f32⟩
  | .hbm, ⟨41, _⟩ => ⟨S8x2x512, .f32⟩
  | .hbm, ⟨42, _⟩ => ⟨S8x4096x512, .f32⟩
  | .hbm, ⟨43, _⟩ => ⟨S8x4098x512, .f32⟩
  | .hbm, ⟨44, _⟩ => ⟨S1x512, .f32⟩
  | .hbm, ⟨45, _⟩ => ⟨S512, .f32⟩
  | .hbm, ⟨46, _⟩ => ⟨S8x4096x512, .f32⟩
  | .hbm, ⟨47, _⟩ => ⟨S1x1x512, .f32⟩
  | .hbm, ⟨48, _⟩ => ⟨S8x4096x512, .f32⟩
  | .hbm, ⟨49, _⟩ => ⟨S8x4096x512, .f32⟩
  | .hbm, ⟨50, _⟩ => ⟨S1x512, .f32⟩
  | .hbm, ⟨51, _⟩ => ⟨S512, .f32⟩
  | .hbm, ⟨52, _⟩ => ⟨S8x4096x512, .f32⟩
  | .hbm, ⟨53, _⟩ => ⟨S1x1x512, .f32⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S1x512, .f32⟩
  | .hbm, ⟨58, _⟩ => ⟨S512, .f32⟩
  | .hbm, ⟨59, _⟩ => ⟨S8x4096x512, .f32⟩
  | .hbm, ⟨60, _⟩ => ⟨S1x1x512, .f32⟩
  | .hbm, ⟨61, _⟩ => ⟨S8x4096x512, .f32⟩
  | .hbm, ⟨62, _⟩ => ⟨S8x4096x512, .f32⟩
  | .hbm, ⟨63, _⟩ => ⟨S8x4096x512, .f32⟩
  | .hbm, ⟨64, _⟩ => ⟨S8x4096x512, .f32⟩
  | .hbm, ⟨65, _⟩ => ⟨S8x4096x8x64, .f32⟩
  | .hbm, ⟨66, _⟩ => ⟨S8x4096x8x64, .f32⟩
  | .hbm, ⟨67, _⟩ => ⟨S_, .f32⟩
  | .hbm, ⟨68, _⟩ => ⟨S8x4096x8, .f32⟩
  | .hbm, ⟨69, _⟩ => ⟨S8x4096x8x1, .f32⟩
  | .hbm, ⟨70, _⟩ => ⟨S_, .f32⟩
  | .hbm, ⟨71, _⟩ => ⟨S8x4096x8x1, .f32⟩
  | .hbm, ⟨72, _⟩ => ⟨S8x4096x8x1, .f32⟩
  | .hbm, ⟨73, _⟩ => ⟨S_, .f32⟩
  | .hbm, ⟨74, _⟩ => ⟨S8x4096x8x1, .f32⟩
  | .hbm, ⟨75, _⟩ => ⟨S8x4096x8x1, .f32⟩
  | .hbm, ⟨76, _⟩ => ⟨S8x4096x8x1, .f32⟩
  | .hbm, ⟨77, _⟩ => ⟨S8x4096x8x64, .f32⟩
  | .hbm, ⟨78, _⟩ => ⟨S8x4096x8x64, .f32⟩
  | .hbm, ⟨79, _⟩ => ⟨S8x4096x512, .f32⟩
  | .hbm, ⟨80, _⟩ => ⟨S1x1x512, .f32⟩
  | .hbm, ⟨81, _⟩ => ⟨S8x4096x512, .f32⟩
  | .hbm, ⟨82, _⟩ => ⟨S8x4096x512, .f32⟩
  | .hbm, ⟨83, _⟩ => ⟨S8x4096x512, .f32⟩
  | .hbm, ⟨84, _⟩ => ⟨S8x4096x512, .f32⟩
  | .hbm, ⟨85, _⟩ => ⟨S_, .f32⟩
  | .hbm, ⟨86, _⟩ => ⟨S8x4096x512, .f32⟩
  | .hbm, ⟨87, _⟩ => ⟨S8x4096x512, .f32⟩
  | .hbm, ⟨88, _⟩ => ⟨S_, .f32⟩
  | .hbm, ⟨89, _⟩ => ⟨S8x4096x512, .f32⟩
  | .hbm, ⟨90, _⟩ => ⟨S8x4096x512, .f32⟩
  | .hbm, ⟨91, _⟩ => ⟨S8x4096x512, .f32⟩
  | .hbm, ⟨92, _⟩ => ⟨S8x4096x512, .f32⟩
  | .hbm, ⟨93, _⟩ => ⟨S_, .f32⟩
  | .hbm, ⟨94, _⟩ => ⟨S8x4096x512, .f32⟩
  | .hbm, ⟨95, _⟩ => ⟨S8x4096x512, .f32⟩
  | .hbm, ⟨96, _⟩ => ⟨S8x512x4096, .f32⟩
  | .hbm, ⟨97, _⟩ => ⟨S8x512x4096, .bf16⟩
  | .hbm, ⟨98, _⟩ => ⟨S8x512x4096, .f32⟩
  | .hbm, ⟨99, _⟩ => ⟨S8x512x4096, .bf16⟩
  | .hbm, ⟨100, _⟩ => ⟨S8x4096x512, .bf16⟩
  | .hbm, ⟨101, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v69 : Ref sig .tc := ⟨.hbm, 91, rfl⟩
abbrev main_v70 : Ref sig .tc := ⟨.hbm, 92, rfl⟩
abbrev main_cst_5 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Proof.Online.lean ====
/- The online softmax over the extended reals: weights `2 ^ (s - m)` of logits `s` below a running maximum `m`, the
   rescaling of a running weighted sum when the maximum grows, and the agreement of the normalised result with the softmax
   written with the natural exponential. No finiteness of the logits or of the values is assumed. -/
module

public import Idealize.ShloMosaic.Lib.Pointwise
public import Idealize.ShloMosaic.Lib.IdealHost

@[expose] public section

noncomputable section

namespace Cert.Flash

open Idealize.ShloMosaic

/-- A power of two is never negative. -/
theorem exp2_nonneg (x : EReal) : 0 ≤ Ideal.exp2 x := by
  induction x with
  | bot => simp
  | top => simp
  | coe r => rw [Ideal.exp2_coe]; exact_mod_cast (Real.rpow_pos_of_pos two_pos r).le

/-- The weight of a logit below the maximum is at most one. -/
theorem weight_le_one {s m : EReal} (h : s ≤ m) : Ideal.exp2 (s - m) ≤ 1 := by
  induction m with
  | bot => obtain rfl := le_bot_iff.1 h; simp
  | top => simp [sub_eq_add_neg]
  | coe b =>
    induction s with
    | bot => simp [sub_eq_add_neg]
    | top => exact absurd h (by simp)
    | coe a =>
      have hab : a ≤ b := by exact_mod_cast h
      rw [← EReal.coe_sub, Ideal.exp2_coe]
      have : Real.rpow 2 (a - b) ≤ 1 := Real.rpow_le_one_of_one_le_of_nonpos one_le_two (by linarith)
      exact_mod_cast this

/-- The weight of a logit below the maximum is finite. -/
theorem weight_ne_top {s m : EReal} (h : s ≤ m) : Ideal.exp2 (s - m) ≠ ⊤ := fun e => by
  have := weight_le_one h
  rw [e] at this
  exact absurd this (by decide)

/-- Raising the maximum from `m` to `m'` multiplies a weight by `2 ^ (m - m')`. -/
theorem weight_mul {s m m' : EReal} (h : s ≤ m) (h' : m ≤ m') :
    Ideal.exp2 (m - m') * Ideal.exp2 (s - m) = Ideal.exp2 (s - m') := by
  induction m' with
  | bot => obtain rfl := le_bot_iff.1 h'; obtain rfl := le_bot_iff.1 h; simp [sub_eq_add_neg]
  | top => simp [sub_eq_add_neg]
  | coe c =>
    induction m with
    | bot => obtain rfl := le_bot_iff.1 h; simp [sub_eq_add_neg]
    | top => exact absurd h' (by simp)
    | coe b =>
      induction s with
      | bot => simp [sub_eq_add_neg]
      | top => exact absurd h (by simp)
      | coe a =>
        rw [← EReal.coe_sub, ← EReal.coe_sub, ← EReal.coe_sub, Ideal.exp2_coe, Ideal.exp2_coe, Ideal.exp2_coe,
          ← EReal.coe_mul]
        congr 1
        show (2 : ℝ) ^ (b - c) * 2 ^ (a - b) = 2 ^ (a - c)
        rw [← Real.rpow_add two_pos]; congr 1; ring

/-- A finite nonnegative factor goes into a sum of any extended reals. -/
theorem mul_sum_of_nonneg {ι : Type*} (T : Finset ι) (f : ι → EReal) {a : EReal} (h0 : 0 ≤ a) (ht : a ≠ ⊤) :
    a * ∑ k ∈ T, f k = ∑ k ∈ T, a * f k := by
  classical
  induction T using Finset.induction_on with
  | empty => simp
  | insert k T hk ih =>
    rw [Finset.sum_insert hk, Finset.sum_insert hk, EReal.left_distrib_of_nonneg_of_ne_top h0 ht, ih]

/-- ONE ONLINE STEP: a weighted sum over `T` below `T`'s maximum, rescaled, and the weighted sum of a further block
    `B`, make the weighted sum over both below the maximum of both. -/
theorem online_step {ι : Type*} [DecidableEq ι] {T B : Finset ι} (hd : Disjoint T B) (s v : ι → EReal) :
    Ideal.exp2 (T.sup s - max (T.sup s) (B.sup s)) * (∑ k ∈ T, Ideal.exp2 (s k - T.sup s) * v k)
        + ∑ k ∈ B, Ideal.exp2 (s k - max (T.sup s) (B.sup s)) * v k
      = ∑ k ∈ T ∪ B, Ideal.exp2 (s k - (T ∪ B).sup s) * v k := by
  rw [Finset.sum_union hd, Finset.sup_union]
  congr 1
  rw [mul_sum_of_nonneg _ _ (exp2_nonneg _) (weight_ne_top le_sup_left)]
  refine Finset.sum_congr rfl fun k hk => ?_
  rw [← mul_assoc, weight_mul (Finset.le_sup hk) le_sup_left]

/-- Keys whose logits are `-∞` add nothing, whatever their values: the weighted sum below the maximum may be taken over
    any larger set of keys. -/
theorem weighted_extend {ι : Type*} {T U : Finset ι} (hTU : T ⊆ U) (s v : ι → EReal)
    (h : ∀ k ∈ U, k ∉ T → s k = ⊥) :
    T.sup s = U.sup s ∧ ∑ k ∈ T, Ideal.exp2 (s k - T.sup s) * v k = ∑ k ∈ U, Ideal.exp2 (s k - U.sup s) * v k := by
  have hs : T.sup s = U.sup s := by
    refine le_antisymm (Finset.sup_mono hTU) (Finset.sup_le fun k hk => ?_)
    by_cases hkT : k ∈ T
    · exact Finset.le_sup hkT
    · rw [h k hk hkT]; exact bot_le
  refine ⟨hs, ?_⟩
  rw [hs]
  refine Finset.sum_subset hTU fun k hk hkT => ?_
  rw [h k hk hkT]; simp [sub_eq_add_neg]

/-- The softmax's natural exponential of logits scaled by `log 2` is the power of two. -/
theorem exp_scaled {L : ℝ} (hL : L = Real.log 2) (s m : EReal) :
    Ideal.exp (s * (L : EReal) - m * (L : EReal)) = Ideal.exp2 (s - m) := by
  have hp : 0 < L := hL ▸ Real.log_pos one_lt_two
  induction m with
  | bot =>
    rw [EReal.bot_mul_coe_of_pos hp]
    induction s with
    | bot => rw [EReal.bot_mul_coe_of_pos hp]; simp [sub_eq_add_neg]
    | top => rw [EReal.top_mul_coe_of_pos hp]; simp [sub_eq_add_neg]
    | coe a => rw [← EReal.coe_mul, sub_eq_add_neg, EReal.neg_bot, EReal.coe_add_top]; simp [sub_eq_add_neg]
  | top => rw [EReal.top_mul_coe_of_pos hp]; simp [sub_eq_add_neg]
  | coe b =>
    induction s with
    | bot => rw [EReal.bot_mul_coe_of_pos hp]; simp [sub_eq_add_neg]
    | top => rw [EReal.top_mul_coe_of_pos hp, ← EReal.coe_mul, EReal.top_sub_coe, EReal.top_sub_coe]; rfl
    | coe a =>
      rw [← EReal.coe_mul, ← EReal.coe_mul, ← EReal.coe_sub, ← EReal.coe_sub, Ideal.exp2_coe]
      show ((Real.exp (a * L - b * L) : ℝ) : EReal) = (((2 : ℝ) ^ (a - b) : ℝ) : EReal)
      rw [Real.rpow_def_of_pos two_pos, ← hL]
      congr 2; ring

/-- Scaling by a positive real goes through a finite maximum. -/
theorem sup_mul {ι : Type*} (T : Finset ι) (s : ι → EReal) {L : ℝ} (hp : 0 < L) :
    T.sup (fun k => s k * (L : EReal)) = T.sup s * (L : EReal) := by
  classical
  have hmono : Monotone fun x : EReal => x * (L : EReal) := fun a b h =>
    mul_le_mul_of_nonneg_right h (by exact_mod_cast hp.le)
  induction T using Finset.induction_on with
  | empty => simp [EReal.bot_mul_coe_of_pos hp]
  | insert k T hk ih =>
    rw [Finset.sup_insert, Finset.sup_insert, ih]
    exact (hmono.map_sup _ _).symm

/-- The maximum over a nonempty finite set is attained. -/
theorem exists_eq_sup {ι : Type*} {T : Finset ι} (hT : T.Nonempty) (s : ι → EReal) : ∃ k ∈ T, s k = T.sup s := by
  obtain ⟨k, hk, h⟩ := Finset.exists_max_image T s hT
  exact ⟨k, hk, le_antisymm (Finset.le_sup hk) (Finset.sup_le h)⟩

/-- A finite sum of finite nonnegative extended reals is finite. -/
theorem sum_ne_top {ι : Type*} (T : Finset ι) (f : ι → EReal) (h0 : ∀ k ∈ T, 0 ≤ f k) (h : ∀ k ∈ T, f k ≠ ⊤) :
    ∑ k ∈ T, f k ≠ ⊤ ∧ 0 ≤ ∑ k ∈ T, f k := by
  classical
  induction T using Finset.induction_on with
  | empty => simp
  | insert k T hk ih =>
    obtain ⟨h1, h2⟩ := ih (fun j hj => h0 j (Finset.mem_insert_of_mem hj)) fun j hj => h j (Finset.mem_insert_of_mem hj)
    rw [Finset.sum_insert hk]
    have hk0 := h0 k (Finset.mem_insert_self _ _)
    refine ⟨?_, add_nonneg hk0 h2⟩
    exact EReal.add_ne_top (h k (Finset.mem_insert_self _ _)) h1

/-- An extended real that is infinite or zero. -/
def Extreme (x : EReal) : Prop := x = 0 ∨ x = ⊤ ∨ x = ⊥

theorem Extreme.add {x y : EReal} (hx : Extreme x) (hy : Extreme y) : Extreme (x + y) := by
  rcases hx with rfl | rfl | rfl <;> rcases hy with rfl | rfl | rfl <;> simp [Extreme]

theorem Extreme.sum {ι : Type*} (T : Finset ι) (f : ι → EReal) (h : ∀ k ∈ T, Extreme (f k)) : Extreme (∑ k ∈ T, f k) := by
  classical
  induction T using Finset.induction_on with
  | empty => simp [Extreme]
  | insert k T hk ih =>
    rw [Finset.sum_insert hk]
    exact (h k (Finset.mem_insert_self _ _)).add (ih fun j hj => h j (Finset.mem_insert_of_mem hj))

theorem Extreme.mul_bot (x : EReal) : Extreme (x * ⊥) := by
  rcases lt_trichotomy x 0 with h | rfl | h
  · right; left; exact EReal.mul_bot_of_neg h
  · left; simp
  · right; right; exact EReal.mul_bot_of_pos h

theorem Extreme.sq {x : EReal} (h : Extreme x) : x * x = 0 ∨ x * x = ⊤ := by
  rcases h with rfl | rfl | rfl <;> simp

/-- The root mean square normalisation of one head: each entry times the reciprocal root of the mean of the squares plus
    `eps`. -/
def rms {n : ℕ} (c eps : EReal) (o : Fin n → EReal) (d : Fin n) : EReal :=
  o d * Ideal.rsqrt ((∑ e, o e * o e) * c + eps)

/-- Entries that are all zero or infinite normalise to zero. -/
theorem rms_extreme {n : ℕ} {c eps : ℝ} (hc : 0 < c) (he : 0 < eps) (o : Fin n → EReal) (h : ∀ d, Extreme (o d)) (d : Fin n) :
    rms c eps o d = 0 := by
  unfold rms
  by_cases hz : ∀ e, o e = 0
  · rw [hz d, zero_mul]
  · push Not at hz
    obtain ⟨e, he0⟩ := hz
    have hsq : ∀ e ∈ Finset.univ, 0 ≤ o e * o e := fun e _ => by
      rcases (h e).sq with h | h <;> rw [h] <;> simp
    have htop : ∑ e, o e * o e = ⊤ := by
      have he1 : o e * o e = ⊤ := by
        rcases h e with h | h | h
        · exact absurd h he0
        · rw [h]; simp
        · rw [h]; simp
      refine top_le_iff.1 ?_
      rw [← he1]
      exact Finset.single_le_sum hsq (Finset.mem_univ e)
    rw [htop, EReal.top_mul_coe_of_pos hc, EReal.top_add_coe]
    show o d * 0 = 0
    rw [mul_zero]

/-- THE SOFTMAX OF ONE ROW, NORMALISED: dividing the weighted sum once by the sum of the weights, or every weight by it,
    agree after the root mean square normalisation — also where the maximal logit is infinite and the weights vanish. -/
theorem softmax_rms {ι : Type*} {T : Finset ι} (hT : T.Nonempty) {n : ℕ} {c eps : ℝ} (hc : 0 < c) (he : 0 < eps)
    (s : ι → EReal) (v : ι → Fin n → EReal) (d : Fin n) :
    rms c eps (fun e => (∑ k ∈ T, Ideal.exp2 (s k - T.sup s) * v k e)
        * Ideal.div 1 (∑ k ∈ T, Ideal.exp2 (s k - T.sup s) * 1)) d
      = rms c eps (fun e => ∑ k ∈ T, v k e
        * Ideal.div (Ideal.exp2 (s k - T.sup s)) (∑ k ∈ T, Ideal.exp2 (s k - T.sup s))) d := by
  simp only [mul_one]
  obtain ⟨k0, hk0, hmax⟩ := exists_eq_sup hT s
  have hfin := sum_ne_top T (fun k => Ideal.exp2 (s k - T.sup s)) (fun k _ => exp2_nonneg _)
    fun k hk => weight_ne_top (Finset.le_sup hk)
  by_cases hM : T.sup s = ⊤ ∨ T.sup s = ⊥
  · have hw : ∀ k ∈ T, Ideal.exp2 (s k - T.sup s) = 0 := fun k hk => by
      rcases hM with h | h
      · rw [h]; simp [sub_eq_add_neg]
      · have : s k = ⊥ := le_bot_iff.1 (h ▸ Finset.le_sup hk)
        rw [this, h]; simp [sub_eq_add_neg]
    have hl : ∑ k ∈ T, Ideal.exp2 (s k - T.sup s) = 0 := Finset.sum_eq_zero hw
    rw [rms_extreme hc he, rms_extreme hc he]
    · intro e
      refine Extreme.sum _ _ fun k hk => ?_
      rw [hw k hk, hl]
      have : Ideal.div 0 0 = ⊥ := by simp [Ideal.div]
      rw [this]
      exact Extreme.mul_bot _
    · intro e
      left
      rw [Finset.sum_eq_zero fun k hk => by rw [hw k hk, zero_mul], zero_mul]
  · push Not at hM
    have h1 : Ideal.exp2 (s k0 - T.sup s) = 1 := by
      rw [hmax]
      lift T.sup s to ℝ using hM with a
      rw [← EReal.coe_sub, sub_self, Ideal.exp2_coe]
      show (((2 : ℝ) ^ (0 : ℝ) : ℝ) : EReal) = 1
      rw [Real.rpow_zero]; rfl
    have hpos : 0 < ∑ k ∈ T, Ideal.exp2 (s k - T.sup s) :=
      lt_of_lt_of_le (by rw [h1]; exact zero_lt_one) (Finset.single_le_sum (f := fun k => Ideal.exp2 (s k - T.sup s))
        (fun k _ => exp2_nonneg _) hk0)
    generalize hL : ∑ k ∈ T, Ideal.exp2 (s k - T.sup s) = l at *
    have hbot : l ≠ ⊥ := fun e => by rw [e] at hpos; exact absurd hpos (by simp)
    lift l to ℝ using ⟨hfin.1, hbot⟩
    have hl0 : (0 : ℝ) < l := by exact_mod_cast hpos
    have hne : (l : EReal) ≠ 0 := by exact_mod_cast hl0.ne'
    have hdiv : ∀ x : EReal, Ideal.div x l = x * ((l⁻¹ : ℝ) : EReal) := fun x => by
      rw [Ideal.div, if_neg hne, EReal.coe_inv]
    congr 1
    funext e
    rw [hdiv, one_mul, mul_comm, mul_sum_of_nonneg _ _ (by exact_mod_cast (inv_pos.2 hl0).le) (EReal.coe_ne_top _)]
    refine Finset.sum_congr rfl fun k _ => ?_
    rw [hdiv]
    rw [mul_comm, mul_comm (Ideal.exp2 _), mul_assoc]

end Cert.Flash

end
-- ==== Proof.Model.lean ====
/- One grid point of the attention in plain arithmetic: the logits, values and sets of keys its blocks of 512 queries by two
   heads meet, and what each stored vector of the kernel holds in these terms. Columns `c < 1024` stand for a head of the
   pair (`c / 512`) and a query of the block (`c % 512`); keys `k < 4096` are the sequence's, `4096 ≤ k < 4112` the meta
   positions'. -/
module

public import proofs.«01_k».proof.Proof.Gen.KernelIdeal.Skeleton
public import proofs.«01_k».proof.Proof.Online
public import Idealize.ShloMosaic.Lib.WordCmp
public import Idealize.ShloMosaic.Lib.ValueIdxCore

@[expose] public section

noncomputable section

namespace Cert.Flash

open Idealize.ShloMosaic Cert.KernelIdeal Cert.KernelIdeal.Gen
open Finset (Ico)

/-- The arrays one grid point reads, extended to all indices, and the number of its pair of heads. -/
structure Blk where
  q : ℕ → ℕ → EReal
  k : ℕ → ℕ → EReal
  v : ℕ → ℕ → EReal
  km : ℕ → ℕ → EReal
  vm : ℕ → ℕ → EReal
  z : ℕ → ℕ → EReal
  g : ℕ → EReal
  pr : ℕ

namespace Blk

variable (D : Blk)

/-- The query side of a logit: 64 query entries, then the selector of the head's three bias columns. -/
def Q (qi l c : ℕ) : EReal :=
  if l < 64 then D.q (64 * (c / 512) + l) (512 * qi + c % 512)
  else if (l - 64) % 8 = 2 * D.pr + c / 512 ∧ l - 64 < 24 then 1 else 0

/-- The key columns of key `k`. -/
def K (k j : ℕ) : EReal := if k < 4096 then D.k k j else D.km (k - 4096) j

/-- The value rows of key `k`; the rows from 128 on are ones and sum the weights. -/
def V (k r : ℕ) : EReal := if r < 128 then (if k < 4096 then D.v r k else D.vm r (k - 4096)) else 1

/-- The logit of key `k` in column `c` of query block `qi`; `-∞` for a key after the query. -/
def S (qi c k : ℕ) : EReal :=
  (∑ l : Fin 128, D.K k (128 * (c / 512) + l) * D.Q qi l c)
    + if k ≤ 512 * qi + c % 512 ∨ 4096 ≤ k then 0 else ⊥

end Blk

/-- The keys of the first half of the diagonal block and the meta positions. -/
def keys1 (qi : ℕ) : Finset ℕ := Ico (512 * qi) (512 * qi + 256) ∪ Ico 4096 4112

/-- With the second half of the diagonal block, for the columns that reach it. -/
def keys2 (qi c : ℕ) : Finset ℕ :=
  if 256 ≤ c % 512 then keys1 qi ∪ Ico (512 * qi + 256) (512 * qi + 256 + 256) else keys1 qi

/-- With the first `n` blocks of 512 keys. -/
def keysN (qi c : ℕ) : ℕ → Finset ℕ
  | 0 => keys2 qi c
  | n + 1 => keysN qi c n ∪ Ico (512 * n) (512 * n + 512)

/-- The maximum of the logits of the keys `T`. -/
def mx (D : Blk) (qi c : ℕ) (T : Finset ℕ) : EReal := T.sup (D.S qi c)

/-- The values of the keys `T`, weighted below the maximum. -/
def wsum (D : Blk) (qi c : ℕ) (T : Finset ℕ) (r : ℕ) : EReal :=
  ∑ k ∈ T, Ideal.exp2 (D.S qi c k - mx D qi c T) * D.V k r

/-! ## What the kernel's vectors hold -/

/-- A block's queries and selectors. -/
def IsQ (D : Blk) (qi : ℕ) (w : Vec Ideal S1x128x1024 .bf16) : Prop :=
  ∀ (l : Fin 128) (c : Fin 1024), w (ix3 0 l c) = D.Q qi l c
/-- 512 keys from `o` on. -/
def IsK (D : Blk) (o : ℕ) (w : Vec Ideal S1x512x256 .bf16) : Prop :=
  ∀ (r : Fin 512) (j : Fin 256), w (ix3 0 r j) = D.k (o + r) j
/-- 256 keys from `o` on. -/
def IsKh (D : Blk) (o : ℕ) (w : Vec Ideal S1x256x256 .bf16) : Prop :=
  ∀ (r : Fin 256) (j : Fin 256), w (ix3 0 r j) = D.k (o + r) j
/-- The meta positions' keys. -/
def IsKm (D : Blk) (w : Vec Ideal S16x256 .bf16) : Prop := ∀ (r : Fin 16) (j : Fin 256), w (ix2 r j) = D.km r j
/-- 512 keys' values from `o` on. -/
def IsV (D : Blk) (o : ℕ) (w : Vec Ideal S1x128x512 .bf16) : Prop :=
  ∀ (r : Fin 128) (j : Fin 512), w (ix3 0 r j) = D.v r (o + j)
/-- 256 keys' values from `o` on. -/
def IsVh (D : Blk) (o : ℕ) (w : Vec Ideal S1x128x256 .bf16) : Prop :=
  ∀ (r : Fin 128) (j : Fin 256), w (ix3 0 r j) = D.v r (o + j)
/-- The meta positions' values. -/
def IsVm (D : Blk) (w : Vec Ideal S128x16 .bf16) : Prop := ∀ (r : Fin 128) (j : Fin 16), w (ix2 r j) = D.vm r j
/-- The mask of the first half of a diagonal block. -/
def IsMask1 (w : Vec Ideal S272x1024 .f32) : Prop :=
  ∀ (r : Fin 272) (c : Fin 1024), w (ix2 r c) = if r.val ≤ c.val % 512 ∨ 256 ≤ r.val then 0 else ⊥
/-- The mask of the second half. -/
def IsMask2 (w : Vec Ideal S256x512 .f32) : Prop :=
  ∀ (r : Fin 256) (c : Fin 512), w (ix2 r c) = if r.val ≤ c.val % 256 then 0 else ⊥

/-- The key in row `r` of the first half's logits. -/
def key1 (qi r : ℕ) : ℕ := if r < 256 then 512 * qi + r else 4096 + (r - 256)
/-- The column of the block that column `c` of the second half stands for. -/
def lateCol (c : ℕ) : ℕ := if c < 256 then 256 + c else 512 + c

/-- The first half's logits. -/
def IsSD1 (D : Blk) (qi : ℕ) (w : Vec Ideal S1x272x1024 .f32) : Prop :=
  ∀ (r : Fin 272) (c : Fin 1024), w (ix3 0 r c) = D.S qi c (key1 qi r)
/-- Their maxima. -/
def IsMD1 (D : Blk) (qi : ℕ) (w : Vec Ideal S1x1x1024 .f32) : Prop :=
  ∀ c : Fin 1024, w (ix3 0 0 c) = mx D qi c (keys1 qi)
/-- The second half's logits. -/
def IsSD2 (D : Blk) (qi : ℕ) (w : Vec Ideal S1x256x512 .f32) : Prop :=
  ∀ (r : Fin 256) (c : Fin 512), w (ix3 0 r c) = D.S qi (lateCol c) (512 * qi + 256 + r)
/-- Their maxima. -/
def IsMD2 (D : Blk) (qi : ℕ) (w : Vec Ideal S1x1x512 .f32) : Prop :=
  ∀ c : Fin 512, w (ix3 0 0 c) = mx D qi (lateCol c) (Ico (512 * qi + 256) (512 * qi + 256 + 256))
/-- The logits of key block `j`. -/
def IsSU (D : Blk) (qi j : ℕ) (w : Vec Ideal S1x512x1024 .f32) : Prop :=
  ∀ (r : Fin 512) (c : Fin 1024), w (ix3 0 r c) = D.S qi c (512 * j + r)
/-- Their maxima. -/
def IsMU (D : Blk) (qi j : ℕ) (w : Vec Ideal S1x1x1024 .f32) : Prop :=
  ∀ c : Fin 1024, w (ix3 0 0 c) = mx D qi c (Ico (512 * j) (512 * j + 512))
/-- The running maximum after the first half. -/
def IsM1 (D : Blk) (qi : ℕ) (w : Vec Ideal S1x1x1024 .f32) : Prop :=
  ∀ c : Fin 1024, w (ix3 0 0 c) = mx D qi c (keys1 qi)
/-- The running weighted sums after the first half. -/
def IsA1 (D : Blk) (qi : ℕ) (w : Vec Ideal S1x144x1024 .f32) : Prop :=
  ∀ (r : Fin 144) (c : Fin 1024), w (ix3 0 r c) = wsum D qi c (keys1 qi) r
/-- The running maximum after the diagonal block, in the columns of the second half that start at `o`. -/
def IsM2 (D : Blk) (qi o : ℕ) (w : Vec Ideal S1x1x256 .f32) : Prop :=
  ∀ c : Fin 256, w (ix3 0 0 c) = mx D qi (o + c) (keys2 qi (o + c))
/-- The running weighted sums there. -/
def IsA2 (D : Blk) (qi o : ℕ) (w : Vec Ideal S1x144x256 .f32) : Prop :=
  ∀ (r : Fin 144) (c : Fin 256), w (ix3 0 r c) = wsum D qi (o + c) (keys2 qi (o + c)) r
/-- The running maximum after the diagonal block and `n` further blocks. -/
def IsM (D : Blk) (qi n : ℕ) (w : Vec Ideal S1x1x1024 .f32) : Prop :=
  ∀ c : Fin 1024, w (ix3 0 0 c) = mx D qi c (keysN qi c n)
/-- The running weighted sums there. -/
def IsA (D : Blk) (qi n : ℕ) (w : Vec Ideal S1x144x1024 .f32) : Prop :=
  ∀ (r : Fin 144) (c : Fin 1024), w (ix3 0 r c) = wsum D qi c (keysN qi c n) r
/-- The sums of the weights, read alone. -/
def IsL (D : Blk) (qi n : ℕ) (w : Vec Ideal S1x1x1024 .f32) : Prop :=
  ∀ c : Fin 1024, w (ix3 0 0 c) = wsum D qi c (keysN qi c n) 128
/-- One head's weighted values, read alone. -/
def IsO (D : Blk) (qi n h : ℕ) (w : Vec Ideal S1x64x512 .f32) : Prop :=
  ∀ (r : Fin 64) (c : Fin 512), w (ix3 0 r c) = wsum D qi (512 * h + c) (keysN qi (512 * h + c) n) (64 * h + r)

/-- 512 rows of the gate from `o` on. -/
def IsZ (D : Blk) (o : ℕ) (w : Vec Ideal S1x512x128 .bf16) : Prop :=
  ∀ (r : Fin 512) (c : Fin 128), w (ix3 0 r c) = D.z (o + r) c
/-- The norm's scales. -/
def IsG (D : Blk) (w : Vec Ideal S1x128 .f32) : Prop := ∀ c : Fin 128, w (ix2 0 c) = D.g c

/-- A query's result: its head's weighted values over the sum of the weights, normalised, scaled and gated. -/
def outv (D : Blk) (qi r c : ℕ) : EReal :=
  rms (Ideal.ofBits .f32 1015021568#32) (Ideal.ofBits .f32 897988541#32)
      (fun d : Fin 64 => wsum D qi (512 * (c / 64) + r) (keysN qi (512 * (c / 64) + r) qi) (64 * (c / 64) + d)
        * Ideal.div 1 (wsum D qi (512 * (c / 64) + r) (keysN qi (512 * (c / 64) + r) qi) 128))
      ⟨c % 64, Nat.mod_lt _ (by decide)⟩
    * D.g c * (D.z (512 * qi + r) c * Ideal.div 1 (1 + Ideal.exp (0 - D.z (512 * qi + r) c)))

/-- A block of results. -/
def IsOut (D : Blk) (qi : ℕ) (w : Vec Ideal S1x512x128 .bf16) : Prop :=
  ∀ (r : Fin 512) (c : Fin 128), w (ix3 0 r c) = outv D qi r c

/-! ## Sums and maxima over a block of keys -/

theorem sum_block (a n : ℕ) (f : ℕ → EReal) : ∑ k ∈ Ico a (a + n), f k = ∑ x : Fin n, f (a + x) := by
  rw [Finset.sum_Ico_eq_sum_range, Nat.add_sub_cancel_left, Finset.sum_range]

theorem ofBits_neg_inf : Ideal.ofBits .f32 4286578688#32 = ⊥ := by simp [Ideal.ofBits, Ideal.ieee]

/-- A maximum taken from `-∞` over the rows of a block is the maximum over the keys the rows stand for. -/
theorem fold_max_eq_sup {n : ℕ} (T : Finset ℕ) (key : Fin n → ℕ) (hT : T = Finset.univ.image key) (f : ℕ → EReal)
    (g : Fin n → EReal) (hg : ∀ x, g x = f (key x)) :
    Finset.fold max (Ideal.ofBits .f32 4286578688#32) g Finset.univ = T.sup f := by
  rw [ofBits_neg_inf, hT, Finset.sup_image]
  have : g = f ∘ key := funext hg
  rw [this]; rfl

theorem block_eq_image (a n : ℕ) : Ico a (a + n) = Finset.univ.image fun x : Fin n => a + x.val := by
  ext k
  simp only [Finset.mem_Ico, Finset.mem_image, Finset.mem_univ, true_and]
  constructor
  · rintro ⟨h1, h2⟩; exact ⟨⟨k - a, by omega⟩, by simp; omega⟩
  · rintro ⟨x, rfl⟩; omega

theorem keys1_eq_image (qi : ℕ) : keys1 qi = Finset.univ.image fun x : Fin 272 => key1 qi x := by
  ext k
  simp only [keys1, Finset.mem_union, Finset.mem_Ico, Finset.mem_image, Finset.mem_univ, true_and, key1]
  constructor
  · rintro (⟨h1, h2⟩ | ⟨h1, h2⟩)
    · exact ⟨⟨k - 512 * qi, by omega⟩, by simp only; split <;> omega⟩
    · exact ⟨⟨256 + (k - 4096), by omega⟩, by simp only; split <;> omega⟩
  · rintro ⟨x, rfl⟩; have := x.isLt; split <;> omega

/-! ## What each step of the kernel computes -/

/-- The logits of a key block before the diagonal: no key in it is after a query. -/
theorem su_ok {D : Blk} {qi j : ℕ} (hj : j < qi) (hqi : qi < 8) {q : Vec Ideal S1x128x1024 .bf16} {k : Vec Ideal S1x512x256 .bf16}
    (hq : IsQ D qi q) (hk : IsK D (512 * j) k) : IsSU D qi j (k0_pay97 (F := Ideal) q k) := by
  intro r c
  have hr := r.isLt
  pointwise [k0_pay97, k0_pay96]
  simp only [hq _ _, hk _ _]
  unfold Blk.S
  rw [if_pos (by omega), add_zero]
  have hK : ∀ j', D.K (512 * j + r) j' = D.k (512 * j + r) j' := fun j' => if_pos (by omega)
  simp only [hK]
  split
  · next h =>
    rw [Nat.div_eq_of_lt h]; simp
  · next h =>
    have h1 : c.val / 512 = 1 := by omega
    rw [h1, show 512 + (c.val - 512) = c by omega]

/-- … and their maxima. -/
theorem mu_ok {D : Blk} {qi j : ℕ} (hj : j < qi) (hqi : qi < 8) {q : Vec Ideal S1x128x1024 .bf16} {k : Vec Ideal S1x512x256 .bf16}
    (hq : IsQ D qi q) (hk : IsK D (512 * j) k) : IsMU D qi j (k0_pay98 (F := Ideal) q k) := by
  intro c
  have hs := su_ok hj hqi hq hk
  have : k0_pay98 (F := Ideal) q k (ix3 0 0 c)
      = Finset.fold max (Ideal.ofBits .f32 4286578688#32) (fun x : Fin 512 => k0_pay97 (F := Ideal) q k (ix3 0 x c)) Finset.univ := by
    pointwise [k0_pay98, k0_pay97, k0_pay96]
  rw [this]
  exact fold_max_eq_sup _ _ (block_eq_image _ _) _ _ fun x => hs x c

/-- The running maximum after one more key block. -/
theorem m_ok {D : Blk} {qi n : ℕ} {m mb : Vec Ideal S1x1x1024 .f32} (hm : IsM D qi n m) (hb : IsMU D qi n mb) :
    IsM D qi (n + 1) (k0_pay103 (F := Ideal) (k0_pay100 m mb)) := by
  intro c
  pointwise [k0_pay103, k0_pay100, k0_pay99]
  rw [hm c, hb c]
  exact (Finset.sup_union ..).symm

theorem keysN_disjoint {qi n : ℕ} (hn : n < qi) (hqi : qi < 8) (c : ℕ) : Disjoint (keysN qi c n) (Ico (512 * n) (512 * n + 512)) := by
  have h : ∀ n' ≤ n, ∀ k ∈ keysN qi c n', k < 512 * n' ∨ 512 * qi ≤ k := by
    intro n' hn'
    induction n' with
    | zero =>
      intro k hk
      simp only [keysN, keys2, keys1] at hk
      right
      split at hk <;> simp only [Finset.mem_union, Finset.mem_Ico] at hk <;> omega
    | succ n' ih =>
      intro k hk
      simp only [keysN, Finset.mem_union, Finset.mem_Ico] at hk
      rcases hk with hk | hk
      · rcases ih (by omega) k hk with h | h <;> omega
      · omega
  rw [Finset.disjoint_left]
  intro k hk hk'
  rw [Finset.mem_Ico] at hk'
  rcases h n le_rfl k hk with h | h <;> omega

/-- The running weighted sums after one more key block. -/
theorem a_ok {D : Blk} {qi n : ℕ} (hn : n < qi) (hqi : qi < 8) {m mb : Vec Ideal S1x1x1024 .f32} {su : Vec Ideal S1x512x1024 .f32}
    {a : Vec Ideal S1x144x1024 .f32} {v : Vec Ideal S1x128x512 .bf16}
    (hm : IsM D qi n m) (hb : IsMU D qi n mb) (hs : IsSU D qi n su) (ha : IsA D qi n a) (hv : IsV D (512 * n) v) :
    IsA D qi (n + 1) (k0_pay104 (F := Ideal) k0_pay364 (k0_pay101 m mb) (k0_pay102 m mb su) a v) := by
  intro r c
  pointwise [k0_pay104, k0_pay101, k0_pay102, k0_pay99, k0_pay100, k0_pay364]
  simp only [hm c, hb c, hs _ c, ha r c, hv _ _]
  have step := online_step (keysN_disjoint hn hqi c.val) (D.S qi c) (fun k => D.V k r)
  rw [sum_block (512 * n) 512] at step
  refine Eq.trans ?_ step
  congr 1
  refine Finset.sum_congr rfl fun x _ => ?_
  have hx := x.isLt
  rw [mul_comm]
  congr 1
  simp only [Blk.V]
  by_cases hr : r.val < 128
  · rw [dif_pos hr, if_pos hr, if_pos (by omega)]
  · rw [dif_neg hr, if_neg hr]

/-- The first half of a diagonal block's logits, and the meta positions'. -/
theorem sd1_ok {D : Blk} {qi : ℕ} (hqi : qi < 8) {k : Vec Ideal S1x256x256 .bf16} {km : Vec Ideal S16x256 .bf16}
    {q : Vec Ideal S1x128x1024 .bf16} {ms : Vec Ideal S272x1024 .f32}
    (hk : IsKh D (512 * qi) k) (hkm : IsKm D km) (hq : IsQ D qi q) (hms : IsMask1 ms) :
    IsSD1 D qi (k0_pay370 (F := Ideal) k km q ms) := by
  intro r c
  have hr := r.isLt
  pointwise [k0_pay370, k0_pay369]
  simp only [hq _ _, hk _ _, hkm _ _, hms _ _]
  unfold Blk.S
  congr 1
  · split
    · next h =>
      refine Finset.sum_congr rfl fun l _ => ?_
      congr 1
      rw [Nat.div_eq_of_lt h, Blk.K, key1]
      by_cases h2 : r.val < 256
      · rw [dif_pos h2, if_pos h2, if_pos (by omega)]; simp
      · rw [dif_neg h2, if_neg h2, if_neg (by omega)]; simp
    · next h =>
      have h1 : c.val / 512 = 1 := by omega
      refine Finset.sum_congr rfl fun l _ => ?_
      rw [show 512 + (c.val - 512) = c by omega, h1, Blk.K, key1]
      congr 1
      by_cases h2 : r.val < 256
      · rw [dif_pos h2, if_pos h2, if_pos (by omega)]
      · rw [dif_neg h2, if_neg h2, if_neg (by omega)]; simp
  · rw [key1]
    refine if_congr ?_ rfl rfl
    split <;> omega

/-- … and their maxima. -/
theorem md1_ok {D : Blk} {qi : ℕ} (hqi : qi < 8) {k : Vec Ideal S1x256x256 .bf16} {km : Vec Ideal S16x256 .bf16}
    {q : Vec Ideal S1x128x1024 .bf16} {ms : Vec Ideal S272x1024 .f32}
    (hk : IsKh D (512 * qi) k) (hkm : IsKm D km) (hq : IsQ D qi q) (hms : IsMask1 ms) :
    IsMD1 D qi (k0_pay372 (F := Ideal) (k0_pay371 k km q ms)) := by
  intro c
  have hs := sd1_ok hqi hk hkm hq hms
  have : k0_pay372 (F := Ideal) (k0_pay371 k km q ms) (ix3 0 0 c)
      = Finset.fold max (Ideal.ofBits .f32 4286578688#32) (fun x : Fin 272 => k0_pay370 (F := Ideal) k km q ms (ix3 0 x c))
        Finset.univ := by
    pointwise [k0_pay372, k0_pay371, k0_pay370, k0_pay369]
  rw [this]
  exact fold_max_eq_sup _ _ (keys1_eq_image _) _ _ fun x => hs x c

/-- The second half of a diagonal block's logits, in the columns that reach it. -/
theorem sd2_ok {D : Blk} {qi : ℕ} (hqi : qi < 8) {k : Vec Ideal S1x256x256 .bf16}
    {q : Vec Ideal S1x128x1024 .bf16} {ms : Vec Ideal S256x512 .f32}
    (hk : IsKh D (512 * qi + 256) k) (hq : IsQ D qi q) (hms : IsMask2 ms) :
    IsSD2 D qi (k0_pay374 (F := Ideal) k q ms) := by
  intro r c
  have hr := r.isLt
  have hc := c.isLt
  pointwise [k0_pay374, k0_pay373]
  simp only [hq _ _, hk _ _, hms _ _]
  have hK : ∀ j', D.K (512 * qi + 256 + r) j' = D.k (512 * qi + 256 + r) j' := fun j' => if_pos (by omega)
  unfold Blk.S lateCol
  simp only [hK]
  congr 1
  · split
    · next h =>
      rw [show (256 + c.val) / 512 = 0 by omega]; simp
    · next h =>
      rw [show (512 + c.val) / 512 = 1 by omega, show 768 + (c.val - 256) = 512 + c by omega]
  · refine if_congr ?_ rfl rfl
    split <;> omega

/-- … and their maxima. -/
theorem md2_ok {D : Blk} {qi : ℕ} (hqi : qi < 8) {k : Vec Ideal S1x256x256 .bf16}
    {q : Vec Ideal S1x128x1024 .bf16} {ms : Vec Ideal S256x512 .f32}
    (hk : IsKh D (512 * qi + 256) k) (hq : IsQ D qi q) (hms : IsMask2 ms) :
    IsMD2 D qi (k0_pay375 (F := Ideal) k q ms) := by
  intro c
  have hs := sd2_ok hqi hk hq hms
  have : k0_pay375 (F := Ideal) k q ms (ix3 0 0 c)
      = Finset.fold max (Ideal.ofBits .f32 4286578688#32) (fun x : Fin 256 => k0_pay374 (F := Ideal) k q ms (ix3 0 x c))
        Finset.univ := by
    pointwise [k0_pay375, k0_pay374, k0_pay373]
  rw [this]
  exact fold_max_eq_sup _ _ (block_eq_image _ _) _ _ fun x => hs x c

/-- The running maximum starts as the first half's. -/
theorem m1_ok {D : Blk} {qi : ℕ} {m : Vec Ideal S1x1x1024 .f32} (hm : IsMD1 D qi m) :
    IsM1 D qi (k0_pay378 (F := Ideal) (k0_pay376 m)) := by
  intro c
  pointwise [k0_pay378, k0_pay376]
  exact hm c

/-- The running weighted sums start with the first half and the meta positions. -/
theorem a1_ok {D : Blk} {qi : ℕ} (hqi : qi < 8) {m : Vec Ideal S1x1x1024 .f32} {sd : Vec Ideal S1x272x1024 .f32}
    {v : Vec Ideal S1x128x256 .bf16} {vm : Vec Ideal S128x16 .bf16}
    (hm : IsMD1 D qi m) (hs : IsSD1 D qi sd) (hv : IsVh D (512 * qi) v) (hvm : IsVm D vm) :
    IsA1 D qi (k0_pay379 (F := Ideal) k0_pay364 k0_pay365 (k0_pay377 m sd) v vm) := by
  intro r c
  pointwise [k0_pay379, k0_pay377, k0_pay376, k0_pay364, k0_pay365]
  simp only [hm c, hs _ c, hv _ _, hvm _ _]
  have hd : Disjoint (Ico (512 * qi) (512 * qi + 256)) (Ico 4096 (4096 + 16)) := by
    rw [Finset.disjoint_left]; intro k; simp only [Finset.mem_Ico]; omega
  have hk : keys1 qi = Ico (512 * qi) (512 * qi + 256) ∪ Ico 4096 (4096 + 16) := rfl
  generalize hM : mx D qi c (keys1 qi) = M
  rw [wsum, hM, hk, Finset.sum_union hd, sum_block, sum_block]
  congr 1
  · refine Finset.sum_congr rfl fun x _ => ?_
    have hx := x.isLt
    rw [mul_comm, key1, if_pos hx]
    congr 1
    simp only [Blk.V]
    by_cases hr : r.val < 128
    · rw [dif_pos hr, if_pos hr, if_pos (by omega)]
    · rw [dif_neg hr, if_neg hr]
  · refine Finset.sum_congr rfl fun x _ => ?_
    rw [mul_comm, key1, if_neg (by omega), Nat.add_sub_cancel_left]
    congr 1
    simp only [Blk.V]
    by_cases hr : r.val < 128
    · rw [dif_pos hr, if_pos hr, if_neg (by omega), Nat.add_sub_cancel_left]
    · rw [dif_neg hr, if_neg hr]

theorem keys2_late {qi c : ℕ} (h : 256 ≤ c % 512) : keys2 qi c = keys1 qi ∪ Ico (512 * qi + 256) (512 * qi + 256 + 256) := if_pos h

theorem keys1_disjoint {qi : ℕ} (hqi : qi < 8) : Disjoint (keys1 qi) (Ico (512 * qi + 256) (512 * qi + 256 + 256)) := by
  rw [Finset.disjoint_left]; intro k; simp only [keys1, Finset.mem_union, Finset.mem_Ico]; omega

/-- The running maximum after the second half, in the first head's columns. -/
theorem m2a_ok {D : Blk} {qi : ℕ} {m : Vec Ideal S1x1x1024 .f32} {mb : Vec Ideal S1x1x512 .f32}
    (hm : IsM1 D qi m) (hb : IsMD2 D qi mb) : IsM2 D qi 256 (k0_pay386 (F := Ideal) (k0_pay384 m mb)) := by
  intro c
  have hc := c.isLt
  pointwise [k0_pay386, k0_pay384, k0_pay383]
  rw [hm _, hb _, lateCol]
  simp only [if_pos hc]
  rw [keys2_late (by omega)]
  exact (Finset.sup_union ..).symm

/-- … and in the second head's. -/
theorem m2b_ok {D : Blk} {qi : ℕ} {m : Vec Ideal S1x1x1024 .f32} {mb : Vec Ideal S1x1x512 .f32}
    (hm : IsM1 D qi m) (hb : IsMD2 D qi mb) : IsM2 D qi 768 (k0_pay387 (F := Ideal) (k0_pay384 m mb)) := by
  intro c
  have hc := c.isLt
  pointwise [k0_pay387, k0_pay384, k0_pay383]
  rw [hm _, hb _, lateCol]
  simp only [if_neg (show ¬ 256 + c.val < 256 by omega)]
  rw [keys2_late (by omega), ← Nat.add_assoc]
  exact (Finset.sup_union ..).symm

/-- The step from the first half to both, at one column and row. -/
theorem late_step {D : Blk} {qi : ℕ} (hqi : qi < 8) {c : ℕ} (hc : 256 ≤ c % 512) (r : Fin 144) (v : Fin 256 → EReal)
    (hv : ∀ x : Fin 256, v x = if r.val < 128 then D.v r (512 * qi + 256 + x) else 1) :
    Ideal.exp2 (mx D qi c (keys1 qi) - max (mx D qi c (keys1 qi)) (mx D qi c (Ico (512 * qi + 256) (512 * qi + 256 + 256))))
        * wsum D qi c (keys1 qi) r
      + ∑ x : Fin 256, v x * Ideal.exp2 (D.S qi c (512 * qi + 256 + x)
          - max (mx D qi c (keys1 qi)) (mx D qi c (Ico (512 * qi + 256) (512 * qi + 256 + 256))))
      = wsum D qi c (keys2 qi c) r := by
  have step := online_step (keys1_disjoint hqi) (D.S qi c) (fun k => D.V k r)
  rw [sum_block (512 * qi + 256) 256] at step
  rw [keys2_late hc]
  refine Eq.trans ?_ step
  congr 1
  refine Finset.sum_congr rfl fun x _ => ?_
  have hx := x.isLt
  rw [mul_comm, hv]
  congr 1
  simp only [Blk.V]
  by_cases hr : r.val < 128
  · rw [if_pos hr, if_pos hr, if_pos (by omega)]
  · rw [if_neg hr, if_neg hr]

/-- The running weighted sums after the second half, in the first head's columns. -/
theorem a2a_ok {D : Blk} {qi : ℕ} (hqi : qi < 8) {m : Vec Ideal S1x1x1024 .f32} {mb : Vec Ideal S1x1x512 .f32}
    {sd : Vec Ideal S1x256x512 .f32} {v : Vec Ideal S1x128x256 .bf16} {a : Vec Ideal S1x144x1024 .f32}
    (hm : IsM1 D qi m) (hb : IsMD2 D qi mb) (hs : IsSD2 D qi sd) (hv : IsVh D (512 * qi + 256) v) (ha : IsA1 D qi a) :
    IsA2 D qi 256 (k0_pay388 (F := Ideal) (k0_pay385 k0_pay364 m mb sd v a)) := by
  intro r c
  have hc := c.isLt
  pointwise [k0_pay388, k0_pay385, k0_pay384, k0_pay383, k0_pay364]
  simp only [hm _, hb _, hs _ _, hv _ _, ha _ _, lateCol, if_pos hc]
  refine late_step hqi (by omega) r _ fun x => ?_
  by_cases hr : r.val < 128
  · rw [dif_pos hr, if_pos hr]
  · rw [dif_neg hr, if_neg hr]

/-- … and in the second head's. -/
theorem a2b_ok {D : Blk} {qi : ℕ} (hqi : qi < 8) {m : Vec Ideal S1x1x1024 .f32} {mb : Vec Ideal S1x1x512 .f32}
    {sd : Vec Ideal S1x256x512 .f32} {v : Vec Ideal S1x128x256 .bf16} {a : Vec Ideal S1x144x1024 .f32}
    (hm : IsM1 D qi m) (hb : IsMD2 D qi mb) (hs : IsSD2 D qi sd) (hv : IsVh D (512 * qi + 256) v) (ha : IsA1 D qi a) :
    IsA2 D qi 768 (k0_pay389 (F := Ideal) (k0_pay385 k0_pay364 m mb sd v a)) := by
  intro r c
  have hc := c.isLt
  pointwise [k0_pay389, k0_pay385, k0_pay384, k0_pay383, k0_pay364]
  simp only [hm _, hb _, hs _ _, hv _ _, ha _ _, lateCol, if_neg (show ¬ 256 + c.val < 256 by omega),
    show 512 + (256 + c.val) = 768 + c by omega]
  refine late_step hqi (by omega) r _ fun x => ?_
  by_cases hr : r.val < 128
  · rw [dif_pos hr, if_pos hr]
  · rw [dif_neg hr, if_neg hr]

/-- The block of results from the running sums. -/
theorem out_ok {D : Blk} {qi : ℕ} {l : Vec Ideal S1x1x1024 .f32} {oa ob : Vec Ideal S1x64x512 .f32} {g : Vec Ideal S1x128 .f32}
    {z : Vec Ideal S1x512x128 .bf16} (hl : IsL D qi qi l) (ha : IsO D qi qi 0 oa) (hb : IsO D qi qi 1 ob) (hg : IsG D g)
    (hz : IsZ D (512 * qi) z) :
    IsOut D qi (k0_pay393 (F := Ideal) (k0_pay390 l) (k0_pay391 l oa) (k0_pay392 l oa) ob g z) := by
  intro r c
  have hc := c.isLt
  pointwise [k0_pay393, k0_pay390, k0_pay391, k0_pay392]
  simp only [hl _, ha _ _, hb _ _, hg _, hz _ _]
  unfold outv rms
  congr 2
  split
  · next h =>
    simp only [Nat.div_eq_of_lt h, Nat.mod_eq_of_lt h, Nat.mul_zero, Nat.zero_add]
  · next h =>
    simp only [show c.val / 64 = 1 by omega, show c.val % 64 = c.val - 64 by omega, Nat.mul_one]

/-- An entry of a mask, in words: the key's row against the query's column within its head. -/
theorem mask_entry {n r c : ℕ} (hn : n < 4096) (hr : r < 4096) (hc : c < 2 * n) :
    Scalar.select (IntOp.cmpi .sle (BitVec.ofNat 32 r) (Scalar.select (IntOp.cmpi .sge (BitVec.ofNat 32 c) (BitVec.ofNat 32 n))
      (IntOp.subi (BitVec.ofNat 32 c) (BitVec.ofNat 32 n)) (BitVec.ofNat 32 c))) (0 : EReal) (Ideal.ofBits .f32 4286578688#32)
      = if r ≤ c % n then 0 else ⊥ := by
  have pick : ∀ (p : Prop) [Decidable p] {α : Type} (a b : α), Scalar.select (BitVec.ofBool (decide p)) a b = if p then a else b := by
    intro p _ α a b
    by_cases h : p <;> simp only [h, decide_true, decide_false, if_true, if_false] <;> rfl
  have hs : n ≤ c → IntOp.subi (BitVec.ofNat 32 c) (BitVec.ofNat 32 n) = BitVec.ofNat 32 (c - n) := by
    intro h
    apply BitVec.eq_of_toNat_eq
    simp only [IntOp.subi, BitVec.toNat_sub, BitVec.toNat_ofNat]
    omega
  rw [ofBits_neg_inf, WordCmp.cmpi_sge_ofNat (by omega) (by omega), pick]
  by_cases h : n ≤ c
  · rw [if_pos h, hs h, WordCmp.cmpi_sle_ofNat (by omega) (by omega), pick,
      Nat.mod_eq_sub_mod h, Nat.mod_eq_of_lt (by omega)]
  · rw [if_neg h, WordCmp.cmpi_sle_ofNat (by omega) (by omega), pick, Nat.mod_eq_of_lt (by omega)]

/-- The mask the first grid point writes for the first half's own keys. -/
theorem mask1a_ok (r : Fin 256) (c : Fin 1024) :
    k0_pay366 (F := Ideal) (ix2 r c) = if r.val ≤ c.val % 512 then 0 else ⊥ := by
  have hr := r.isLt
  have hc := c.isLt
  pointwise [k0_pay366]
  exact mask_entry (by omega) (by omega) (by omega)

/-- The rows of the meta positions are not masked. -/
theorem mask1b_ok (r : Fin 16) (c : Fin 1024) : k0_pay367 (F := Ideal) (ix2 r c) = 0 := by
  pointwise [k0_pay367]

/-- The mask of the second half. -/
theorem mask2_ok : IsMask2 (k0_pay368 (F := Ideal)) := by
  intro r c
  have hr := r.isLt
  have hc := c.isLt
  pointwise [k0_pay368]
  exact mask_entry (by omega) (by omega) (by omega)

end Cert.Flash

end
-- ==== Proof.Reads.lean ====
/- Reading the kernel's buffers back: what a load returns after a list of stores, and what the loads of the staged input
   blocks return, in the terms of `Model`. -/
module

public import proofs.«01_k».proof.Proof.Model
public import Idealize.ShloMosaic.Lib.Pipeline.FrameBody
public import Idealize.ShloMosaic.Lib.WholeRead

@[expose] public section

noncomputable section

namespace Cert.Flash

open Idealize.ShloMosaic Cert.KernelIdeal Cert.KernelIdeal.Gen
open Finset (Ico)

section Lists

variable {sig : RefSig} {κ : Kind} {sp : Space} {s : Shape} {e : EltTy}

/-- A load of exactly the last store's rectangle returns what was stored. -/
theorem read_head {v : View sig κ sp s e} {r : Rect s} {w : r.shape.Idx → Elt Ideal e} {L : List (View.Piece (Elt Ideal) s e)}
    {P : (r.shape.Idx → Elt Ideal e) → Prop} (h : P w) : P (v.readCov (⟨r, w⟩ :: L) r.toLoadRect) :=
  (View.readCov_cons_toLoadRect v r w L).symm ▸ h

/-- The same, for a three-axis buffer. -/
theorem head3 {n0 n1 n2 : ℕ} {v : View sig κ sp (⟨3, ![n0, n1, n2]⟩ : Shape) e} {o sz : Fin 3 → ℕ} {inb}
    {w : Vec Ideal ⟨3, sz⟩ e} {L : List (View.Piece (Elt Ideal) (⟨3, ![n0, n1, n2]⟩ : Shape) e)} {P : Vec Ideal ⟨3, sz⟩ e → Prop} (h : P w) :
    P (v.readCov (⟨Rect.unit (s := (⟨3, ![n0, n1, n2]⟩ : Shape)) o sz inb, w⟩ :: L)
      (Rect.unit (s := (⟨3, ![n0, n1, n2]⟩ : Shape)) o sz inb).toLoadRect) :=
  read_head h

/-- A store into another slab does not change what a load of this slab returns. -/
theorem read_skip {n0 n1 n2 : ℕ} {v : View sig κ sp (⟨3, ![n0, n1, n2]⟩ : Shape) e} {q q' o1 o2 o1' o2' : ℕ} {sz sz' : Fin 3 → ℕ}
    {inb} {inb'} {w} {L : List (View.Piece (Elt Ideal) (⟨3, ![n0, n1, n2]⟩ : Shape) e)}
    {P : ((Rect.unit (s := (⟨3, ![n0, n1, n2]⟩ : Shape)) ![q', o1', o2'] sz' inb').shape.Idx → Elt Ideal e) → Prop}
    (hq : q ≠ q') (hs : sz 0 = 1) (hs' : sz' 0 = 1)
    (h : P (v.readCov L (Rect.unit (s := (⟨3, ![n0, n1, n2]⟩ : Shape)) ![q', o1', o2'] sz' inb').toLoadRect)) :
    P (v.readCov (⟨Rect.unit (s := (⟨3, ![n0, n1, n2]⟩ : Shape)) ![q, o1, o2] sz inb, w⟩ :: L)
      (Rect.unit (s := (⟨3, ![n0, n1, n2]⟩ : Shape)) ![q', o1', o2'] sz' inb').toLoadRect) := by
  rw [View.readCov_cons_of_disjoint]
  · exact h
  · refine Rect.unit_disjoint (inb := inb) (0 : Fin 3) ?_
    show q + sz 0 ≤ q' ∨ q' + sz' 0 ≤ q
    omega

end Lists

/-! ## The running maxima and sums -/

variable {sig : RefSig} {κ : Kind} {sp : Space}

theorem inb_m {q : ℕ} {o : ℕ} {k : ℕ} (h : ∀ a, (![q, 0, o] : Fin 3 → ℕ) a + (![1, 1, k] : Fin 3 → ℕ) a ≤ S8x1x1024.size a) :
    ∀ a, (![q, 0, 0] : Fin 3 → ℕ) a + S1x1x1024.size a ≤ S8x1x1024.size a := by
  have h0 : q + 1 ≤ 8 := h 0
  intro a; fin_cases a
  · exact h0
  · exact le_refl 1
  · exact le_refl 1024

theorem inb_a {q o1 o2 k1 k2 : ℕ} (h : ∀ a, (![q, o1, o2] : Fin 3 → ℕ) a + (![1, k1, k2] : Fin 3 → ℕ) a ≤ S8x144x1024.size a) :
    ∀ a, (![q, 0, 0] : Fin 3 → ℕ) a + S1x144x1024.size a ≤ S8x144x1024.size a := by
  have h0 : q + 1 ≤ 8 := h 0
  intro a; fin_cases a
  · exact h0
  · exact le_refl 144
  · exact le_refl 1024

theorem unit_idx {n0 n1 n2 : ℕ} (off sz : Fin 3 → ℕ) (inb) (j : (Rect.unit (s := (⟨3, ![n0, n1, n2]⟩ : Shape)) off sz inb).shape.Idx)
    (i0 : Fin n0) (i1 : Fin n1) (i2 : Fin n2) (h0 : off 0 + (j 0).val = i0.val) (h1 : off 1 + (j 1).val = i1.val)
    (h2 : off 2 + (j 2).val = i2.val) :
    (Rect.unit (s := (⟨3, ![n0, n1, n2]⟩ : Shape)) off sz inb).toLoadRect.idx j = ix3 i0 i1 i2 := by
  funext a
  apply Fin.ext
  rw [LoadRect.idx_apply]
  fin_cases a
  · show off 0 + 1 * (j 0).val = i0.val; omega
  · show off 1 + 1 * (j 1).val = i1.val; omega
  · show off 2 + 1 * (j 2).val = i2.val; omega

/-- A slab whose two late quarters were stored last: the new values there, what was stored before elsewhere. -/
theorem canon_halves {n : ℕ} {e : EltTy} {q : ℕ} {inb1 inb2} {w1 w2 : (⟨3, ![1, n, 256]⟩ : Shape).Idx → Elt Ideal e}
    (L : List (View.Piece (Elt Ideal) (⟨3, ![8, n, 1024]⟩ : Shape) e)) (hq : q < 8) (r : Fin n) (c : Fin 1024) :
    View.canon (⟨Rect.unit (s := (⟨3, ![8, n, 1024]⟩ : Shape)) ![q, 0, 768] ![1, n, 256] inb1, w1⟩
        :: ⟨Rect.unit (s := (⟨3, ![8, n, 1024]⟩ : Shape)) ![q, 0, 256] ![1, n, 256] inb2, w2⟩ :: L) (ix3 ⟨q, hq⟩ r c)
      = if h : 768 ≤ c.val then w1 (ix3 0 r ⟨c.val - 768, by omega⟩)
        else if h : 256 ≤ c.val ∧ c.val < 512 then w2 (ix3 0 r ⟨c.val - 256, by omega⟩)
        else View.canon L (ix3 ⟨q, hq⟩ r c) := by
  by_cases h1 : 768 ≤ c.val
  · rw [dif_pos h1]
    rw [← unit_idx ![q, 0, 768] ![1, n, 256] inb1 (ix3 0 r ⟨c.val - 768, by omega⟩) ⟨q, hq⟩ r c rfl (Nat.zero_add _)
      (show 768 + (c.val - 768) = c.val by omega)]
    exact View.canon_cons_emb (Rect.unit (s := (⟨3, ![8, n, 1024]⟩ : Shape)) ![q, 0, 768] ![1, n, 256] inb1) w1 _ _
  · rw [dif_neg h1, View.canon_cons_of_not_mem]
    · by_cases h2 : 256 ≤ c.val ∧ c.val < 512
      · rw [dif_pos h2]
        rw [← unit_idx ![q, 0, 256] ![1, n, 256] inb2 (ix3 0 r ⟨c.val - 256, by omega⟩) ⟨q, hq⟩ r c rfl (Nat.zero_add _)
          (show 256 + (c.val - 256) = c.val by omega)]
        exact View.canon_cons_emb (Rect.unit (s := (⟨3, ![8, n, 1024]⟩ : Shape)) ![q, 0, 256] ![1, n, 256] inb2) w2 _ _
      · rw [dif_neg h2, View.canon_cons_of_not_mem]
        rw [Rect.mem_set_unit]
        intro h
        have := h 2
        have a1 : 256 ≤ c.val := this.1
        have a2 : c.val < 256 + 256 := this.2
        omega
    · rw [Rect.mem_set_unit]
      intro h
      have a1 : 768 ≤ c.val := (h 2).1
      omega

/-- The running maximum of a slab after the second half's two stores. -/
theorem read_m_halves {v : View sig κ sp S8x1x1024 .f32} {D : Blk} {qi q : ℕ} {inb1 inb2 inb} {w1 w2 : Vec Ideal S1x1x256 .f32}
    {L : List (View.Piece (Elt Ideal) S8x1x1024 .f32)} (h1 : IsM2 D qi 768 w1) (h2 : IsM2 D qi 256 w2)
    (h : IsM1 D qi (v.readCov L (Rect.unit (s := S8x1x1024) ![q, 0, 0] S1x1x1024.size inb).toLoadRect)) :
    IsM D qi 0 (v.readCov (⟨Rect.unit (s := S8x1x1024) ![q, 0, 768] S1x1x256.size inb1, w1⟩
        :: ⟨Rect.unit (s := S8x1x1024) ![q, 0, 256] S1x1x256.size inb2, w2⟩ :: L)
      (Rect.unit (s := S8x1x1024) ![q, 0, 0] S1x1x1024.size inb).toLoadRect) := by
  have hq : q < 8 := inb 0
  intro c
  have hc := c.isLt
  have e := h c
  rw [View.readCov_eq_canon'] at e ⊢
  dsimp only at e ⊢
  rw [unit_idx _ _ _ _ (⟨q, hq⟩ : Fin 8) (0 : Fin 1) c rfl rfl (Nat.zero_add _)] at e ⊢
  refine (canon_halves L hq 0 c).trans ?_
  by_cases a1 : 768 ≤ c.val
  · rw [dif_pos a1, h1 ⟨c.val - 768, by omega⟩]
    simp only [show 768 + (c.val - 768) = c.val by omega]; rfl
  · rw [dif_neg a1]
    by_cases a2 : 256 ≤ c.val ∧ c.val < 512
    · rw [dif_pos a2, h2 ⟨c.val - 256, by omega⟩]
      simp only [show 256 + (c.val - 256) = c.val by omega]; rfl
    · rw [dif_neg a2, e, keysN, keys2, if_neg (by omega)]

/-- The running sums of a slab after the second half's two stores. -/
theorem read_a_halves {v : View sig κ sp S8x144x1024 .f32} {D : Blk} {qi q : ℕ} {inb1 inb2 inb} {w1 w2 : Vec Ideal S1x144x256 .f32}
    {L : List (View.Piece (Elt Ideal) S8x144x1024 .f32)} (h1 : IsA2 D qi 768 w1) (h2 : IsA2 D qi 256 w2)
    (h : IsA1 D qi (v.readCov L (Rect.unit (s := S8x144x1024) ![q, 0, 0] S1x144x1024.size inb).toLoadRect)) :
    IsA D qi 0 (v.readCov (⟨Rect.unit (s := S8x144x1024) ![q, 0, 768] S1x144x256.size inb1, w1⟩
        :: ⟨Rect.unit (s := S8x144x1024) ![q, 0, 256] S1x144x256.size inb2, w2⟩ :: L)
      (Rect.unit (s := S8x144x1024) ![q, 0, 0] S1x144x1024.size inb).toLoadRect) := by
  have hq : q < 8 := inb 0
  intro r c
  have hc := c.isLt
  have e := h r c
  rw [View.readCov_eq_canon'] at e ⊢
  dsimp only at e ⊢
  rw [unit_idx _ _ _ _ (⟨q, hq⟩ : Fin 8) r c rfl (Nat.zero_add _) (Nat.zero_add _)] at e ⊢
  refine (canon_halves L hq r c).trans ?_
  by_cases a1 : 768 ≤ c.val
  · rw [dif_pos a1, h1 r ⟨c.val - 768, by omega⟩]
    simp only [show 768 + (c.val - 768) = c.val by omega]; rfl
  · rw [dif_neg a1]
    by_cases a2 : 256 ≤ c.val ∧ c.val < 512
    · rw [dif_pos a2, h2 r ⟨c.val - 256, by omega⟩]
      simp only [show 256 + (c.val - 256) = c.val by omega]; rfl
    · rw [dif_neg a2, e, keysN, keys2, if_neg (by omega)]

/-- The sums of the weights are row 128 of a slab. -/
theorem read_l {v : View sig κ sp S8x144x1024 .f32} {D : Blk} {qi n q : ℕ} {inb}
    {L : List (View.Piece (Elt Ideal) S8x144x1024 .f32)}
    (h : IsA D qi n (v.readCov L (Rect.unit (s := S8x144x1024) ![q, 0, 0] S1x144x1024.size (inb_a inb)).toLoadRect)) :
    IsL D qi n (v.readCov L (Rect.unit (s := S8x144x1024) ![q, 128, 0] S1x1x1024.size inb).toLoadRect) := by
  have hq : q < 8 := inb 0
  intro c
  have e := h 128 c
  rw [View.readCov_eq_canon'] at e ⊢
  dsimp only at e ⊢
  rw [unit_idx _ _ _ _ (⟨q, hq⟩ : Fin 8) (128 : Fin 144) c rfl rfl (Nat.zero_add _)] at e ⊢
  exact e

/-- A head's weighted values are 64 rows of a slab, in its columns. -/
theorem read_o {v : View sig κ sp S8x144x1024 .f32} {D : Blk} {qi n q o1 o2 : ℕ} (hd : ℕ) {inb}
    {L : List (View.Piece (Elt Ideal) S8x144x1024 .f32)} (hh : hd < 2) (e1 : o1 = 64 * hd) (e2 : o2 = 512 * hd)
    (h : IsA D qi n (v.readCov L (Rect.unit (s := S8x144x1024) ![q, 0, 0] S1x144x1024.size (inb_a inb)).toLoadRect)) :
    IsO D qi n hd (v.readCov L (Rect.unit (s := S8x144x1024) ![q, o1, o2] S1x64x512.size inb).toLoadRect) := by
  have hq : q < 8 := inb 0
  subst e1 e2
  intro r c
  have hr := r.isLt
  have hc := c.isLt
  have e := h ⟨64 * hd + r.val, by omega⟩ ⟨512 * hd + c.val, by omega⟩
  rw [View.readCov_eq_canon'] at e ⊢
  dsimp only at e ⊢
  rw [unit_idx _ _ _ _ (⟨q, hq⟩ : Fin 8) (⟨64 * hd + r.val, by omega⟩ : Fin 144) (⟨512 * hd + c.val, by omega⟩ : Fin 1024) rfl] at e ⊢
  · exact e
  · rfl
  · rfl
  · exact Nat.zero_add _
  · exact Nat.zero_add _

/-! ## The staged blocks -/

section Staged

variable {D : Blk}

/-- A block's contents at literal coordinates, whatever was read of it through a load. -/
theorem staged3 {n0 n1 n2 : ℕ} {e : EltTy} {m : Memref sig κ sp (⟨3, ![n0, n1, n2]⟩ : Shape) e} (hm : m.IsWhole)
    (x : (⟨3, ![n0, n1, n2]⟩ : Shape).Idx → Elt Ideal e) (off sz : Fin 3 → ℕ) (inb)
    (j : (Rect.unit (s := (⟨3, ![n0, n1, n2]⟩ : Shape)) off sz inb).shape.Idx)
    (i0 : Fin n0) (i1 : Fin n1) (i2 : Fin n2) (h0 : off 0 + (j 0).val = i0.val) (h1 : off 1 + (j 1).val = i1.val)
    (h2 : off 2 + (j 2).val = i2.val) :
    View.readAt (Elt Ideal) m.view (Rect.unit (s := (⟨3, ![n0, n1, n2]⟩ : Shape)) off sz inb).toLoadRect (hm.unread x) j = x (ix3 i0 i1 i2) := by
  rw [View.readAt_apply, hm.read_unread, unit_idx off sz inb j i0 i1 i2 h0 h1 h2]

/-- Keys read from a staged block. -/
theorem read_k {m : Memref sig κ sp S1x4096x256 .bf16} {hm : m.IsWhole} {x : Vec Ideal S1x4096x256 .bf16} {o : ℕ} {inb}
    (hx : ∀ (r : Fin 4096) (j : Fin 256), x (ix3 0 r j) = D.k r j) :
    IsK D o (View.readAt (Elt Ideal) m.view (Rect.unit (s := S1x4096x256) ![0, o, 0] S1x512x256.size inb).toLoadRect (hm.unread x)) := by
  intro r j
  have h : o + 512 ≤ 4096 := inb 1
  have hr := r.isLt
  exact (staged3 hm x _ _ inb _ 0 ⟨o + r.val, by omega⟩ j rfl rfl (Nat.zero_add _)).trans (hx _ _)

/-- Half as many keys. -/
theorem read_kh {m : Memref sig κ sp S1x4096x256 .bf16} {hm : m.IsWhole} {x : Vec Ideal S1x4096x256 .bf16} {o : ℕ} {inb}
    (hx : ∀ (r : Fin 4096) (j : Fin 256), x (ix3 0 r j) = D.k r j) :
    IsKh D o (View.readAt (Elt Ideal) m.view (Rect.unit (s := S1x4096x256) ![0, o, 0] S1x256x256.size inb).toLoadRect (hm.unread x)) := by
  intro r j
  have h : o + 256 ≤ 4096 := inb 1
  have hr := r.isLt
  exact (staged3 hm x _ _ inb _ 0 ⟨o + r.val, by omega⟩ j rfl rfl (Nat.zero_add _)).trans (hx _ _)

/-- Values read from a staged block. -/
theorem read_v {m : Memref sig κ sp S1x128x4096 .bf16} {hm : m.IsWhole} {x : Vec Ideal S1x128x4096 .bf16} {o : ℕ} {inb}
    (hx : ∀ (r : Fin 128) (j : Fin 4096), x (ix3 0 r j) = D.v r j) :
    IsV D o (View.readAt (Elt Ideal) m.view (Rect.unit (s := S1x128x4096) ![0, 0, o] S1x128x512.size inb).toLoadRect (hm.unread x)) := by
  intro r j
  have h : o + 512 ≤ 4096 := inb 2
  have hj := j.isLt
  exact (staged3 hm x _ _ inb _ 0 r ⟨o + j.val, by omega⟩ rfl (Nat.zero_add _) rfl).trans (hx _ _)

/-- Half as many values. -/
theorem read_vh {m : Memref sig κ sp S1x128x4096 .bf16} {hm : m.IsWhole} {x : Vec Ideal S1x128x4096 .bf16} {o : ℕ} {inb}
    (hx : ∀ (r : Fin 128) (j : Fin 4096), x (ix3 0 r j) = D.v r j) :
    IsVh D o (View.readAt (Elt Ideal) m.view (Rect.unit (s := S1x128x4096) ![0, 0, o] S1x128x256.size inb).toLoadRect (hm.unread x)) := by
  intro r j
  have h : o + 256 ≤ 4096 := inb 2
  have hj := j.isLt
  exact (staged3 hm x _ _ inb _ 0 r ⟨o + j.val, by omega⟩ rfl (Nat.zero_add _) rfl).trans (hx _ _)

/-- The gate read from a staged block. -/
theorem read_z {m : Memref sig κ sp S1x4096x128 .bf16} {hm : m.IsWhole} {x : Vec Ideal S1x4096x128 .bf16} {o : ℕ} {inb}
    (hx : ∀ (r : Fin 4096) (j : Fin 128), x (ix3 0 r j) = D.z r j) :
    IsZ D o (View.readAt (Elt Ideal) m.view (Rect.unit (s := S1x4096x128) ![0, o, 0] S1x512x128.size inb).toLoadRect (hm.unread x)) := by
  intro r j
  have h : o + 512 ≤ 4096 := inb 1
  have hr := r.isLt
  exact (staged3 hm x _ _ inb _ 0 ⟨o + r.val, by omega⟩ j rfl rfl (Nat.zero_add _)).trans (hx _ _)

theorem unit_idx2 {n0 n1 : ℕ} (off sz : Fin 2 → ℕ) (inb) (j : (Rect.unit (s := (⟨2, ![n0, n1]⟩ : Shape)) off sz inb).shape.Idx)
    (i0 : Fin n0) (i1 : Fin n1) (h0 : off 0 + (j 0).val = i0.val) (h1 : off 1 + (j 1).val = i1.val) :
    (Rect.unit (s := (⟨2, ![n0, n1]⟩ : Shape)) off sz inb).toLoadRect.idx j = ix2 i0 i1 := by
  funext a
  apply Fin.ext
  rw [LoadRect.idx_apply]
  fin_cases a
  · show off 0 + 1 * (j 0).val = i0.val; omega
  · show off 1 + 1 * (j 1).val = i1.val; omega

/-- A whole two-axis block read back is the block. -/
theorem read_whole {n0 n1 : ℕ} {e : EltTy} {m : Memref sig κ sp (⟨2, ![n0, n1]⟩ : Shape) e} {hm : m.IsWhole}
    {x : (⟨2, ![n0, n1]⟩ : Shape).Idx → Elt Ideal e} {inb} {P : ((⟨2, ![n0, n1]⟩ : Shape).Idx → Elt Ideal e) → Prop} (h : P x) :
    P (View.readAt (Elt Ideal) m.view (Rect.unit (s := (⟨2, ![n0, n1]⟩ : Shape)) ![0, 0] (⟨2, ![n0, n1]⟩ : Shape).size inb).toLoadRect (hm.unread x)) := by
  have : View.readAt (Elt Ideal) m.view (Rect.unit (s := (⟨2, ![n0, n1]⟩ : Shape)) ![0, 0] (⟨2, ![n0, n1]⟩ : Shape).size inb).toLoadRect (hm.unread x) = x := by
    funext j
    rw [View.readAt_apply, hm.read_unread]
    congr 1
    funext a
    apply Fin.ext
    rw [LoadRect.idx_apply]
    fin_cases a
    · show 0 + 1 * (j 0).val = (j 0).val; omega
    · show 0 + 1 * (j 1).val = (j 1).val; omega
  rw [this]; exact h

/-- The first mask after its two stores: the rows of the half's own keys, then the meta positions' rows. -/
theorem canon_mask {inb1 inb2} {w1 : Vec Ideal S16x1024 .f32} {w2 : Vec Ideal S256x1024 .f32} {L : List (View.Piece (Elt Ideal) S272x1024 .f32)}
    (h1 : ∀ r c, w1 (ix2 r c) = 0) (h2 : ∀ (r : Fin 256) (c : Fin 1024), w2 (ix2 r c) = if r.val ≤ c.val % 512 then 0 else ⊥) :
    IsMask1 (View.canon (⟨Rect.unit (s := S272x1024) ![256, 0] S16x1024.size inb1, w1⟩
        :: ⟨Rect.unit (s := S272x1024) ![0, 0] S256x1024.size inb2, w2⟩ :: L)) := by
  intro r c
  have hr := r.isLt
  have hc := c.isLt
  by_cases h : 256 ≤ r.val
  · rw [if_pos (Or.inr h), ← unit_idx2 ![256, 0] S16x1024.size inb1 (ix2 ⟨r.val - 256, by omega⟩ c) r c
      (show 256 + (r.val - 256) = r.val by omega) (Nat.zero_add _)]
    exact (View.canon_cons_emb (Rect.unit (s := S272x1024) ![256, 0] S16x1024.size inb1) w1 _ _).trans (h1 _ _)
  · rw [View.canon_cons_of_not_mem]
    · rw [← unit_idx2 ![0, 0] S256x1024.size inb2 (ix2 ⟨r.val, by omega⟩ c) r c (Nat.zero_add _) (Nat.zero_add _)]
      refine (View.canon_cons_emb (Rect.unit (s := S272x1024) ![0, 0] S256x1024.size inb2) w2 _ _).trans
        ((h2 _ _).trans ?_)
      exact if_congr ⟨Or.inl, fun h' => h'.resolve_right h⟩ rfl rfl
    · rw [Rect.mem_set_unit]
      intro hm
      exact h (hm 0).1

/-- The first mask after the kernel's two stores. -/
theorem canon_mask1 {inb1 inb2} {L : List (View.Piece (Elt Ideal) S272x1024 .f32)} :
    IsMask1 (View.canon (⟨Rect.unit (s := S272x1024) ![256, 0] S16x1024.size inb1, k0_pay367 (F := Ideal)⟩
        :: ⟨Rect.unit (s := S272x1024) ![0, 0] S256x1024.size inb2, k0_pay366 (F := Ideal)⟩ :: L)) :=
  canon_mask mask1b_ok mask1a_ok

/-- The first mask, read whole after its two stores. -/
theorem read_mask1 {v : View sig κ sp S272x1024 .f32} {inb inb1 inb2} {L : List (View.Piece (Elt Ideal) S272x1024 .f32)} :
    IsMask1 (v.readCov (⟨Rect.unit (s := S272x1024) ![256, 0] S16x1024.size inb1, k0_pay367 (F := Ideal)⟩
        :: ⟨Rect.unit (s := S272x1024) ![0, 0] S256x1024.size inb2, k0_pay366 (F := Ideal)⟩ :: L)
      (Rect.unit (s := S272x1024) ![0, 0] S272x1024.size inb).toLoadRect) := by
  intro r c
  have e := canon_mask1 (inb1 := inb1) (inb2 := inb2) (L := L) r c
  rw [View.readCov_eq_canon']
  dsimp only
  rw [unit_idx2 _ _ _ _ r c (Nat.zero_add _) (Nat.zero_add _)]
  exact e

end Staged

/-! ## The output's stores -/

/-- The first `n` blocks of 512 rows hold their results. -/
def OutTo (D : Blk) (n : ℕ) (L : List (View.Piece (Elt Ideal) S1x4096x128 .bf16)) : Prop :=
  ∀ (q : ℕ) (r : Fin 512) (c : Fin 128) (h : 512 * q + r.val < 4096), q < n → View.canon L (ix3 0 ⟨512 * q + r.val, h⟩ c) = outv D q r c

theorem out_nil {D : Blk} : OutTo D 0 [] := fun _ _ _ _ h => absurd h (Nat.not_lt_zero _)

theorem out_cons {D : Blk} {n o : ℕ} {inb} {w : Vec Ideal S1x512x128 .bf16} {L : List (View.Piece (Elt Ideal) S1x4096x128 .bf16)}
    (ho : o = 512 * n) (hw : IsOut D n w) (hL : OutTo D n L) :
    OutTo D (n + 1) (⟨Rect.unit (s := S1x4096x128) ![0, o, 0] S1x512x128.size inb, w⟩ :: L) := by
  subst ho
  intro q r c h hq
  have hr := r.isLt
  by_cases e : q = n
  · subst e
    rw [← unit_idx ![0, 512 * q, 0] S1x512x128.size inb (ix3 0 r c) 0 ⟨512 * q + r.val, h⟩ c rfl rfl (Nat.zero_add _)]
    exact (View.canon_cons_emb (Rect.unit (s := S1x4096x128) ![0, 512 * q, 0] S1x512x128.size inb) w L (ix3 0 r c)).trans (hw r c)
  · rw [View.canon_cons_of_not_mem]
    · exact hL q r c h (by omega)
    · rw [Rect.mem_set_unit]
      intro hm
      have a1 : 512 * n ≤ 512 * q + r.val := (hm 1).1
      omega

end Cert.Flash

end
-- ==== Proof.CaseA.lean ====
/- The first grid point, which writes the masks: what its eight output stores hold. The generated terms nest
   the loads and stores of the whole schedule; each is read by the step it comes from. -/
module

public import proofs.«01_k».proof.Proof.Reads
public import proofs.«01_k».proof.Proof.Gen.KernelIdeal.Frame

@[expose] public section

noncomputable section

namespace Cert.Flash

open Idealize.ShloMosaic Cert.KernelIdeal Cert.KernelIdeal.Gen
open Idealize.ShloMosaic.TcCoe Idealize.SL

attribute [local irreducible] View.readCov IsQ IsK IsKh IsKm IsV IsVh IsVm IsMask1 IsMask2 IsSD1 IsMD1 IsSD2 IsMD2 IsSU IsMU
  IsM1 IsA1 IsM2 IsA2 IsM IsA IsL IsO IsZ IsG IsOut
attribute [local irreducible] shapeCast extractStridedSlice constant mulf broadcastTo concatenate subf broadcast addf
  multiReduction truncf maximumf rsqrt divf transpose extf exp

set_option maxRecDepth 100000 in
set_option maxHeartbeats 20000000 in
/-- The stores of the first grid point hold the gated, normalised outputs of all eight query blocks. -/
theorem stores_A (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole) (hc0 : cond0_0 i) (hc1 : cond0_1 i) (hc2 : cond0_2 i)
    (x0 : Vec Ideal S1x128x4096 .bf16) (x1 : Vec Ideal S1x4096x256 .bf16) (x2 : Vec Ideal S1x128x4096 .bf16) (x3 : Vec Ideal S16x256 .bf16) (x4 : Vec Ideal S128x16 .bf16) (x5 : Vec Ideal S1x4096x128 .bf16) (x6 : Vec Ideal S1x128 .f32)
    {D : Blk}
    (hq : ∀ (qi : ℕ) inb, IsQ D qi (arg10.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 1)) (harg2.unread x0) (Scf.trips k0_t1_loop.lb k0_t1_loop.ub k0_t1_loop.st)) (Rect.unit (s := S8x128x1024) ![qi, 0, 0] S1x128x1024.size inb).toLoadRect))
    (hk : ∀ (r : Fin 4096) (j : Fin 256), x1 (ix3 0 r j) = D.k r j) (hv : ∀ (r : Fin 128) (j : Fin 4096), x2 (ix3 0 r j) = D.v r j)
    (hkm : IsKm D x3) (hvm : IsVm D x4) (hz : ∀ (r : Fin 4096) (j : Fin 128), x5 (ix3 0 r j) = D.z r j) (hg : IsG D x6) :
    OutTo D 8 (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6).1 := by
  refine out_cons rfl ?_ (out_cons rfl ?_ (out_cons rfl ?_ (out_cons rfl ?_ (out_cons rfl ?_ (out_cons rfl ?_ (out_cons rfl ?_ (out_cons rfl ?_ out_nil)))))))
  all_goals repeat' first
    | exact hq _ _
    | exact read_k hk
    | exact read_kh hk
    | exact read_v hv
    | exact read_vh hv
    | exact read_z hz
    | exact read_whole hkm
    | exact read_whole hvm
    | exact read_whole hg
    | exact read_mask1
    | exact read_head mask2_ok
    | refine out_ok ?_ ?_ ?_ ?_ ?_
    | refine read_l ?_
    | refine read_o _ (by decide) rfl rfl ?_
    | refine read_a_halves ?_ ?_ ?_
    | refine read_m_halves ?_ ?_ ?_
    | refine head3 (P := IsA _ _ _) (a_ok (by decide) (by decide) ?_ ?_ ?_ ?_ ?_)
    | refine head3 (P := IsM _ _ _) (m_ok ?_ ?_)
    | refine head3 (P := IsSU _ _ _) (su_ok (by decide) (by decide) ?_ ?_)
    | refine head3 (P := IsMU _ _ _) (mu_ok (by decide) (by decide) ?_ ?_)
    | refine head3 (P := IsA1 _ _) (a1_ok (by decide) ?_ ?_ ?_ ?_)
    | refine head3 (P := IsM1 _ _) (m1_ok ?_)
    | refine head3 (P := IsSD1 _ _) (sd1_ok (by decide) ?_ ?_ ?_ ?_)
    | refine head3 (P := IsMD1 _ _) (md1_ok (by decide) ?_ ?_ ?_ ?_)
    | refine head3 (P := IsSD2 _ _) (sd2_ok (by decide) ?_ ?_ ?_)
    | refine head3 (P := IsMD2 _ _) (md2_ok (by decide) ?_ ?_ ?_)
    | refine a2a_ok (by decide) ?_ ?_ ?_ ?_ ?_
    | refine a2b_ok (by decide) ?_ ?_ ?_ ?_ ?_
    | refine m2a_ok ?_ ?_
    | refine m2b_ok ?_ ?_
    | refine read_skip (by decide) rfl rfl ?_

end Cert.Flash

end
-- ==== Proof.CaseB.lean ====
/- Every later grid point, which finds the masks written: what its eight output stores hold. The generated terms nest
   the loads and stores of the whole schedule; each is read by the step it comes from. -/
module

public import proofs.«01_k».proof.Proof.Reads
public import proofs.«01_k».proof.Proof.Gen.KernelIdeal.Frame

@[expose] public section

noncomputable section

namespace Cert.Flash

open Idealize.ShloMosaic Cert.KernelIdeal Cert.KernelIdeal.Gen
open Idealize.ShloMosaic.TcCoe Idealize.SL

attribute [local irreducible] View.readCov IsQ IsK IsKh IsKm IsV IsVh IsVm IsMask1 IsMask2 IsSD1 IsMD1 IsSD2 IsMD2 IsSU IsMU
  IsM1 IsA1 IsM2 IsA2 IsM IsA IsL IsO IsZ IsG IsOut
attribute [local irreducible] shapeCast extractStridedSlice constant mulf broadcastTo concatenate subf broadcast addf
  multiReduction truncf maximumf rsqrt divf transpose extf exp

set_option maxRecDepth 100000 in
set_option maxHeartbeats 20000000 in
/-- The stores of a later grid point hold the gated, normalised outputs of all eight query blocks. -/
theorem stores_B (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole) (hc0 : ¬cond0_0 i) (hc1 : cond0_1 i) (hc2 : cond0_2 i)
    (x0 : Vec Ideal S1x128x4096 .bf16) (x1 : Vec Ideal S1x4096x256 .bf16) (x2 : Vec Ideal S1x128x4096 .bf16) (x3 : Vec Ideal S16x256 .bf16) (x4 : Vec Ideal S128x16 .bf16) (x5 : Vec Ideal S1x4096x128 .bf16) (x6 : Vec Ideal S1x128 .f32) (xs7 : Vec Ideal S272x1024 .f32) (xs8 : Vec Ideal S256x512 .f32)
    {D : Blk}
    (hq : ∀ (qi : ℕ) inb, IsQ D qi (arg10.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 1)) (harg2.unread x0) (Scf.trips k0_t1_loop.lb k0_t1_loop.ub k0_t1_loop.st)) (Rect.unit (s := S8x128x1024) ![qi, 0, 0] S1x128x1024.size inb).toLoadRect))
    (hk : ∀ (r : Fin 4096) (j : Fin 256), x1 (ix3 0 r j) = D.k r j) (hv : ∀ (r : Fin 128) (j : Fin 4096), x2 (ix3 0 r j) = D.v r j)
    (hkm : IsKm D x3) (hvm : IsVm D x4) (hz : ∀ (r : Fin 4096) (j : Fin 128), x5 (ix3 0 r j) = D.z r j) (hg : IsG D x6)
    (h1 : IsMask1 xs7) (h2 : IsMask2 xs8) :
    OutTo D 8 (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 xs7 xs8).1 := by
  refine out_cons rfl ?_ (out_cons rfl ?_ (out_cons rfl ?_ (out_cons rfl ?_ (out_cons rfl ?_ (out_cons rfl ?_ (out_cons rfl ?_ (out_cons rfl ?_ out_nil)))))))
  all_goals repeat' first
    | exact hq _ _
    | exact read_k hk
    | exact read_kh hk
    | exact read_v hv
    | exact read_vh hv
    | exact read_z hz
    | exact read_whole hkm
    | exact read_whole hvm
    | exact read_whole hg
    | exact read_whole h1
    | exact read_whole h2
    | refine out_ok ?_ ?_ ?_ ?_ ?_
    | refine read_l ?_
    | refine read_o _ (by decide) rfl rfl ?_
    | refine read_a_halves ?_ ?_ ?_
    | refine read_m_halves ?_ ?_ ?_
    | refine head3 (P := IsA _ _ _) (a_ok (by decide) (by decide) ?_ ?_ ?_ ?_ ?_)
    | refine head3 (P := IsM _ _ _) (m_ok ?_ ?_)
    | refine head3 (P := IsSU _ _ _) (su_ok (by decide) (by decide) ?_ ?_)
    | refine head3 (P := IsMU _ _ _) (mu_ok (by decide) (by decide) ?_ ?_)
    | refine head3 (P := IsA1 _ _) (a1_ok (by decide) ?_ ?_ ?_ ?_)
    | refine head3 (P := IsM1 _ _) (m1_ok ?_)
    | refine head3 (P := IsSD1 _ _) (sd1_ok (by decide) ?_ ?_ ?_ ?_)
    | refine head3 (P := IsMD1 _ _) (md1_ok (by decide) ?_ ?_ ?_ ?_)
    | refine head3 (P := IsSD2 _ _) (sd2_ok (by decide) ?_ ?_ ?_)
    | refine head3 (P := IsMD2 _ _) (md2_ok (by decide) ?_ ?_ ?_)
    | refine a2a_ok (by decide) ?_ ?_ ?_ ?_ ?_
    | refine a2b_ok (by decide) ?_ ?_ ?_ ?_ ?_
    | refine m2a_ok ?_ ?_
    | refine m2b_ok ?_ ?_
    | refine read_skip (by decide) rfl rfl ?_

end Cert.Flash

end
-- ==== Proof.Queries.lean ====
/- The query buffer: the loop over the eight query blocks writes each block's queries, one head beside the other, over the
   selectors of the heads' bias columns. -/
module

public import proofs.«01_k».proof.Proof.Reads
public import proofs.«01_k».proof.Proof.Gen.KernelIdeal.Loops

@[expose] public section

noncomputable section

namespace Cert.Flash

open Idealize.ShloMosaic Cert.KernelIdeal Cert.KernelIdeal.Gen
open Idealize.ShloMosaic.TcCoe Idealize.SL

/-- A store of a 64 by 512 box: the stored values inside it, what was stored before outside. -/
theorem canon_box {o0 o1 o2 : ℕ} {inb} {w : Vec Ideal S1x64x512 .bf16} {L : List (View.Piece (Elt Ideal) S8x128x1024 .bf16)}
    (p : Fin 8) (l : Fin 128) (c : Fin 1024) :
    View.canon (⟨Rect.unit (s := S8x128x1024) ![o0, o1, o2] S1x64x512.size inb, w⟩ :: L) (ix3 p l c)
      = if h : p.val = o0 ∧ (o1 ≤ l.val ∧ l.val < o1 + 64) ∧ (o2 ≤ c.val ∧ c.val < o2 + 512) then
          w (ix3 0 ⟨l.val - o1, by omega⟩ ⟨c.val - o2, by omega⟩)
        else View.canon L (ix3 p l c) := by
  by_cases h : p.val = o0 ∧ (o1 ≤ l.val ∧ l.val < o1 + 64) ∧ (o2 ≤ c.val ∧ c.val < o2 + 512)
  · rw [dif_pos h]
    rw [← unit_idx ![o0, o1, o2] S1x64x512.size inb (ix3 0 ⟨l.val - o1, by omega⟩ ⟨c.val - o2, by omega⟩) p l c h.1.symm
      (show o1 + (l.val - o1) = l.val by omega) (show o2 + (c.val - o2) = c.val by omega)]
    exact View.canon_cons_emb (Rect.unit (s := S8x128x1024) ![o0, o1, o2] S1x64x512.size inb) w L _
  · rw [dif_neg h, View.canon_cons_of_not_mem]
    rw [Rect.mem_set_unit]
    intro hm
    have a0 : o0 ≤ p.val := (hm 0).1
    have b0 : p.val < o0 + 1 := (hm 0).2
    have a1 : o1 ≤ l.val := (hm 1).1
    have b1 : l.val < o1 + 64 := (hm 1).2
    have a2 : o2 ≤ c.val := (hm 2).1
    have b2 : c.val < o2 + 512 := (hm 2).2
    exact h ⟨by omega, ⟨a1, b1⟩, a2, b2⟩

/-- One trip's four boxes fill its slab of the buffer and leave the other slabs alone. -/
theorem canon_trip {q : ℕ} {i1 i2 i3 i4} {w1 w2 w3 w4 : Vec Ideal S1x64x512 .bf16} {L : List (View.Piece (Elt Ideal) S8x128x1024 .bf16)} {D : Blk}
    (h1 : ∀ (l : Fin 64) (c : Fin 512), w1 (ix3 0 l c) = D.Q q l c)
    (h2 : ∀ (l : Fin 64) (c : Fin 512), w2 (ix3 0 l c) = D.Q q l (512 + c))
    (h3 : ∀ (l : Fin 64) (c : Fin 512), w3 (ix3 0 l c) = D.Q q (64 + l) c)
    (h4 : ∀ (l : Fin 64) (c : Fin 512), w4 (ix3 0 l c) = D.Q q (64 + l) (512 + c)) (p : Fin 8) (l : Fin 128) (c : Fin 1024) :
    View.canon (⟨Rect.unit (s := S8x128x1024) ![q, 64, 512] S1x64x512.size i4, w4⟩ :: ⟨Rect.unit (s := S8x128x1024) ![q, 64, 0] S1x64x512.size i3, w3⟩
        :: ⟨Rect.unit (s := S8x128x1024) ![q, 0, 512] S1x64x512.size i2, w2⟩ :: ⟨Rect.unit (s := S8x128x1024) ![q, 0, 0] S1x64x512.size i1, w1⟩ :: L)
      (ix3 p l c) = if p.val = q then D.Q q l c else View.canon L (ix3 p l c) := by
  have hl := l.isLt
  have hc := c.isLt
  rw [canon_box, canon_box, canon_box, canon_box]
  by_cases hp : p.val = q
  · rw [if_pos hp]
    by_cases a : 64 ≤ l.val <;> by_cases b : 512 ≤ c.val
    · rw [dif_pos (by omega), h4]
      simp only [show 64 + (l.val - 64) = l.val by omega, show 512 + (c.val - 512) = c.val by omega]
    · rw [dif_neg (by omega), dif_pos (by omega), h3]
      simp only [show 64 + (l.val - 64) = l.val by omega, Nat.sub_zero]
    · rw [dif_neg (by omega), dif_neg (by omega), dif_pos (by omega), h2]
      simp only [show 512 + (c.val - 512) = c.val by omega, Nat.sub_zero]
    · rw [dif_neg (by omega), dif_neg (by omega), dif_neg (by omega), dif_pos (by omega), h1]
      simp only [Nat.sub_zero]
  · rw [if_neg hp, dif_neg (by omega), dif_neg (by omega), dif_neg (by omega), dif_neg (by omega)]

/-- The kernel's remainder by eight of a row number. -/
theorem rem8 : ∀ l : Fin 64,
    Scalar.select (IntOp.andi (IntOp.xori (IntOp.cmpi .slt (IntOp.remsi .vector (BitVec.ofNat 32 l.val)
        (Scalar.select (Scalar.cmpi .eq 8#32 0#32) 1#32 8#32)) 0#32) (Scalar.cmpi .slt (Scalar.select (Scalar.cmpi .eq 8#32 0#32) 1#32 8#32) 0#32))
        (IntOp.cmpi .ne (IntOp.remsi .vector (BitVec.ofNat 32 l.val) (Scalar.select (Scalar.cmpi .eq 8#32 0#32) 1#32 8#32)) 0#32))
      (IntOp.addi (IntOp.remsi .vector (BitVec.ofNat 32 l.val) (Scalar.select (Scalar.cmpi .eq 8#32 0#32) 1#32 8#32))
        (Scalar.select (Scalar.cmpi .eq 8#32 0#32) 1#32 8#32))
      (IntOp.remsi .vector (BitVec.ofNat 32 l.val) (Scalar.select (Scalar.cmpi .eq 8#32 0#32) 1#32 8#32)) = BitVec.ofNat 32 (l.val % 8) := by
  decide

theorem pick_sel {p q : Prop} [Decidable p] [Decidable q] {α : Type} (a b : α) :
    Scalar.select (IntOp.andi (BitVec.ofBool (decide p)) (BitVec.ofBool (decide q))) a b = if p ∧ q then a else b := by
  by_cases hp : p <;> by_cases hq : q <;> simp only [hp, hq, decide_true, decide_false, and_true, and_false, if_true, if_false] <;> rfl

theorem off1_eq : ∀ k : Fin k0_t1_loop.trips, k0_off1 k = ![0, 0, 512 * k.val] := by decide
theorem off2_eq : ∀ k : Fin k0_t1_loop.trips, k0_off2 k = ![k.val, 0, 0] := by decide
theorem off3_eq : ∀ k : Fin k0_t1_loop.trips, k0_off3 k = ![k.val, 0, 512] := by decide
theorem off4_eq : ∀ k : Fin k0_t1_loop.trips, k0_off4 k = ![k.val, 64, 0] := by decide
theorem off5_eq : ∀ k : Fin k0_t1_loop.trips, k0_off5 k = ![k.val, 64, 512] := by decide

/-- The first head's selectors. -/
theorem sel_even (p : Fin 4) (l : Fin 64) (c : Fin 512) :
    k0_pay15 (F := Ideal) (k0_pay12 (BitVec.ofNat 32 p.val)) k0_pay13 k0_pay14 (ix3 0 l c)
      = if l.val % 8 = 2 * p.val ∧ l.val < 24 then (1 : EReal) else 0 := by
  have hp := p.isLt
  have hl := l.isLt
  have e : Scalar.muli (2#32) (BitVec.ofNat 32 p.val) = BitVec.ofNat 32 (2 * p.val) := by revert p; decide
  pointwise [k0_pay15, k0_pay12, k0_pay13, k0_pay14]
  rw [rem8, e, WordCmp.cmpi_eq_ofNat (by omega) (by omega), WordCmp.cmpi_slt_ofNat (by omega) (by omega), pick_sel]

/-- The second head's selectors. -/
theorem sel_odd (p : Fin 4) (l : Fin 64) (c : Fin 512) :
    k0_pay16 (F := Ideal) (BitVec.ofNat 32 p.val) (ix3 0 l c)
      = if l.val % 8 = 2 * p.val + 1 ∧ l.val < 24 then (1 : EReal) else 0 := by
  have hp := p.isLt
  have hl := l.isLt
  have e : Scalar.addi (Scalar.muli (2#32) (BitVec.ofNat 32 p.val)) 1#32 = BitVec.ofNat 32 (2 * p.val + 1) := by revert p; decide
  pointwise [k0_pay16]
  rw [rem8, e, WordCmp.cmpi_eq_ofNat (by omega) (by omega), WordCmp.cmpi_slt_ofNat (by omega) (by omega), pick_sel]

set_option maxHeartbeats 2000000 in
/-- What one trip stores: the two heads' queries of its block, and the two selectors. -/
theorem trip_pieces (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole)
    {D : Blk} (x0 : Vec Ideal S1x128x4096 .bf16) (hx : ∀ (r : Fin 128) (j : Fin 4096), x0 (ix3 0 r j) = D.q r j) (k : Fin k0_t1_loop.trips) :
    ∃ (i1 : ∀ a, (![k.val, 0, 0] : Fin 3 → ℕ) a + S1x64x512.size a ≤ S8x128x1024.size a)
      (i2 : ∀ a, (![k.val, 0, 512] : Fin 3 → ℕ) a + S1x64x512.size a ≤ S8x128x1024.size a)
      (i3 : ∀ a, (![k.val, 64, 0] : Fin 3 → ℕ) a + S1x64x512.size a ≤ S8x128x1024.size a)
      (i4 : ∀ a, (![k.val, 64, 512] : Fin 3 → ℕ) a + S1x64x512.size a ≤ S8x128x1024.size a) (w : Vec Ideal S1x128x512 .bf16),
      (∀ (r : Fin 128) (j : Fin 512), w (ix3 0 r j) = D.q r (512 * k.val + j)) ∧
      tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (harg2.unread x0) k
      = [⟨Rect.unit (s := S8x128x1024) ![k.val, 64, 512] S1x64x512.size i4, k0_pay16 (F := Ideal) (BitVec.ofNat 32 (i 1).val)⟩,
        ⟨Rect.unit (s := S8x128x1024) ![k.val, 64, 0] S1x64x512.size i3, k0_pay15 (F := Ideal) (k0_pay12 (BitVec.ofNat 32 (i 1).val)) k0_pay13 k0_pay14⟩,
        ⟨Rect.unit (s := S8x128x1024) ![k.val, 0, 512] S1x64x512.size i2, k0_pay11 (F := Ideal) w⟩,
        ⟨Rect.unit (s := S8x128x1024) ![k.val, 0, 0] S1x64x512.size i1, k0_pay10 (F := Ideal) w⟩] := by
  have e : tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (harg2.unread x0) k
      = [⟨Rect.unit (s := S8x128x1024) (k0_off5 k) S1x64x512.size (k0_off5_inb k), k0_pay16 (F := Ideal) (BitVec.ofNat 32 (i 1).val)⟩,
        ⟨Rect.unit (s := S8x128x1024) (k0_off4 k) S1x64x512.size (k0_off4_inb k), k0_pay15 (F := Ideal) (k0_pay12 (BitVec.ofNat 32 (i 1).val)) k0_pay13 k0_pay14⟩,
        ⟨Rect.unit (s := S8x128x1024) (k0_off3 k) S1x64x512.size (k0_off3_inb k), k0_pay11 (F := Ideal) (View.readAt (Elt Ideal) arg2.view (Rect.unit (s := S1x128x4096) (k0_off1 k) S1x128x512.size (k0_off1_inb k)).toLoadRect (harg2.unread x0))⟩,
        ⟨Rect.unit (s := S8x128x1024) (k0_off2 k) S1x64x512.size (k0_off2_inb k), k0_pay10 (F := Ideal) (View.readAt (Elt Ideal) arg2.view (Rect.unit (s := S1x128x4096) (k0_off1 k) S1x128x512.size (k0_off1_inb k)).toLoadRect (harg2.unread x0))⟩] := by
    unfold tripL_k0_t1 trip_k0_t1
    rfl
  have hk : k.val < 8 := k.isLt
  have a0 : k0_off1 k 0 = 0 := congrFun (off1_eq k) 0
  have a1 : k0_off1 k 1 = 0 := congrFun (off1_eq k) 1
  have a2 : k0_off1 k 2 = 512 * k.val := congrFun (off1_eq k) 2
  have hv : ∀ (r : Fin 128) (j : Fin 512), (View.readAt (Elt Ideal) arg2.view (Rect.unit (s := S1x128x4096) (k0_off1 k) S1x128x512.size (k0_off1_inb k)).toLoadRect (harg2.unread x0)) (ix3 0 r j) = D.q r (512 * k.val + j) := fun r j => by
    have hj := j.isLt
    refine (staged3 harg2 x0 _ _ (k0_off1_inb k) (ix3 0 r j) 0 r ⟨512 * k.val + j.val, by omega⟩ ?_ ?_ ?_).trans (hx _ _)
    · show k0_off1 k 0 + 0 = 0
      rw [a0]
    · show k0_off1 k 1 + r.val = r.val
      rw [a1, Nat.zero_add]
    · show k0_off1 k 2 + j.val = 512 * k.val + j.val
      rw [a2]
  generalize (View.readAt (Elt Ideal) arg2.view (Rect.unit (s := S1x128x4096) (k0_off1 k) S1x128x512.size (k0_off1_inb k)).toLoadRect (harg2.unread x0)) = w at e hv
  have g : ∀ (o2 o3 o4 o5 : Fin 3 → ℕ) (j2 j3 j4 j5) (h2 : o2 = ![k.val, 0, 0]) (h3 : o3 = ![k.val, 0, 512]) (h4 : o4 = ![k.val, 64, 0])
      (h5 : o5 = ![k.val, 64, 512]) (L : List (View.Piece (Elt Ideal) S8x128x1024 .bf16)),
      L = [⟨Rect.unit (s := S8x128x1024) o5 S1x64x512.size j5, k0_pay16 (F := Ideal) (BitVec.ofNat 32 (i 1).val)⟩,
        ⟨Rect.unit (s := S8x128x1024) o4 S1x64x512.size j4, k0_pay15 (F := Ideal) (k0_pay12 (BitVec.ofNat 32 (i 1).val)) k0_pay13 k0_pay14⟩,
        ⟨Rect.unit (s := S8x128x1024) o3 S1x64x512.size j3, k0_pay11 (F := Ideal) w⟩,
        ⟨Rect.unit (s := S8x128x1024) o2 S1x64x512.size j2, k0_pay10 (F := Ideal) w⟩] →
      ∃ i1 i2 i3 i4, L = [⟨Rect.unit (s := S8x128x1024) ![k.val, 64, 512] S1x64x512.size i4, k0_pay16 (F := Ideal) (BitVec.ofNat 32 (i 1).val)⟩,
        ⟨Rect.unit (s := S8x128x1024) ![k.val, 64, 0] S1x64x512.size i3, k0_pay15 (F := Ideal) (k0_pay12 (BitVec.ofNat 32 (i 1).val)) k0_pay13 k0_pay14⟩,
        ⟨Rect.unit (s := S8x128x1024) ![k.val, 0, 512] S1x64x512.size i2, k0_pay11 (F := Ideal) w⟩,
        ⟨Rect.unit (s := S8x128x1024) ![k.val, 0, 0] S1x64x512.size i1, k0_pay10 (F := Ideal) w⟩] := by
    intro o2 o3 o4 o5 j2 j3 j4 j5 h2 h3 h4 h5 L hL
    subst h2 h3 h4 h5
    exact ⟨j2, j3, j4, j5, hL⟩
  obtain ⟨i1, i2, i3, i4, hL⟩ := g _ _ _ _ _ _ _ _ (off2_eq k) (off3_eq k) (off4_eq k) (off5_eq k) _ e
  exact ⟨i1, i2, i3, i4, w, hv, hL⟩

/-- The buffer after the first `n` trips holds the first `n` query blocks. -/
theorem canon_queries (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole)
    {D : Blk} (x0 : Vec Ideal S1x128x4096 .bf16) (hx : ∀ (r : Fin 128) (j : Fin 4096), x0 (ix3 0 r j) = D.q r j) (hp : D.pr = (i 1).val)
    (n : ℕ) (hn : n ≤ k0_t1_loop.trips) (p : Fin 8) (hpn : p.val < n) (l : Fin 128) (cc : Fin 1024) :
    View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (harg2.unread x0) n) (ix3 p l cc) = D.Q p l cc := by
  induction n with
  | zero => exact absurd hpn (Nat.not_lt_zero _)
  | succ n ih =>
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (harg2.unread x0) ⟨n, hn⟩
    obtain ⟨i1, i2, i3, i4, w, hv, e2⟩ := trip_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 hx ⟨n, hn⟩
    rw [e2] at e
    have hn8 : n < 8 := hn
    refine (congrFun (congrArg View.canon e) _).trans ?_
    refine (canon_trip (D := D) (q := n) ?_ ?_ ?_ ?_ p l cc).trans ?_
    · intro l c
      have hl := l.isLt
      have hc := c.isLt
      have : k0_pay10 (F := Ideal) w (ix3 0 l c) = w (ix3 0 ⟨l.val, by omega⟩ c) := by pointwise [k0_pay10, k0_pay9]
      rw [this, hv, Blk.Q, if_pos hl, Nat.div_eq_of_lt hc, Nat.mod_eq_of_lt hc, Nat.mul_zero, Nat.zero_add]
    · intro l c
      have hl := l.isLt
      have hc := c.isLt
      have : k0_pay11 (F := Ideal) w (ix3 0 l c) = w (ix3 0 ⟨64 + l.val, by omega⟩ c) := by pointwise [k0_pay11, k0_pay9]
      rw [this, hv, Blk.Q, if_pos hl, show (512 + c.val) / 512 = 1 by omega, show (512 + c.val) % 512 = c.val by omega, Nat.mul_one]
    · intro l c
      have hl := l.isLt
      have hc := c.isLt
      refine (sel_even (i 1) l c).trans ?_
      rw [Blk.Q, if_neg (show ¬ 64 + l.val < 64 by omega), Nat.div_eq_of_lt hc, hp, Nat.add_sub_cancel_left, Nat.add_zero]
    · intro l c
      have hl := l.isLt
      have hc := c.isLt
      refine (sel_odd (i 1) l c).trans ?_
      rw [Blk.Q, if_neg (show ¬ 64 + l.val < 64 by omega), show (512 + c.val) / 512 = 1 by omega, hp, Nat.add_sub_cancel_left]
    · by_cases h : p.val = n
      · rw [if_pos h, h]
      · rw [if_neg h]
        exact ih (Nat.le_of_succ_le hn) (by omega)

/-- A load of a query block from the filled buffer. -/
theorem read_q (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole)
    {D : Blk} (x0 : Vec Ideal S1x128x4096 .bf16) (hx : ∀ (r : Fin 128) (j : Fin 4096), x0 (ix3 0 r j) = D.q r j) (hp : D.pr = (i 1).val)
    (qi : ℕ) (inb) : IsQ D qi (arg10.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (harg2.unread x0) (Scf.trips k0_t1_loop.lb k0_t1_loop.ub k0_t1_loop.st))
      (Rect.unit (s := S8x128x1024) ![qi, 0, 0] S1x128x1024.size inb).toLoadRect) := by
  have hq : qi < 8 := inb 0
  intro l cc
  rw [View.readCov_eq_canon']
  dsimp only
  rw [unit_idx _ _ _ _ (⟨qi, hq⟩ : Fin 8) l cc rfl (Nat.zero_add _) (Nat.zero_add _)]
  exact canon_queries c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 hx hp _ (le_refl _) _ hq l cc

end Cert.Flash

end
-- ==== Proof.Blocks.lean ====
/- What a grid point reads: each input window's block, entry by entry, in the arrays of the call. -/
module

public import proofs.«01_k».proof.Proof.Model
public import proofs.«01_k».proof.Proof.Gen.KernelIdeal.Frame

@[expose] public section

noncomputable section

namespace Cert.Flash

open Idealize.ShloMosaic Cert.KernelIdeal Cert.KernelIdeal.Gen
open Idealize.ShloMosaic.TcCoe Idealize.SL

/-- The data of batch `b` and pair of heads `p`, in the arrays of the call; zero outside them. -/
def blkOf (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) : Blk where
  q r j := if h : r < 128 ∧ j < 4096 then x0 (ix3 b ⟨128 * p.val + r, by omega⟩ ⟨j, h.2⟩) else 0
  k r j := if h : r < 4096 ∧ j < 256 then x1 (ix3 b ⟨r, h.1⟩ ⟨256 * p.val + j, by omega⟩) else 0
  v r j := if h : r < 128 ∧ j < 4096 then x2 (ix3 b ⟨128 * p.val + r, by omega⟩ ⟨j, h.2⟩) else 0
  km r j := if h : r < 16 ∧ j < 256 then x3 (ix2 ⟨r, h.1⟩ ⟨256 * p.val + j, by omega⟩) else 0
  vm r j := if h : r < 128 ∧ j < 16 then x4 (ix2 ⟨128 * p.val + r, by omega⟩ ⟨j, h.2⟩) else 0
  z r j := if h : r < 4096 ∧ j < 128 then x5 (ix3 b ⟨r, h.1⟩ ⟨128 * p.val + j, by omega⟩) else 0
  g j := if h : j < 128 then x6 (ix2 0 ⟨128 * p.val + j, by omega⟩) else 0
  pr := p.val

/-- The queries of `blkOf` inside their range. -/
theorem blkOf_q (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 128) (j : Fin 4096) :
    (blkOf x0 x1 x2 x3 x4 x5 x6 b p).q r j = x0 (ix3 b ⟨128 * p.val + r.val, by omega⟩ j) :=
  dif_pos (And.intro r.isLt j.isLt)

/-- The keys of `blkOf` inside their range. -/
theorem blkOf_k (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 4096) (j : Fin 256) :
    (blkOf x0 x1 x2 x3 x4 x5 x6 b p).k r j = x1 (ix3 b r ⟨256 * p.val + j.val, by omega⟩) :=
  dif_pos (And.intro r.isLt j.isLt)

/-- The values of `blkOf` inside their range. -/
theorem blkOf_v (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 128) (j : Fin 4096) :
    (blkOf x0 x1 x2 x3 x4 x5 x6 b p).v r j = x2 (ix3 b ⟨128 * p.val + r.val, by omega⟩ j) :=
  dif_pos (And.intro r.isLt j.isLt)

/-- The meta keys of `blkOf` inside their range. -/
theorem blkOf_km (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 16) (j : Fin 256) :
    (blkOf x0 x1 x2 x3 x4 x5 x6 b p).km r j = x3 (ix2 r ⟨256 * p.val + j.val, by omega⟩) :=
  dif_pos (And.intro r.isLt j.isLt)

/-- The meta values of `blkOf` inside their range. -/
theorem blkOf_vm (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 128) (j : Fin 16) :
    (blkOf x0 x1 x2 x3 x4 x5 x6 b p).vm r j = x4 (ix2 ⟨128 * p.val + r.val, by omega⟩ j) :=
  dif_pos (And.intro r.isLt j.isLt)

/-- The gate of `blkOf` inside their range. -/
theorem blkOf_z (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (r : Fin 4096) (j : Fin 128) :
    (blkOf x0 x1 x2 x3 x4 x5 x6 b p).z r j = x5 (ix3 b r ⟨128 * p.val + j.val, by omega⟩) :=
  dif_pos (And.intro r.isLt j.isLt)

/-- The norm's scales of `blkOf` inside their range. -/
theorem blkOf_g (x0 : Vec Ideal S8x512x4096 .bf16) (x1 : Vec Ideal S8x4096x1024 .bf16) (x2 : Vec Ideal S8x512x4096 .bf16) (x3 : Vec Ideal S16x1024 .bf16)
    (x4 : Vec Ideal S512x16 .bf16) (x5 : Vec Ideal S8x4096x512 .bf16) (x6 : Vec Ideal S1x512 .f32) (b : Fin 8) (p : Fin 4) (j : Fin 128) :
    (blkOf x0 x1 x2 x3 x4 x5 x6 b p).g j = x6 (ix2 0 ⟨128 * p.val + j.val, by omega⟩) :=
  dif_pos j.isLt

variable (m : (ℓ : Loc nD τ sig) → Buf (Elt Ideal) ℓ) (c : Dev nD)

/-- A grid point's batch and pair of heads. -/
theorem coords_at : ∀ t : Fin cfg0.N, (grid0.coords t 0).val = t.val / 4 ∧ (grid0.coords t 1).val = t.val % 4 :=
  (by decide +kernel : ∀ t : Fin grid0.N, _)

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem index2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem index3 : ∀ t : Fin cfg0.N, win0_3.index t (0 : Fin 2) = 0 ∧ win0_3.index t (1 : Fin 2) = t.val % 4 :=
  (by decide +kernel : ∀ t : Fin grid0.N, _)
theorem index4 : ∀ t : Fin cfg0.N, win0_4.index t (0 : Fin 2) = t.val % 4 ∧ win0_4.index t (1 : Fin 2) = 0 :=
  (by decide +kernel : ∀ t : Fin grid0.N, _)
theorem index5 : ∀ t : Fin cfg0.N, win0_5.index t (0 : Fin 3) = t.val / 4 ∧ win0_5.index t (1 : Fin 3) = 0 ∧ win0_5.index t (2 : Fin 3) = t.val % 4 :=
  (by decide +kernel : ∀ t : Fin grid0.N, _)
theorem index6 : ∀ t : Fin cfg0.N, win0_6.index t (0 : Fin 2) = 0 ∧ win0_6.index t (1 : Fin 2) = t.val % 4 :=
  (by decide +kernel : ∀ t : Fin grid0.N, _)

/-- The queries of a point: its batch, and the 128 rows of its pair of heads. -/
theorem blk0 (t : Fin cfg0.N) (b : Fin 8) (p : Fin 4) (hb : t.val / 4 = b.val) (hp : t.val % 4 = p.val) (r : Fin 128) (j : Fin 4096) :
    iblk m c 0 t (ix3 0 r j) = m ((c : Thread nD τ).loc main_arg0) (ix3 b ⟨128 * p.val + r.val, by omega⟩ j) := by
  obtain ⟨e0, e1, e2⟩ := index0 t
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 128 + 1 * r.val = 128 * p.val + r.val; omega
  | ⟨2, _⟩ => show win0_0.index t (2 : Fin 3) * 4096 + 1 * j.val = j.val; omega

/-- The keys of a point: its batch, and the 256 columns of its pair of heads. -/
theorem blk1 (t : Fin cfg0.N) (b : Fin 8) (p : Fin 4) (hb : t.val / 4 = b.val) (hp : t.val % 4 = p.val) (r : Fin 4096) (j : Fin 256) :
    iblk m c 1 t (ix3 0 r j) = m ((c : Thread nD τ).loc main_arg1) (ix3 b r ⟨256 * p.val + j.val, by omega⟩) := by
  obtain ⟨e0, e1, e2⟩ := index1 t
  refine congrArg (m ((c : Thread nD τ).loc main_arg1)) (funext fun a => Fin.ext ?_)
  match a with
  | ⟨0, _⟩ => show win0_1.index t (0 : Fin 3) * 1 + 1 * 0 = b.val; omega
  | ⟨1, _⟩ => show win0_1.index t (1 : Fin 3) * 4096 + 1 * r.val = r.val; omega
  | ⟨2, _⟩ => show win0_1.index t (2 : Fin 3) * 256 + 1 * j.val = 256 * p.val + j.val; omega

/-- The values of a point: its batch, and the 128 rows of its pair of heads. -/
theorem blk2 (t : Fin cfg0.N) (b : Fin 8) (p : Fin 4) (hb : t.val / 4 = b.val) (hp : t.val % 4 = p.val) (r : Fin 128) (j : Fin 4096) :
    iblk m c 2 t (ix3 0 r j) = m ((c : Thread nD τ).loc main_arg2) (ix3 b ⟨128 * p.val + r.val, by omega⟩ j) := by
  obtain ⟨e0, e1, e2⟩ := index2 t
  refine congrArg (m ((c : Thread nD τ).loc main_arg2)) (funext fun a => Fin.ext ?_)
  match a with
  | ⟨0, _⟩ => show win0_2.index t (0 : Fin 3) * 1 + 1 * 0 = b.val; omega
  | ⟨1, _⟩ => show win0_2.index t (1 : Fin 3) * 128 + 1 * r.val = 128 * p.val + r.val; omega
  | ⟨2, _⟩ => show win0_2.index t (2 : Fin 3) * 4096 + 1 * j.val = j.val; omega

/-- The meta positions' keys of a point's pair of heads. -/
theorem blk3 (t : Fin cfg0.N) (p : Fin 4) (hp : t.val % 4 = p.val) (r : Fin 16) (j : Fin 256) :
    iblk m c 3 t (ix2 r j) = m ((c : Thread nD τ).loc main_arg3) (ix2 r ⟨256 * p.val + j.val, by omega⟩) := by
  obtain ⟨e0, e1⟩ := index3 t
  refine congrArg (m ((c : Thread nD τ).loc main_arg3)) (funext fun a => Fin.ext ?_)
  match a with
  | ⟨0, _⟩ => show win0_3.index t (0 : Fin 2) * 16 + 1 * r.val = r.val; omega
  | ⟨1, _⟩ => show win0_3.index t (1 : Fin 2) * 256 + 1 * j.val = 256 * p.val + j.val; omega

/-- The meta positions' values of a point's pair of heads. -/
theorem blk4 (t : Fin cfg0.N) (p : Fin 4) (hp : t.val % 4 = p.val) (r : Fin 128) (j : Fin 16) :
    iblk m c 4 t (ix2 r j) = m ((c : Thread nD τ).loc main_arg4) (ix2 ⟨128 * p.val + r.val, by omega⟩ j) := by
  obtain ⟨e0, e1⟩ := index4 t
  refine congrArg (m ((c : Thread nD τ).loc main_arg4)) (funext fun a => Fin.ext ?_)
  match a with
  | ⟨0, _⟩ => show win0_4.index t (0 : Fin 2) * 128 + 1 * r.val = 128 * p.val + r.val; omega
  | ⟨1, _⟩ => show win0_4.index t (1 : Fin 2) * 16 + 1 * j.val = j.val; omega

/-- The gate of a point: its batch, and the 128 columns of its pair of heads. -/
theorem blk5 (t : Fin cfg0.N) (b : Fin 8) (p : Fin 4) (hb : t.val / 4 = b.val) (hp : t.val % 4 = p.val) (r : Fin 4096) (j : Fin 128) :
    iblk m c 5 t (ix3 0 r j) = m ((c : Thread nD τ).loc main_arg5) (ix3 b r ⟨128 * p.val + j.val, by omega⟩) := by
  obtain ⟨e0, e1, e2⟩ := index5 t
  refine congrArg (m ((c : Thread nD τ).loc main_arg5)) (funext fun a => Fin.ext ?_)
  match a with
  | ⟨0, _⟩ => show win0_5.index t (0 : Fin 3) * 1 + 1 * 0 = b.val; omega
  | ⟨1, _⟩ => show win0_5.index t (1 : Fin 3) * 4096 + 1 * r.val = r.val; omega
  | ⟨2, _⟩ => show win0_5.index t (2 : Fin 3) * 128 + 1 * j.val = 128 * p.val + j.val; omega

/-- The norm's scales of a point's pair of heads. -/
theorem blk6 (t : Fin cfg0.N) (p : Fin 4) (hp : t.val % 4 = p.val) (j : Fin 128) :
    iblk m c 6 t (ix2 0 j) = m ((c : Thread nD τ).loc main_arg6) (ix2 0 ⟨128 * p.val + j.val, by omega⟩) := by
  obtain ⟨e0, e1⟩ := index6 t
  refine congrArg (m ((c : Thread nD τ).loc main_arg6)) (funext fun a => Fin.ext ?_)
  match a with
  | ⟨0, _⟩ => show win0_6.index t (0 : Fin 2) * 1 + 1 * 0 = 0; omega
  | ⟨1, _⟩ => show win0_6.index t (1 : Fin 2) * 128 + 1 * j.val = 128 * p.val + j.val; omega

end Cert.Flash

end
-- ==== Proof.Points.lean ====
/- What each grid point leaves: the masks, and its block of the output. -/
module

public import proofs.«01_k».proof.Proof.CaseA
public import proofs.«01_k».proof.Proof.CaseB
public import proofs.«01_k».proof.Proof.Queries
public import proofs.«01_k».proof.Proof.Blocks
public import proofs.«01_k».proof.Proof.Gen.KernelIdeal.Value

@[expose] public section

noncomputable section

namespace Cert.Flash

open Idealize.ShloMosaic Cert.KernelIdeal Cert.KernelIdeal.Gen
open Idealize.ShloMosaic.TcCoe Idealize.SL

/-- The second mask, after the one store that writes it whole. -/
theorem canon_mask2 {inb} {w : Vec Ideal S256x512 .f32} {L : List (View.Piece (Elt Ideal) S256x512 .f32)} (h : IsMask2 w) :
    IsMask2 (View.canon (⟨Rect.unit (s := S256x512) ![0, 0] S256x512.size inb, w⟩ :: L)) := by
  intro r cc
  have hz : (Rect.unit (s := S256x512) ![0, 0] S256x512.size inb).emb (ix2 r cc) = ix2 r cc :=
    unit_idx2 _ _ _ _ r cc (Nat.zero_add _) (Nat.zero_add _)
  refine Eq.trans ?_ (h r cc)
  rw [← hz]
  exact (View.canon_cons_emb (Rect.unit (s := S256x512) ![0, 0] S256x512.size inb) w L (ix2 r cc)).trans (congrArg w hz.symm)

/-- The masks as the first grid point leaves them. -/
theorem masks_A (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole) (hc0 : cond0_0 i) (hc1 : cond0_1 i) (hc2 : cond0_2 i)
    (x0 : Vec Ideal S1x128x4096 .bf16) (x1 : Vec Ideal S1x4096x256 .bf16) (x2 : Vec Ideal S1x128x4096 .bf16) (x3 : Vec Ideal S16x256 .bf16) (x4 : Vec Ideal S128x16 .bf16) (x5 : Vec Ideal S1x4096x128 .bf16) (x6 : Vec Ideal S1x128 .f32) :
    IsMask1 (sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6) ∧ IsMask2 (sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6) := by
  constructor
  · unfold sout0_A_7
    rw [View.read_writes_junk_eq_canon]
    exact canon_mask1
  · unfold sout0_A_8
    rw [View.read_writes_junk_eq_canon]
    exact canon_mask2 mask2_ok

/-- The first grid point's block of the output. -/
theorem out_A (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole) (hc0 : cond0_0 i) (hc1 : cond0_1 i) (hc2 : cond0_2 i)
    (x0 : Vec Ideal S1x128x4096 .bf16) (x1 : Vec Ideal S1x4096x256 .bf16) (x2 : Vec Ideal S1x128x4096 .bf16) (x3 : Vec Ideal S16x256 .bf16) (x4 : Vec Ideal S128x16 .bf16) (x5 : Vec Ideal S1x4096x128 .bf16) (x6 : Vec Ideal S1x128 .f32)
    {D : Blk} (hp : D.pr = (i 1).val) (hx : ∀ (r : Fin 128) (j : Fin 4096), x0 (ix3 0 r j) = D.q r j)
    (hk : ∀ (r : Fin 4096) (j : Fin 256), x1 (ix3 0 r j) = D.k r j) (hv : ∀ (r : Fin 128) (j : Fin 4096), x2 (ix3 0 r j) = D.v r j)
    (hkm : IsKm D x3) (hvm : IsVm D x4) (hz : ∀ (r : Fin 4096) (j : Fin 128), x5 (ix3 0 r j) = D.z r j) (hg : IsG D x6)
    (q : ℕ) (r : Fin 512) (cc : Fin 128) (h : 512 * q + r.val < 4096) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 (ix3 0 ⟨512 * q + r.val, h⟩ cc) = outv D q r cc := by
  unfold out0_A_7
  rw [View.read_writes_junk_eq_canon]
  exact stores_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 (fun qi inb => read_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 hx hp qi inb) hk hv hkm hvm hz hg q r cc h (by omega)

/-- A later grid point's block of the output, over the masks that the first one left. -/
theorem out_B (c : Dev nD) (i : grid0.Coords) (arg2 : Memref sig .tc .vmem S1x128x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S16x256 .bf16) (harg5 : arg5.IsWhole) (arg6 : Memref sig .tc .vmem S128x16 .bf16) (harg6 : arg6.IsWhole) (arg7 : Memref sig .tc .vmem S1x4096x128 .bf16) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S8x128x1024 .bf16) (harg10 : arg10.IsWhole) (arg11 : Memref sig .tc .vmem S2x272x1024 .f32) (harg11 : arg11.IsWhole) (arg12 : Memref sig .tc .vmem S2x256x512 .f32) (harg12 : arg12.IsWhole) (arg13 : Memref sig .tc .vmem S2x512x1024 .f32) (harg13 : arg13.IsWhole) (arg14 : Memref sig .tc .vmem S2x1x1024 .f32) (harg14 : arg14.IsWhole) (arg15 : Memref sig .tc .vmem S2x1x512 .f32) (harg15 : arg15.IsWhole) (arg16 : Memref sig .tc .vmem S2x1x1024 .f32) (harg16 : arg16.IsWhole) (arg17 : Memref sig .tc .vmem S272x1024 .f32) (harg17 : arg17.IsWhole) (arg18 : Memref sig .tc .vmem S256x512 .f32) (harg18 : arg18.IsWhole) (arg19 : Memref sig .tc .vmem S8x1x1024 .f32) (harg19 : arg19.IsWhole) (arg20 : Memref sig .tc .vmem S8x144x1024 .f32) (harg20 : arg20.IsWhole) (hc0 : ¬cond0_0 i) (hc1 : cond0_1 i) (hc2 : cond0_2 i)
    (x0 : Vec Ideal S1x128x4096 .bf16) (x1 : Vec Ideal S1x4096x256 .bf16) (x2 : Vec Ideal S1x128x4096 .bf16) (x3 : Vec Ideal S16x256 .bf16) (x4 : Vec Ideal S128x16 .bf16) (x5 : Vec Ideal S1x4096x128 .bf16) (x6 : Vec Ideal S1x128 .f32) (xs7 : Vec Ideal S272x1024 .f32) (xs8 : Vec Ideal S256x512 .f32)
    {D : Blk} (hp : D.pr = (i 1).val) (hx : ∀ (r : Fin 128) (j : Fin 4096), x0 (ix3 0 r j) = D.q r j)
    (hk : ∀ (r : Fin 4096) (j : Fin 256), x1 (ix3 0 r j) = D.k r j) (hv : ∀ (r : Fin 128) (j : Fin 4096), x2 (ix3 0 r j) = D.v r j)
    (hkm : IsKm D x3) (hvm : IsVm D x4) (hz : ∀ (r : Fin 4096) (j : Fin 128), x5 (ix3 0 r j) = D.z r j) (hg : IsG D x6)
    (h1 : IsMask1 xs7) (h2 : IsMask2 xs8)
    (q : ℕ) (r : Fin 512) (cc : Fin 128) (h : 512 * q + r.val < 4096) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 xs7 xs8 (ix3 0 ⟨512 * q + r.val, h⟩ cc) = outv D q r cc := by
  unfold out0_B_7
  rw [View.read_writes_junk_eq_canon]
  exact stores_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 xs7 xs8 (fun qi inb => read_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 hx hp qi inb) hk hv hkm hvm hz hg h1 h2 q r cc h (by omega)

variable (m : (ℓ : Loc nD τ sig) → Buf (Elt Ideal) ℓ) (c : Dev nD)

/-- Every grid point finds and leaves the masks as the first one wrote them. -/
theorem masks_at : ∀ (n : ℕ) (hn : n < cfg0.N), IsMask1 (outsAt0 m c n hn).2.1 ∧ IsMask2 (outsAt0 m c n hn).2.2
  | 0, hn => by
    rw [outsAt0_A m c ⟨0, hn⟩ rfl]
    exact masks_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr rfl) (hcond0_1 ⟨0, hn⟩) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn => by
    have hN := lt_of_lt_of_eq hn (show cfg0.N = 32 from N_0)
    rw [outsAt0_B m c ⟨n + 1, hn⟩ (by show ¬ (n + 1) % 32 = 0; omega)]
    exact masks_at n (Nat.lt_of_succ_lt hn)

/-- The arrays' data of batch `b` and pair `p`. -/
abbrev blkAt (b : Fin 8) (p : Fin 4) : Blk :=
  blkOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b p

attribute [local irreducible] out0_A_7 out0_B_7 sout0_A_7 sout0_A_8 sout0_B_7 sout0_B_8 outsAt0 outv iblk

/-- A grid point's block of the output, in the arrays of the call. -/
theorem point_out (t : Fin cfg0.N) (b : Fin 8) (p : Fin 4) (hb : t.val / 4 = b.val) (hp : t.val % 4 = p.val)
    (q : ℕ) (r : Fin 512) (cc : Fin 128) (h : 512 * q + r.val < 4096) :
    (outsAt0 m c t.val t.isLt).1 (ix3 0 ⟨512 * q + r.val, h⟩ cc) = outv (blkAt m c b p) q r cc := by
  have k0 : (blkAt m c b p).pr = (grid0.coords t 1).val := hp.symm.trans (coords_at t).2.symm
  have e0 : ∀ (r : Fin 128) (j : Fin 4096), iblk m c 0 t (ix3 0 r j) = (blkAt m c b p).q r j :=
    fun r j => (blk0 m c t b p hb hp r j).trans (blkOf_q _ _ _ _ _ _ _ b p r j).symm
  have e1 : ∀ (r : Fin 4096) (j : Fin 256), iblk m c 1 t (ix3 0 r j) = (blkAt m c b p).k r j :=
    fun r j => (blk1 m c t b p hb hp r j).trans (blkOf_k _ _ _ _ _ _ _ b p r j).symm
  have e2 : ∀ (r : Fin 128) (j : Fin 4096), iblk m c 2 t (ix3 0 r j) = (blkAt m c b p).v r j :=
    fun r j => (blk2 m c t b p hb hp r j).trans (blkOf_v _ _ _ _ _ _ _ b p r j).symm
  have e3 : ∀ (r : Fin 16) (j : Fin 256), iblk m c 3 t (ix2 r j) = (blkAt m c b p).km r j :=
    fun r j => (blk3 m c t p hp r j).trans (blkOf_km _ _ _ _ _ _ _ b p r j).symm
  have e4 : ∀ (r : Fin 128) (j : Fin 16), iblk m c 4 t (ix2 r j) = (blkAt m c b p).vm r j :=
    fun r j => (blk4 m c t p hp r j).trans (blkOf_vm _ _ _ _ _ _ _ b p r j).symm
  have e5 : ∀ (r : Fin 4096) (j : Fin 128), iblk m c 5 t (ix3 0 r j) = (blkAt m c b p).z r j :=
    fun r j => (blk5 m c t b p hb hp r j).trans (blkOf_z _ _ _ _ _ _ _ b p r j).symm
  have e6 : ∀ j : Fin 128, iblk m c 6 t (ix2 0 j) = (blkAt m c b p).g j :=
    fun j => (blk6 m c t p hp j).trans (blkOf_g _ _ _ _ _ _ _ b p j).symm
  by_cases h0 : t.val % 32 = 0
  · refine (congrFun (congrArg Prod.fst (outsAt0_A m c t h0)) _).trans ?_
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (hcond0_1 t) (hcond0_2 t) (iblk m c 0 t) (iblk m c 1 t) (iblk m c 2 t) (iblk m c 3 t) (iblk m c 4 t) (iblk m c 5 t) (iblk m c 6 t) k0 e0 e1 e2 e3 e4 e5 e6 q r cc h
  · refine (congrFun (congrArg Prod.fst (outsAt0_B m c t h0)) _).trans ?_
    obtain ⟨h1, h2⟩ := masks_at m c (t.val - 1) (Nat.lt_of_le_of_lt (Nat.sub_le _ _) t.isLt)
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (hcond0_1 t) (hcond0_2 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 k0 e0 e1 e2 e3 e4 e5 e6 h1 h2 q r cc h

/-- The kernel's result, entry by entry. -/
theorem kernel_entry (b : Fin 8) (p : Fin 4) (q : ℕ) (r : Fin 512) (cc : Fin 128) (h : 512 * q + r.val < 4096) :
    Value.G7 m c (ix3 b ⟨512 * q + r.val, h⟩ ⟨128 * p.val + cc.val, by omega⟩) = outv (blkAt m c b p) q r cc := by
  have hb := b.isLt
  have hpp := p.isLt
  have hc := cc.isLt
  have ht : 4 * b.val + p.val < cfg0.N := lt_of_lt_of_eq (by omega) N_0.symm
  have e : Value.pt7Of (ix3 b ⟨512 * q + r.val, h⟩ ⟨128 * p.val + cc.val, by omega⟩) = 4 * b.val + p.val := by
    show 4 * (b.val / 1 - 0) + 4 * ((512 * q + r.val) / 4096 - 0) + 1 * ((128 * p.val + cc.val) / 128 - 0) = 4 * b.val + p.val
    omega
  have el : Value.loc7Of (ix3 b ⟨512 * q + r.val, h⟩ ⟨128 * p.val + cc.val, by omega⟩) = ix3 0 ⟨512 * q + r.val, h⟩ cc := by
    refine funext fun a => Fin.ext ?_
    match a with
    | ⟨0, _⟩ => show b.val % 1 = 0; omega
    | ⟨1, _⟩ => show (512 * q + r.val) % 4096 = 512 * q + r.val; omega
    | ⟨2, _⟩ => show (128 * p.val + cc.val) % 128 = cc.val; omega
  have hs := Value.outsAt0_sweep m c (4 * b.val + p.val) ht
  have ho := point_out m c ⟨4 * b.val + p.val, ht⟩ b p (by show (4 * b.val + p.val) / 4 = b.val; omega)
    (by show (4 * b.val + p.val) % 4 = p.val; omega) q r cc h
  unfold Value.G7
  rw [dif_pos (lt_of_eq_of_lt e ht), el, ← ho]
  exact congrFun (congrArg Prod.fst ((Value.fold0_congr m c _ _ _ _ e).trans hs.symm)) _

end Cert.Flash

end
-- ==== Proof.Ref.lean ====
/- The reference's value, entry by entry, in the terms of the kernel's model. -/
module

public import proofs.«01_k».proof.Proof.Blocks
public import proofs.«01_k».proof.Proof.Gen.ReferenceIdeal.Read
public import Idealize.ShloMosaic.Lib.Pointwise
public import Idealize.ShloMosaic.Lib.KernelVsHost

@[expose] public section

noncomputable section

namespace Cert.Flash

open Idealize.ShloMosaic Cert.ReferenceIdeal Cert.ReferenceIdeal.Gen Cert.ReferenceIdeal.Read

variable (x0 : Vec Ideal S8x512x4096 .bf16) (x1 : Vec Ideal S8x4096x1024 .bf16) (x2 : Vec Ideal S8x512x4096 .bf16)
  (x3 : Vec Ideal S16x1024 .bf16) (x4 : Vec Ideal S512x16 .bf16) (x5 : Vec Ideal S8x4096x512 .bf16) (x6 : Vec Ideal S1x512 .f32)
  (b : Fin 8) (p : Fin 4)

/-- The model's number of the reference's key `s`: the reference has the meta positions first. -/
def key (s : ℕ) : ℕ := if s < 16 then 4096 + s else s - 16

/-- The head `t` of the pair `p`. -/
abbrev hd (p : Fin 4) (t : Fin 2) : Fin 8 := ⟨2 * p.val + t.val, by omega⟩

/-- The joined keys by head. -/
theorem ref_k (t : Fin 2) (s : Fin 4112) (j : Fin 128) :
    val_main_v8 (F := Ideal) x1 x3 (ValueIdx.ix4 b s (hd p t) j) = (blkOf x0 x1 x2 x3 x4 x5 x6 b p).K (key s) (128 * t + j) := by
  have ht := t.isLt
  have hj := j.isLt
  have hs := s.isLt
  have hp := p.isLt
  have hb := b.isLt
  rw [val_main_v8_apply]
  have e : idx_main_v8 (ValueIdx.ix4 b s (hd p t) j) = ix3 b s ⟨256 * p.val + (128 * t.val + j.val), by omega⟩ := by
    refine funext fun a => Fin.ext ?_
    match a with
    | ⟨0, _⟩ => show (((b.val * 4112 + s.val) * 8 + (2 * p.val + t.val)) * 128 + j.val) / 4210688 = b.val; omega
    | ⟨1, _⟩ => show (((b.val * 4112 + s.val) * 8 + (2 * p.val + t.val)) * 128 + j.val) / 1024 % 4112 = s.val; omega
    | ⟨2, _⟩ => show (((b.val * 4112 + s.val) * 8 + (2 * p.val + t.val)) * 128 + j.val) % 1024 = 256 * p.val + (128 * t.val + j.val); omega
  rw [e]
  unfold val_main_v7
  by_cases h : s.val < 16
  · refine (concatenate_pair_apply_left (t := S8x4112x1024) (s₁ := S8x16x1024) (s₂ := S8x4096x1024) (1 : Fin 3) _ _ _ _ rfl (ix3 b ⟨s.val, h⟩ ⟨256 * p.val + (128 * t.val + j.val), by omega⟩)
      (fun a => match a with | ⟨0, _⟩ => rfl | ⟨1, _⟩ => rfl | ⟨2, _⟩ => rfl)).trans ?_
    rw [val_main_v5_apply, val_main_v4_apply, val_main_v3_apply]
    have ek : key s.val = 4096 + s.val := if_pos h
    unfold Blk.K
    rw [ek, if_neg (show ¬ 4096 + s.val < 4096 by omega), Nat.add_sub_cancel_left]
    refine Eq.trans ?_ (blkOf_km x0 x1 x2 x3 x4 x5 x6 b p ⟨s.val, h⟩ ⟨128 * t.val + j.val, by omega⟩).symm
    exact congrArg x3 (funext fun a => Fin.ext (match a with | ⟨0, _⟩ => rfl | ⟨1, _⟩ => rfl))
  · refine (concatenate_pair_apply_right (t := S8x4112x1024) (s₁ := S8x16x1024) (s₂ := S8x4096x1024) (1 : Fin 3) _ _ _ _ rfl rfl (ix3 b ⟨s.val - 16, by omega⟩ ⟨256 * p.val + (128 * t.val + j.val), by omega⟩)
      (fun a => match a with | ⟨0, _⟩ => fun _ => rfl | ⟨1, _⟩ => fun h => absurd rfl h | ⟨2, _⟩ => fun _ => rfl)
      (by show s.val - 16 + 16 = s.val; omega)).trans ?_
    rw [val_main_v6_apply]
    have ek : key s.val = s.val - 16 := if_neg h
    unfold Blk.K
    rw [ek, if_pos (show s.val - 16 < 4096 by omega)]
    exact (blkOf_k x0 x1 x2 x3 x4 x5 x6 b p ⟨s.val - 16, by omega⟩ ⟨128 * t.val + j.val, by omega⟩).symm

/-- The joined values by head. -/
theorem ref_v (t : Fin 2) (s : Fin 4112) (d : Fin 64) :
    val_main_v16 (F := Ideal) x2 x4 (ValueIdx.ix4 b s (hd p t) d) = (blkOf x0 x1 x2 x3 x4 x5 x6 b p).V (key s) (64 * t + d) := by
  have ht := t.isLt
  have hj := d.isLt
  have hs := s.isLt
  have hp := p.isLt
  have hb := b.isLt
  rw [val_main_v16_apply]
  have e : idx_main_v16 (ValueIdx.ix4 b s (hd p t) d) = ix3 b s ⟨128 * p.val + (64 * t.val + d.val), by omega⟩ := by
    refine funext fun a => Fin.ext ?_
    match a with
    | ⟨0, _⟩ => show (((b.val * 4112 + s.val) * 8 + (2 * p.val + t.val)) * 64 + d.val) / 2105344 = b.val; omega
    | ⟨1, _⟩ => show (((b.val * 4112 + s.val) * 8 + (2 * p.val + t.val)) * 64 + d.val) / 512 % 4112 = s.val; omega
    | ⟨2, _⟩ => show (((b.val * 4112 + s.val) * 8 + (2 * p.val + t.val)) * 64 + d.val) % 512 = 128 * p.val + (64 * t.val + d.val); omega
  rw [e]
  unfold val_main_v15
  unfold Blk.V
  rw [if_pos (show 64 * t.val + d.val < 128 by omega)]
  by_cases h : s.val < 16
  · refine (concatenate_pair_apply_left (t := S8x4112x512) (s₁ := S8x16x512) (s₂ := S8x4096x512) (1 : Fin 3) _ _ _ _ rfl (ix3 b ⟨s.val, h⟩ ⟨128 * p.val + (64 * t.val + d.val), by omega⟩)
      (fun a => match a with | ⟨0, _⟩ => rfl | ⟨1, _⟩ => rfl | ⟨2, _⟩ => rfl)).trans ?_
    rw [val_main_v12_apply, val_main_v11_apply, val_main_v10_apply, val_main_v9_apply]
    have ek : key s.val = 4096 + s.val := if_pos h
    rw [ek, if_neg (show ¬ 4096 + s.val < 4096 by omega), Nat.add_sub_cancel_left]
    refine Eq.trans ?_ (blkOf_vm x0 x1 x2 x3 x4 x5 x6 b p ⟨64 * t.val + d.val, by omega⟩ ⟨s.val, h⟩).symm
    exact congrArg x4 (funext fun a => Fin.ext (match a with | ⟨0, _⟩ => rfl | ⟨1, _⟩ => rfl))
  · refine (concatenate_pair_apply_right (t := S8x4112x512) (s₁ := S8x16x512) (s₂ := S8x4096x512) (1 : Fin 3) _ _ _ _ rfl rfl (ix3 b ⟨s.val - 16, by omega⟩ ⟨128 * p.val + (64 * t.val + d.val), by omega⟩)
      (fun a => match a with | ⟨0, _⟩ => fun _ => rfl | ⟨1, _⟩ => fun h => absurd rfl h | ⟨2, _⟩ => fun _ => rfl)
      (by show s.val - 16 + 16 = s.val; omega)).trans ?_
    rw [val_main_v14_apply, val_main_v13_apply]
    have ek : key s.val = s.val - 16 := if_neg h
    rw [ek, if_pos (show s.val - 16 < 4096 by omega)]
    refine Eq.trans ?_ (blkOf_v x0 x1 x2 x3 x4 x5 x6 b p ⟨64 * t.val + d.val, by omega⟩ ⟨s.val - 16, by omega⟩).symm
    exact congrArg x2 (funext fun a => Fin.ext (match a with | ⟨0, _⟩ => rfl | ⟨1, _⟩ => rfl | ⟨2, _⟩ => rfl))

/-- The queries by head. -/
theorem ref_q (t : Fin 2) (q : ℕ) (r : Fin 512) (h : 512 * q + r.val < 4096) (d : Fin 64) :
    val_main_v2 (F := Ideal) x0 (ValueIdx.ix4 b ⟨512 * q + r.val, h⟩ (hd p t) d)
      = (blkOf x0 x1 x2 x3 x4 x5 x6 b p).q (64 * t + d) (512 * q + r) := by
  have ht := t.isLt
  have hj := d.isLt
  have hp := p.isLt
  have hb := b.isLt
  have hr := r.isLt
  rw [val_main_v2_apply, val_main_v1_apply, val_main_v0_apply]
  refine Eq.trans ?_ (blkOf_q x0 x1 x2 x3 x4 x5 x6 b p ⟨64 * t.val + d.val, by omega⟩ ⟨512 * q + r.val, h⟩).symm
  refine congrArg x0 (funext fun a => Fin.ext ?_)
  match a with
  | ⟨0, _⟩ => show (((b.val * 8 + (2 * p.val + t.val)) * 64 + d.val) * 4096 + (512 * q + r.val)) / 2097152 = b.val; omega
  | ⟨1, _⟩ => show (((b.val * 8 + (2 * p.val + t.val)) * 64 + d.val) * 4096 + (512 * q + r.val)) / 4096 % 512 = 128 * p.val + (64 * t.val + d.val); omega
  | ⟨2, _⟩ => show (((b.val * 8 + (2 * p.val + t.val)) * 64 + d.val) * 4096 + (512 * q + r.val)) % 4096 = 512 * q + r.val; omega

/-- The reference's choice of the three bias columns. -/
theorem ref_pieces (h : Fin 8) (l : Fin 64) :
    val_main_v28 (F := Ideal) (ix2 h l) = if l.val % 8 = h.val ∧ l.val < 24 then 1#1 else 0#1 := by
  revert h l
  decide +kernel

/-- The reference's causal condition. -/
theorem ref_mask (l : Fin 4096) (s : Fin 4112) :
    val_main_v41 (F := Ideal) (ix2 l s) = if key s ≤ l.val ∨ 4096 ≤ key s then 1#1 else 0#1 := by
  have hl := l.isLt
  have hs := s.isLt
  rw [val_main_v41_apply, val_main_v40_apply, val_main_v39_apply, val_main_v38_apply, val_main_c_2_apply, val_main_v37_apply]
  show IntOp.cmpi .sle (BitVec.ofNat 32 s.val) (IntOp.addi 16#32 (BitVec.ofNat 32 l.val)) = _
  have ea : IntOp.addi 16#32 (BitVec.ofNat 32 l.val) = BitVec.ofNat 32 (16 + l.val) := (BitVec.ofNat_add 16 l.val).symm
  rw [ea, WordCmp.cmpi_sle_ofNat (by omega) (by omega)]
  unfold key
  by_cases h : s.val < 16
  · rw [if_pos h, if_pos (Or.inr (by omega)), decide_eq_true (by omega)]
    rfl
  · rw [if_neg h]
    by_cases h2 : s.val ≤ 16 + l.val
    · rw [if_pos (Or.inl (by omega)), decide_eq_true h2]
      rfl
    · rw [if_neg (by omega), decide_eq_false h2]
      rfl

/-- A choice by a condition's bit is the choice by the condition. -/
theorem select_if {P : Prop} [Decidable P] (x y : EReal) : Scalar.select (if P then 1#1 else 0#1) x y = if P then x else y := by
  by_cases h : P
  · rw [if_pos h, if_pos h]
    rfl
  · rw [if_neg h, if_neg h]
    rfl

/-- The bias of a key: the sum of its head's three columns. -/
theorem ref_bias (t : Fin 2) (s : Fin 4112) :
    val_main_v31 (F := Ideal) x1 x3 (ix3 b s (hd p t))
      = ∑ l : Fin 64, if l.val % 8 = 2 * p.val + t.val ∧ l.val < 24 then (blkOf x0 x1 x2 x3 x4 x5 x6 b p).K (key s) (128 * t + (64 + l)) else 0 := by
  rw [val_main_v31_apply]
  rw [show val_main_cst_1 (F := Ideal) (Shape.Idx.first h_S_) = (0 : EReal) from Ideal.ofBits_zero_f32, zero_add]
  refine Finset.sum_congr rfl fun l _ => ?_
  rw [show idx_main_v31 (ix3 b s (hd p t)) l = ValueIdx.ix4 b s (hd p t) l from ValueIdx.eq_ix4 _]
  rw [val_main_v30_apply, val_main_call0_v1_apply, val_main_v29_apply, val_main_call0_v2_apply]
  rw [show idx_main_call0_v1 (ValueIdx.ix4 b s (hd p t) l) = ix2 (hd p t) l from
      funext fun a => Fin.ext (match a with | ⟨0, _⟩ => rfl | ⟨1, _⟩ => rfl), ref_pieces, select_if]
  rw [show idx_main_v29 (ValueIdx.ix4 b s (hd p t) l) = ValueIdx.ix4 b s (hd p t) ⟨64 + l.val, by omega⟩ from ValueIdx.eq_ix4 _,
    ref_k x0 x1 x2 x3 x4 x5 x6]
  rw [show val_main_call0_v0 (F := Ideal) (idx_main_call0_v2 (ValueIdx.ix4 b s (hd p t) l)) = (0 : EReal) from Ideal.ofBits_zero_f32]

/-- The masked logits are the model's scores. -/
theorem ref_s (t : Fin 2) (q : ℕ) (r : Fin 512) (h : 512 * q + r.val < 4096) (s : Fin 4112) :
    val_main_v42 (F := Ideal) x0 x1 x3 (ValueIdx.ix4 b (hd p t) ⟨512 * q + r.val, h⟩ s)
      = (blkOf x0 x1 x2 x3 x4 x5 x6 b p).S q (512 * t + r) (key s) := by
  have ht := t.isLt
  have hp := p.isLt
  have hr := r.isLt
  rw [val_main_v42_apply, val_main_call1_v1_apply]
  rw [show idx_main_call1_v1 (ValueIdx.ix4 b (hd p t) ⟨512 * q + r.val, h⟩ s) = ix2 ⟨512 * q + r.val, h⟩ s from
      funext fun a => Fin.ext (match a with | ⟨0, _⟩ => rfl | ⟨1, _⟩ => rfl), ref_mask, select_if]
  rw [show val_main_call1_v2 (F := Ideal) (ValueIdx.ix4 b (hd p t) ⟨512 * q + r.val, h⟩ s) = (⊥ : EReal) from
    (val_main_call1_v2_apply _).trans ofBits_neg_inf]
  unfold Blk.S
  rw [show (512 * t.val + r.val) / 512 = t.val by omega, show (512 * t.val + r.val) % 512 = r.val by omega]
  have e : val_main_v36 (F := Ideal) x0 x1 x3 (ValueIdx.ix4 b (hd p t) ⟨512 * q + r.val, h⟩ s)
      = ∑ l : Fin 128, (blkOf x0 x1 x2 x3 x4 x5 x6 b p).K (key s) (128 * t.val + l) * (blkOf x0 x1 x2 x3 x4 x5 x6 b p).Q q l (512 * t + r) := by
    rw [val_main_v36_apply, Fin.sum_univ_add (a := 64) (b := 64)]
    refine congrArg₂ (fun x y : EReal => x + y) ?_ ?_
    · rw [val_main_v32_apply]
      refine Finset.sum_congr rfl fun l _ => ?_
      rw [show lidx_main_v32 (ValueIdx.ix4 b (hd p t) ⟨512 * q + r.val, h⟩ s) l = ValueIdx.ix4 b ⟨512 * q + r.val, h⟩ (hd p t) l from ValueIdx.eq_ix4 _,
        ref_q x0 x1 x2 x3 x4 x5 x6, val_main_v17_apply,
        show idx_main_v17 (ridx_main_v32 (ValueIdx.ix4 b (hd p t) ⟨512 * q + r.val, h⟩ s) l) = ValueIdx.ix4 b s (hd p t) ⟨l.val, by omega⟩ from ValueIdx.eq_ix4 _,
        ref_k x0 x1 x2 x3 x4 x5 x6, mul_comm]
      refine congrArg₂ (fun x y : EReal => x * y) rfl ?_
      unfold Blk.Q
      rw [if_pos (show (Fin.castAdd 64 l).val < 64 from l.isLt), show (512 * t.val + r.val) / 512 = t.val by omega, show (512 * t.val + r.val) % 512 = r.val by omega]
      rfl
    · rw [val_main_v35_apply, val_main_v34_apply, val_main_v33_apply]
      rw [show idx_main_v33 (idx_main_v34 (idx_main_v35 (ValueIdx.ix4 b (hd p t) ⟨512 * q + r.val, h⟩ s))) = ix3 b s (hd p t) from
        funext fun a => Fin.ext (match a with | ⟨0, _⟩ => rfl | ⟨1, _⟩ => rfl | ⟨2, _⟩ => rfl), ref_bias x0 x1 x2 x3 x4 x5 x6]
      refine Finset.sum_congr rfl fun l _ => ?_
      unfold Blk.Q
      rw [if_neg (show ¬ (Fin.natAdd 64 l).val < 64 by simp), show (512 * t.val + r.val) / 512 = t.val by omega,
        show (Fin.natAdd 64 l).val = 64 + l.val from rfl, Nat.add_sub_cancel_left,
        show (blkOf x0 x1 x2 x3 x4 x5 x6 b p).pr = p.val from rfl]
      by_cases hc : l.val % 8 = 2 * p.val + t.val ∧ l.val < 24
      · rw [if_pos hc, if_pos hc, mul_one]
      · rw [if_neg hc, if_neg hc, mul_zero]
  rw [e]
  by_cases hm : key s.val ≤ 512 * q + r.val ∨ 4096 ≤ key s.val
  · rw [if_pos hm, if_pos hm, add_zero]
  · rw [if_neg hm, if_neg hm, EReal.add_bot]

/-- Every position of the joined keys is some reference position. -/
theorem range_eq_image : Finset.range 4112 = Finset.univ.image (fun s : Fin 4112 => key s.val) := by
  ext k
  simp only [Finset.mem_range, Finset.mem_image, Finset.mem_univ, true_and]
  constructor
  · intro h
    by_cases h2 : k < 4096
    · refine ⟨⟨k + 16, by omega⟩, ?_⟩
      show (if k + 16 < 16 then _ else k + 16 - 16) = k
      rw [if_neg (by omega), Nat.add_sub_cancel]
    · refine ⟨⟨k - 4096, by omega⟩, ?_⟩
      show (if k - 4096 < 16 then 4096 + (k - 4096) else _) = k
      rw [if_pos (by omega)]
      omega
  · rintro ⟨s, rfl⟩
    have := s.isLt
    unfold key
    split <;> omega

/-- A sum over the reference's positions is the sum over the model's. -/
theorem sum_key (f : ℕ → EReal) : ∑ s : Fin 4112, f (key s.val) = ∑ k ∈ Finset.range 4112, f k := by
  rw [range_eq_image, Finset.sum_image]
  intro a _ c _ h
  have ha := a.isLt
  have hc := c.isLt
  apply Fin.ext
  change key a.val = key c.val at h
  unfold key at h
  split at h <;> split at h <;> omega

/-- A greatest value over the reference's positions is the greatest over the model's. -/
theorem sup_key (f : ℕ → EReal) : (Finset.univ.sup fun s : Fin 4112 => f (key s.val)) = (Finset.range 4112).sup f := by
  rw [range_eq_image, Finset.sup_image]
  rfl

/-- The reference's factor on the logits, a natural logarithm of two. -/
theorem ref_log2 : ∀ i, val_main_v43 (F := Ideal) i = ((Real.log 2 : ℝ) : EReal) := by
  intro i
  rw [val_main_v43_apply]
  show Ideal.log (Ideal.ofBits .f32 0x40000000#32) = _
  have e : Ideal.ofBits .f32 0x40000000#32 = ((2 : ℝ) : EReal) := by
    simp [Ideal.ofBits, Ideal.ieee, -EReal.coe_mul]
    norm_num
  rw [e]
  show (if (2 : ℝ) ≤ 0 then ⊥ else ((Real.log 2 : ℝ) : EReal)) = _
  rw [if_neg (by norm_num)]

/-- The rows' maxima over an arbitrary array. -/
theorem ref_max (y : Vec Ideal S8x8x4096x4112 .f32) (h : Fin 8) (l : Fin 4096) :
    (Host.reduce (FloatOps.maximumf (F := Ideal) (φ := .f32)) y (val_main_cst_5 (F := Ideal)) reducesTo_S8x8x4096x4112_S8x8x4096_d3 h_S_ : Vec Ideal S8x8x4096 .f32) (ix3 b h l)
      = Finset.univ.sup fun s : Fin 4112 => y (ValueIdx.ix4 b h l s) := by
  pointwise [val_main_cst_5]
  exact (congrArg (fun z => Finset.fold max z (fun s : Fin 4112 => y (ValueIdx.ix4 b h l s)) Finset.univ) ofBits_neg_inf)

/-- The reference's weights are the model's, below the maximum over all positions. -/
theorem ref_w (t : Fin 2) (q : ℕ) (r : Fin 512) (h : 512 * q + r.val < 4096) (s : Fin 4112) :
    val_main_v52 (F := Ideal) x0 x1 x3 (ValueIdx.ix4 b (hd p t) ⟨512 * q + r.val, h⟩ s)
      = Ideal.exp2 ((blkOf x0 x1 x2 x3 x4 x5 x6 b p).S q (512 * t + r) (key s)
        - (Finset.range 4112).sup ((blkOf x0 x1 x2 x3 x4 x5 x6 b p).S q (512 * t + r))) := by
  have hs : ∀ s : Fin 4112, val_main_v45 (F := Ideal) x0 x1 x3 (ValueIdx.ix4 b (hd p t) ⟨512 * q + r.val, h⟩ s)
      = (blkOf x0 x1 x2 x3 x4 x5 x6 b p).S q (512 * t + r) (key s) * ((Real.log 2 : ℝ) : EReal) := by
    intro s
    rw [val_main_v45_apply, ref_s x0 x1 x2 x3 x4 x5 x6, val_main_v44_apply, ref_log2]
    rfl
  have hm : val_main_v48 (F := Ideal) x0 x1 x3 (ix3 b (hd p t) ⟨512 * q + r.val, h⟩)
      = (Finset.range 4112).sup ((blkOf x0 x1 x2 x3 x4 x5 x6 b p).S q (512 * t + r)) * ((Real.log 2 : ℝ) : EReal) := by
    rw [val_main_v48_apply, val_main_v47_apply]
    rw [show val_main_cst_6 (F := Ideal) (idx_main_v47 (ix3 b (hd p t) ⟨512 * q + r.val, h⟩)) = (⊥ : EReal) from ofBits_neg_inf]
    refine (max_bot_left (a := (val_main_v46 (F := Ideal) x0 x1 x3 (ix3 b (hd p t) ⟨512 * q + r.val, h⟩) : EReal))).trans ?_
    unfold val_main_v46
    refine (ref_max b _ (hd p t) ⟨512 * q + r.val, h⟩).trans ?_
    rw [← sup_mul _ _ (Real.log_pos one_lt_two), ← sup_key]
    exact Finset.sup_congr rfl fun s _ => hs s
  rw [val_main_v52_apply, val_main_v51_apply, hs, val_main_v50_apply, val_main_v49_apply]
  rw [show idx_main_v49 (idx_main_v50 (ValueIdx.ix4 b (hd p t) ⟨512 * q + r.val, h⟩ s)) = ix3 b (hd p t) ⟨512 * q + r.val, h⟩ from
    funext fun a => Fin.ext (match a with | ⟨0, _⟩ => rfl | ⟨1, _⟩ => rfl | ⟨2, _⟩ => rfl), hm]
  exact exp_scaled rfl _ _

/-- The reference's attention of one head: the values, weighted by the normalised weights over all positions. -/
theorem ref_o (t : Fin 2) (q : ℕ) (r : Fin 512) (h : 512 * q + r.val < 4096) (d : Fin 64) :
    val_main_v58 (F := Ideal) x0 x1 x2 x3 x4 (ValueIdx.ix4 b ⟨512 * q + r.val, h⟩ (hd p t) d)
      = ∑ k ∈ Finset.range 4112, (blkOf x0 x1 x2 x3 x4 x5 x6 b p).V k (64 * t + d)
        * Ideal.div (Ideal.exp2 ((blkOf x0 x1 x2 x3 x4 x5 x6 b p).S q (512 * t + r) k
            - (Finset.range 4112).sup ((blkOf x0 x1 x2 x3 x4 x5 x6 b p).S q (512 * t + r))))
          (∑ k ∈ Finset.range 4112, Ideal.exp2 ((blkOf x0 x1 x2 x3 x4 x5 x6 b p).S q (512 * t + r) k
            - (Finset.range 4112).sup ((blkOf x0 x1 x2 x3 x4 x5 x6 b p).S q (512 * t + r)))) := by
  have hden : val_main_v53 (F := Ideal) x0 x1 x3 (ix3 b (hd p t) ⟨512 * q + r.val, h⟩)
      = ∑ k ∈ Finset.range 4112, Ideal.exp2 ((blkOf x0 x1 x2 x3 x4 x5 x6 b p).S q (512 * t + r) k
            - (Finset.range 4112).sup ((blkOf x0 x1 x2 x3 x4 x5 x6 b p).S q (512 * t + r))) := by
    rw [val_main_v53_apply, ← sum_key]
    rw [show val_main_cst_7 (F := Ideal) (Shape.Idx.first h_S_) = (0 : EReal) from Ideal.ofBits_zero_f32, zero_add]
    refine Finset.sum_congr rfl fun s _ => ?_
    rw [show idx_main_v53 (ix3 b (hd p t) ⟨512 * q + r.val, h⟩) s = ValueIdx.ix4 b (hd p t) ⟨512 * q + r.val, h⟩ s from ValueIdx.eq_ix4 _]
    exact ref_w x0 x1 x2 x3 x4 x5 x6 b p t q r h s
  rw [val_main_v58_apply, val_main_v57_apply, ← sum_key]
  refine Finset.sum_congr rfl fun s _ => ?_
  rw [show lidx_main_v57 (idx_main_v58 (ValueIdx.ix4 b ⟨512 * q + r.val, h⟩ (hd p t) d)) s = ValueIdx.ix4 b s (hd p t) d from ValueIdx.eq_ix4 _,
    show ridx_main_v57 (idx_main_v58 (ValueIdx.ix4 b ⟨512 * q + r.val, h⟩ (hd p t) d)) s = ValueIdx.ix4 b (hd p t) ⟨512 * q + r.val, h⟩ s from ValueIdx.eq_ix4 _]
  rw [ref_v x0 x1 x2 x3 x4 x5 x6, val_main_v56_apply, ref_w x0 x1 x2 x3 x4 x5 x6, val_main_v55_apply, val_main_v54_apply]
  rw [show idx_main_v54 (idx_main_v55 (ValueIdx.ix4 b (hd p t) ⟨512 * q + r.val, h⟩ s)) = ix3 b (hd p t) ⟨512 * q + r.val, h⟩ from
    funext fun a => Fin.ext (match a with | ⟨0, _⟩ => rfl | ⟨1, _⟩ => rfl | ⟨2, _⟩ => rfl), hden]
  rfl

/-- The kernel's mean factor is the reference's division by sixty-four. -/
theorem mean_factor (x : EReal) : Ideal.div x (Ideal.ofBits .f32 0x42800000#32) = x * Ideal.ofBits .f32 1015021568#32 := by
  have e1 : Ideal.ofBits .f32 0x42800000#32 = ((64 : ℝ) : EReal) := by
    simp [Ideal.ofBits, Ideal.ieee, -EReal.coe_mul]
    norm_num
  have e2 : Ideal.ofBits .f32 1015021568#32 = ((64⁻¹ : ℝ) : EReal) := by
    simp [Ideal.ofBits, Ideal.ieee, -EReal.coe_mul]
    norm_num
  rw [e1, e2, EReal.coe_inv]
  exact if_neg (by norm_num)

/-- The normalised attention of one head. -/
theorem ref_n (t : Fin 2) (q : ℕ) (r : Fin 512) (h : 512 * q + r.val < 4096) (d : Fin 64) :
    val_main_v68 (F := Ideal) x0 x1 x2 x3 x4 (ValueIdx.ix4 b ⟨512 * q + r.val, h⟩ (hd p t) d)
      = rms (Ideal.ofBits .f32 1015021568#32) (Ideal.ofBits .f32 897988541#32)
          (fun d : Fin 64 => (val_main_v58 (F := Ideal) x0 x1 x2 x3 x4 (ValueIdx.ix4 b ⟨512 * q + r.val, h⟩ (hd p t) d) : EReal)) d := by
  rw [val_main_v68_apply, val_main_v67_apply, val_main_v66_apply, val_main_v65_apply, val_main_v64_apply, val_main_v63_apply,
    val_main_v62_apply, val_main_v61_apply, val_main_v60_apply]
  rw [show val_main_cst_8 (F := Ideal) (Shape.Idx.first h_S_) = (0 : EReal) from Ideal.ofBits_zero_f32, zero_add]
  unfold rms
  rw [← mean_factor]
  have e : ∀ k : Fin 64, idx_main_v60 (idx_main_v61 (idx_main_v67 (ValueIdx.ix4 b ⟨512 * q + r.val, h⟩ (hd p t) d))) k
      = ValueIdx.ix4 b ⟨512 * q + r.val, h⟩ (hd p t) k := fun k => ValueIdx.eq_ix4 _
  simp only [e, val_main_v59_apply]
  rfl

/-- The positions that a query of the model attends are among all positions. -/
theorem keysN_subset (q c n : ℕ) (hq : q < 8) (hn : n ≤ 8) : keysN q c n ⊆ Finset.range 4112 := by
  induction n with
  | zero =>
    intro k hk
    unfold keysN keys2 keys1 at hk
    rw [Finset.mem_range]
    split at hk <;> simp only [Finset.mem_union, Finset.mem_Ico] at hk <;> omega
  | succ n ih =>
    refine Finset.union_subset (ih (by omega)) fun k hk => ?_
    rw [Finset.mem_Ico] at hk
    rw [Finset.mem_range]
    omega

/-- They hold the blocks before them. -/
theorem mem_keysN (q c n k : ℕ) (hk : k ∈ keys2 q c ∨ k < 512 * n) : k ∈ keysN q c n := by
  induction n with
  | zero => exact hk.resolve_right (by omega)
  | succ n ih =>
    show k ∈ keysN q c n ∪ _
    rw [Finset.mem_union, Finset.mem_Ico]
    by_cases h : k ∈ keys2 q c ∨ k < 512 * n
    · exact Or.inl (ih h)
    · have := hk.resolve_left fun h' => h (Or.inl h')
      exact Or.inr ⟨by by_contra h2; exact h (Or.inr (by omega)), by omega⟩

/-- The positions left out are masked. -/
theorem masked (D : Blk) (q c k : ℕ) (hk : k ∈ Finset.range 4112) (hn : k ∉ keysN q c q) : D.S q c k = ⊥ := by
  rw [Finset.mem_range] at hk
  have h : ¬ (k ≤ 512 * q + c % 512 ∨ 4096 ≤ k) := by
    intro h
    apply hn
    apply mem_keysN
    have hc := Nat.mod_lt c (show 0 < 512 by omega)
    by_cases h1 : k < 512 * q
    · exact Or.inr h1
    · refine Or.inl ?_
      unfold keys2 keys1
      split <;> simp only [Finset.mem_union, Finset.mem_Ico] <;> omega
  unfold Blk.S
  rw [if_neg h, EReal.add_bot]

/-- The model's result over all positions. -/
theorem outv_all (D : Blk) (q r c : ℕ) (hq : q < 8) :
    outv D q r c = rms (Ideal.ofBits .f32 1015021568#32) (Ideal.ofBits .f32 897988541#32)
        (fun d : Fin 64 => ∑ k ∈ Finset.range 4112, D.V k (64 * (c / 64) + d)
          * Ideal.div (Ideal.exp2 (D.S q (512 * (c / 64) + r) k - (Finset.range 4112).sup (D.S q (512 * (c / 64) + r))))
            (∑ k ∈ Finset.range 4112, Ideal.exp2 (D.S q (512 * (c / 64) + r) k - (Finset.range 4112).sup (D.S q (512 * (c / 64) + r)))))
        ⟨c % 64, Nat.mod_lt _ (by decide)⟩
      * D.g c * (D.z (512 * q + r) c * Ideal.div 1 (1 + Ideal.exp (0 - D.z (512 * q + r) c))) := by
  have hw : ∀ v, wsum D q (512 * (c / 64) + r) (keysN q (512 * (c / 64) + r) q) v
      = ∑ k ∈ Finset.range 4112, Ideal.exp2 (D.S q (512 * (c / 64) + r) k - (Finset.range 4112).sup (D.S q (512 * (c / 64) + r))) * D.V k v :=
    fun v => (weighted_extend (keysN_subset q (512 * (c / 64) + r) q hq (by omega)) (D.S q (512 * (c / 64) + r)) (fun k => D.V k v)
      fun k hk hn => masked D q _ k hk hn).2
  have h1 : ∀ k, D.V k 128 = 1 := fun k => if_neg (by omega)
  have ec : ∃ x : ℝ, 0 < x ∧ Ideal.ofBits .f32 1015021568#32 = (x : EReal) := by
    refine ⟨64⁻¹, by norm_num, ?_⟩
    simp [Ideal.ofBits, Ideal.ieee, -EReal.coe_mul]
    norm_num
  have ee : ∃ x : ℝ, 0 < x ∧ Ideal.ofBits .f32 897988541#32 = (x : EReal) := by
    refine ⟨8796093 / 8796093022208, by norm_num, ?_⟩
    simp [Ideal.ofBits, Ideal.ieee, -EReal.coe_mul]
    norm_num
  obtain ⟨x, hx, ex⟩ := ec
  obtain ⟨y, hy, ey⟩ := ee
  unfold outv
  simp only [hw, h1, ex, ey]
  rw [softmax_rms (T := Finset.range 4112) ⟨0, by simp⟩ hx hy (D.S q (512 * (c / 64) + r)) (fun k (d : Fin 64) => D.V k (64 * (c / 64) + d))]

/-- An entry of the reference's result is the model's. -/
theorem ref_entry (q : ℕ) (r : Fin 512) (cc : Fin 128) (h : 512 * q + r.val < 4096) :
    val_main_v76 (F := Ideal) x0 x1 x2 x3 x4 x5 x6 (ix3 b ⟨512 * q + r.val, h⟩ ⟨128 * p.val + cc.val, by omega⟩)
      = outv (blkOf x0 x1 x2 x3 x4 x5 x6 b p) q r cc := by
  have hp := p.isLt
  have hb := b.isLt
  have hr := r.isLt
  have hcc := cc.isLt
  rw [outv_all _ _ _ _ (by omega), val_main_v76_apply, val_main_v75_apply, val_main_v72_apply, val_main_v69_apply]
  have e : idx_main_v69 (ix3 b ⟨512 * q + r.val, h⟩ ⟨128 * p.val + cc.val, by omega⟩)
      = ValueIdx.ix4 b ⟨512 * q + r.val, h⟩ (hd p ⟨cc.val / 64, by omega⟩) ⟨cc.val % 64, Nat.mod_lt _ (by decide)⟩ := by
    refine funext fun a => Fin.ext ?_
    match a with
    | ⟨0, _⟩ => show ((b.val * 4096 + (512 * q + r.val)) * 512 + (128 * p.val + cc.val)) / 2097152 = b.val; omega
    | ⟨1, _⟩ => show ((b.val * 4096 + (512 * q + r.val)) * 512 + (128 * p.val + cc.val)) / 512 % 4096 = 512 * q + r.val; omega
    | ⟨2, _⟩ => show ((b.val * 4096 + (512 * q + r.val)) * 512 + (128 * p.val + cc.val)) / 64 % 8 = 2 * p.val + cc.val / 64; omega
    | ⟨3, _⟩ => show ((b.val * 4096 + (512 * q + r.val)) * 512 + (128 * p.val + cc.val)) % 64 = cc.val % 64; omega
  rw [e, ref_n]
  simp only [ref_o x0 x1 x2 x3 x4 x5 x6]
  rw [val_main_v71_apply, val_main_v70_apply, val_main_v74_apply, val_main_call2_v5_apply, val_main_call2_v4_apply, val_main_call2_v3_apply,
    val_main_call2_v2_apply, val_main_call2_v1_apply, val_main_call2_v0_apply, val_main_v73_apply]
  rw [show idx_main_v70 (idx_main_v71 (ix3 b ⟨512 * q + r.val, h⟩ ⟨128 * p.val + cc.val, by omega⟩)) = ix2 0 ⟨128 * p.val + cc.val, by omega⟩ from
    funext fun a => Fin.ext (match a with | ⟨0, _⟩ => rfl | ⟨1, _⟩ => rfl)]
  rw [show val_main_call2_cst (F := Ideal) (idx_main_call2_v2 (ix3 b ⟨512 * q + r.val, h⟩ ⟨128 * p.val + cc.val, by omega⟩)) = (1 : EReal) from Ideal.ofBits_one_f32,
    show val_main_call2_cst_0 (F := Ideal) (idx_main_call2_v4 (ix3 b ⟨512 * q + r.val, h⟩ ⟨128 * p.val + cc.val, by omega⟩)) = (1 : EReal) from Ideal.ofBits_one_f32]
  have hg := blkOf_g x0 x1 x2 x3 x4 x5 x6 b p cc
  have hz := blkOf_z x0 x1 x2 x3 x4 x5 x6 b p ⟨512 * q + r.val, h⟩ cc
  rw [hg, hz, zero_sub]
  rfl

end Cert.Flash

end
-- ==== Proof.Agree.lean ====
/- The reference's result and the kernel's, on the same arguments. -/
module

public import proofs.«01_k».proof.Proof.Points
public import proofs.«01_k».proof.Proof.Ref

@[expose] public section

noncomputable section

namespace Cert.Flash

open Idealize.ShloMosaic Cert.KernelIdeal Cert.KernelIdeal.Gen
open Idealize.ShloMosaic.TcCoe Idealize.SL

/-- The reference's result on the kernel's arguments is the kernel's result. -/
theorem value_eq (m : (ℓ : Loc nD τ sig) → Buf (Elt Ideal) ℓ) (c : Dev nD) :
    Cert.ReferenceIdeal.Read.val_main_v76 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = Value.G7 m c := by
  funext i
  have h1 : (i 1).val < 4096 := (i 1).isLt
  have h2 : (i 2).val < 512 := (i 2).isLt
  have ei : i = ix3 (i 0) ⟨512 * ((i 1).val / 512) + (i 1).val % 512, by omega⟩ ⟨128 * ((i 2).val / 128) + (i 2).val % 128, by omega⟩ :=
    funext fun a => Fin.ext (match a with
      | ⟨0, _⟩ => rfl
      | ⟨1, _⟩ => (Nat.div_add_mod (i 1).val 512).symm
      | ⟨2, _⟩ => (Nat.div_add_mod (i 2).val 128).symm)
  rw [ei]
  refine (ref_entry _ _ _ _ _ _ _ (i 0) ⟨(i 2).val / 128, by omega⟩ ((i 1).val / 512) ⟨(i 1).val % 512, Nat.mod_lt _ (by decide)⟩
    ⟨(i 2).val % 128, Nat.mod_lt _ (by decide)⟩ (by show 512 * ((i 1).val / 512) + (i 1).val % 512 < 4096; omega)).trans ?_
  exact (kernel_entry m c (i 0) ⟨(i 2).val / 128, by omega⟩ ((i 1).val / 512) ⟨(i 1).val % 512, Nat.mod_lt _ (by decide)⟩
    ⟨(i 2).val % 128, Nat.mod_lt _ (by decide)⟩ (by show 512 * ((i 1).val / 512) + (i 1).val % 512 < 4096; omega)).symm

end Cert.Flash

end
-- ==== Proof.OutModel.lean ====
/- The output projection's block: what one grid point stores, entry by entry. -/
module

public import proofs.«01_k».proof.Proof.Gen.Kernel2Ideal.Value
public import proofs.«01_k».proof.Proof.Reads
public import Idealize.ShloMosaic.Lib.Pointwise
public import Idealize.ShloMosaic.Lib.ValueIdxCore

@[expose] public section

noncomputable section

namespace Cert.Out

open Idealize.ShloMosaic Cert.Kernel2Ideal Cert.Kernel2Ideal.Gen
open Idealize.ShloMosaic.TcCoe Idealize.SL

/-- One entry of the row after the projection: the input's, and the products of both branches with their halves of the weights. -/
def hid (x : Fin 1024 → EReal) (a d : Fin 512 → EReal) (u w : Fin 512 → Fin 1024 → EReal) (j : Fin 1024) : EReal :=
  x j + (∑ k : Fin 512, a k * u k j) + ∑ k : Fin 512, d k * w k j

/-- An entry of the row normalised to mean square one and scaled by the gain. -/
def outv (x : Fin 1024 → EReal) (a d : Fin 512 → EReal) (u w : Fin 512 → Fin 1024 → EReal) (g : Fin 1024 → EReal) (j : Fin 1024) : EReal :=
  hid x a d u w j * Ideal.rsqrt (Ideal.div (∑ i : Fin 1024, hid x a d u w i * hid x a d u w i) (Ideal.ofBits .f32 0x44800000#32)
    + Ideal.ofBits .f32 0x358637BD#32) * g j

/-- The store's value at an entry. -/
theorem pay_apply (v67 : FVec Ideal S1024x1024 .f32) (v69 : FVec Ideal S1024x512 .bf16) (v71 : FVec Ideal S512x1024 .bf16) (v74 : Vec Ideal S1x1024x512 .bf16)
    (v76 : Vec Ideal S512x1024 .bf16) (v90 : Vec Ideal S1x1024 .f32) (r j : Fin 1024) :
    k0_pay1 v67 v69 v71 v74 v76 v90 (ix3 0 r j)
      = outv (fun i => v67 (ix2 r i)) (fun k => v69 (ix2 r k)) (fun k => v74 (ix3 0 r k)) (fun k i => v71 (ix2 k i)) (fun k i => v76 (ix2 k i))
          (fun i => v90 (ix2 0 i)) j := by
  pointwise [k0_pay1]
  rfl

/-- The input's block as a grid point has it: what its copy brought into the ring's slot, at the place of the point's rows. -/
theorem ring_read (t : Fin cfg0.N) (f : (hbM0_0).view.ty.Contents (Elt Ideal)) (g) (inb) (b : Fin 8) (p : Fin 4) (hb : t.val / 4 = b.val) (hp : t.val % 4 = p.val) (r j : Fin 1024) :
    k0_pay2 (F := Ideal) (View.readAt (Elt Ideal) scM0_0.view (Rect.unit (s := S3x1024x1024) (k0_off7 (grid0.coords t)) S1x1024x1024.size inb).toLoadRect
     ((rslot0_0 (Ring.sl 3 t.val)).view.writes (Elt Ideal) g [⟨Rect.whole S1024x1024, ReadAs.same.apply (View.read (Elt Ideal) (srcB0_0 (Ring.bk 32 t.val)).view f)⟩])) (ix2 r j)
     = f (ix3 b ⟨1024 * p.val + r.val, by omega⟩ j) := by
  have key : ∀ (off : Fin 3 → ℕ) (inb), off = ![(Ring.sl 3 t.val).val, 0, 0] → ∀ h, k0_pay2 (F := Ideal) (View.readAt (Elt Ideal) scM0_0.view (Rect.unit (s := S3x1024x1024) off S1x1024x1024.size inb).toLoadRect h)
      = (rslot0_0 (Ring.sl 3 t.val)).view.read (Elt Ideal) h := by
    intro off inb e h
    subst e
    rfl
  refine (congrFun (key _ inb (coff0_0_13 t) _) (ix2 r j)).trans ?_
  refine (congrFun (View.read_writes_whole (rslot0_0 (Ring.sl 3 t.val)).view g _) (ix2 r j)).trans ?_
  show shapeCast S1024x1024 (View.readAt (Elt Ideal) hbM0_0.view (Rect.unit (s := S8x4096x1024) ![(Ring.bk 32 t.val).val / 4, 1024 * ((Ring.bk 32 t.val).val % 4), 0]
    S1x1024x1024.size (inb_src0_0 _)).toLoadRect f) shapeCasts_S1x1024x1024_S1024x1024 (ix2 r j) = _
  have hk : (Ring.bk 32 t.val).val = t.val := Nat.mod_eq_of_lt t.isLt
  refine (shapeCast_apply _ _ _ (ix3 0 r j) (by rw [Shape.rowMajor_val_three, Shape.rowMajor_val_two]; show (0 * 1024 + r.val) * 1024 + j.val = _; rw [zero_mul, zero_add]; rfl)).trans ?_
  rw [View.readAt_apply]
  refine congrArg f (Cert.Flash.unit_idx _ _ _ _ _ _ _ ?_ ?_ ?_)
  · show (Ring.bk 32 t.val).val / 4 + 0 = b.val; rw [hk]; omega
  · show 1024 * ((Ring.bk 32 t.val).val % 4) + r.val = 1024 * p.val + r.val; rw [hk, hp]
  · show 0 + j.val = j.val; omega

end Cert.Out

end
-- ==== Proof.OutPoint.lean ====
/- The output projection's grid points: the rows each one writes, in the arrays of the call. -/
module

public import proofs.«01_k».proof.Proof.OutModel

@[expose] public section

noncomputable section

namespace Cert.Out

open Idealize.ShloMosaic Cert.Kernel2Ideal Cert.Kernel2Ideal.Gen
open Idealize.ShloMosaic.TcCoe Idealize.SL

/-- The one store covers the block, so an entry of the block is the store's. -/
theorem stored {inb} {w : Vec Ideal S1x1024x1024 .f32} {L : List (View.Piece (Elt Ideal) S1x1024x1024 .f32)} (r j : Fin 1024) :
    View.canon (⟨Rect.unit (s := S1x1024x1024) ![0, 0, 0] S1x1024x1024.size inb, w⟩ :: L) (ix3 0 r j) = w (ix3 0 r j) := by
  have hz : (Rect.unit (s := S1x1024x1024) ![0, 0, 0] S1x1024x1024.size inb).emb (ix3 0 r j) = ix3 0 r j :=
    Cert.Flash.unit_idx _ _ _ _ 0 r j rfl (Nat.zero_add _) (Nat.zero_add _)
  have h := View.canon_cons_emb (Rect.unit (s := S1x1024x1024) ![0, 0, 0] S1x1024x1024.size inb) w L (ix3 0 r j)
  rw [hz] at h
  exact h

/-- A staged block at literal coordinates, whatever was read of it through a load. -/
theorem rd3 {κ : Kind} {sp : Space} {n0 n1 n2 : ℕ} {e : EltTy} {m : Memref sig κ sp (⟨3, ![n0, n1, n2]⟩ : Shape) e} (hm : m.IsWhole)
    (x : (⟨3, ![n0, n1, n2]⟩ : Shape).Idx → Elt Ideal e) (off sz : Fin 3 → ℕ) (inb)
    (j : (Rect.unit (s := (⟨3, ![n0, n1, n2]⟩ : Shape)) off sz inb).shape.Idx)
    (i0 : Fin n0) (i1 : Fin n1) (i2 : Fin n2) (h0 : off 0 + (j 0).val = i0.val) (h1 : off 1 + (j 1).val = i1.val)
    (h2 : off 2 + (j 2).val = i2.val) :
    View.readAt (Elt Ideal) m.view (Rect.unit (s := (⟨3, ![n0, n1, n2]⟩ : Shape)) off sz inb).toLoadRect (hm.unread x) j = x (ix3 i0 i1 i2) := by
  rw [View.readAt_apply, hm.read_unread, Cert.Flash.unit_idx off sz inb j i0 i1 i2 h0 h1 h2]

/-- The same with two coordinates. -/
theorem rd2 {κ : Kind} {sp : Space} {n0 n1 : ℕ} {e : EltTy} {m : Memref sig κ sp (⟨2, ![n0, n1]⟩ : Shape) e} (hm : m.IsWhole)
    (x : (⟨2, ![n0, n1]⟩ : Shape).Idx → Elt Ideal e) (off sz : Fin 2 → ℕ) (inb)
    (j : (Rect.unit (s := (⟨2, ![n0, n1]⟩ : Shape)) off sz inb).shape.Idx)
    (i0 : Fin n0) (i1 : Fin n1) (h0 : off 0 + (j 0).val = i0.val) (h1 : off 1 + (j 1).val = i1.val) :
    View.readAt (Elt Ideal) m.view (Rect.unit (s := (⟨2, ![n0, n1]⟩ : Shape)) off sz inb).toLoadRect (hm.unread x) j = x (ix2 i0 i1) := by
  rw [View.readAt_apply, hm.read_unread, Cert.Flash.unit_idx2 off sz inb j i0 i1 h0 h1]

/-- A block's half of a branch, without its leading axis. -/
theorem pay3_apply (v : Vec Ideal S1x1024x512 .bf16) (r : Fin 1024) (k : Fin 512) : k0_pay3 v (ix2 r k) = v (ix3 0 r k) := by
  pointwise [k0_pay3]

/-- The weights' upper half as loaded. -/
theorem pay4_apply (v : Vec Ideal S512x1024 .bf16) (k : Fin 512) (i : Fin 1024) : k0_pay4 v (ix2 k i) = v (ix2 k i) := by
  pointwise [k0_pay4]

/-- What a point stores, from the input in the large array and the staged blocks of the rest. -/
theorem point_store (t : Fin cfg0.N) (arg3 : Memref sig .tc .vmem S1x1024x512 .bf16) (harg3 : arg3.IsWhole) (arg4 : Memref sig .tc .vmem S1x1024x512 .bf16) (harg4 : arg4.IsWhole) (arg5 : Memref sig .tc .vmem S1024x1024 .bf16) (harg5 : arg5.IsWhole) (arg6 : Memref sig .tc .vmem S1x1024 .f32) (harg6 : arg6.IsWhole)
    (x0 : Vec Ideal S1x1024x512 .bf16) (x1 : Vec Ideal S1x1024x512 .bf16) (x2 : Vec Ideal S1024x1024 .bf16) (x3 : Vec Ideal S1x1024 .f32) (f : Vec Ideal S8x4096x1024 .f32)
    (v67 : FVec Ideal S1024x1024 .f32) {inb3 inb4 inb5 inb5' inb6} (b : Fin 8) (p : Fin 4) (r j : Fin 1024)
    (hv : ∀ i, v67 (ix2 r i) = f (ix3 b ⟨1024 * p.val + r.val, by omega⟩ i)) :
    k0_pay1 v67 (k0_pay3 (View.readAt (Elt Ideal) arg3.view (Rect.unit (s := S1x1024x512) ![0, 0, 0] S1x1024x512.size inb3).toLoadRect (harg3.unread x0)))
      (k0_pay4 (View.readAt (Elt Ideal) arg5.view (Rect.unit (s := S1024x1024) ![0, 0] S512x1024.size inb5).toLoadRect (harg5.unread x2)))
      (View.readAt (Elt Ideal) arg4.view (Rect.unit (s := S1x1024x512) ![0, 0, 0] S1x1024x512.size inb4).toLoadRect (harg4.unread x1))
      (View.readAt (Elt Ideal) arg5.view (Rect.unit (s := S1024x1024) ![512, 0] S512x1024.size inb5').toLoadRect (harg5.unread x2))
      (View.readAt (Elt Ideal) arg6.view (Rect.unit (s := S1x1024) ![0, 0] S1x1024.size inb6).toLoadRect (harg6.unread x3)) (ix3 0 r j)
      = outv (fun i => f (ix3 b ⟨1024 * p.val + r.val, by omega⟩ i)) (fun k => x0 (ix3 0 r k)) (fun k => x1 (ix3 0 r k))
          (fun k i => x2 (ix2 ⟨k.val, by omega⟩ i)) (fun k i => x2 (ix2 ⟨512 + k.val, by omega⟩ i)) (fun i => x3 (ix2 0 i)) j := by
  rw [pay_apply]
  congr 1
  · exact funext hv
  · funext k
    rw [pay3_apply]
    exact rd3 harg3 x0 _ _ _ _ 0 r k rfl (Nat.zero_add _) (Nat.zero_add _)
  · funext k
    exact rd3 harg4 x1 _ _ _ _ 0 r k rfl (Nat.zero_add _) (Nat.zero_add _)
  · funext k i
    rw [pay4_apply]
    exact rd2 harg5 x2 _ _ _ _ ⟨k.val, by omega⟩ i (Nat.zero_add _) (Nat.zero_add _)
  · funext k i
    exact rd2 harg5 x2 _ _ _ _ ⟨512 + k.val, by omega⟩ i rfl (Nat.zero_add _)
  · funext i
    exact rd2 harg6 x3 _ _ _ _ 0 i rfl (Nat.zero_add _)

variable (m : (ℓ : Loc nD τ sig) → Buf (Elt Ideal) ℓ) (c : Dev nD)

/-- A point's rows of the output. -/
theorem point_out (t : Fin cfg0.N) (b : Fin 8) (p : Fin 4) (hb : t.val / 4 = b.val) (hp : t.val % 4 = p.val) (r j : Fin 1024) :
    outsAt0 m c t.val t.isLt (ix3 0 r j)
      = outv (fun i => V m c main_arg0 (ix3 b ⟨1024 * p.val + r.val, by omega⟩ i)) (fun k => iblk m c 0 t (ix3 0 r k)) (fun k => iblk m c 1 t (ix3 0 r k))
          (fun k i => iblk m c 2 t (ix2 (⟨k.val, by omega⟩ : Fin 1024) i)) (fun k i => iblk m c 2 t (ix2 (⟨512 + k.val, by omega⟩ : Fin 1024) i)) (fun i => iblk m c 3 t (ix2 (0 : Fin 1) i)) j := by
  by_cases h0 : t.val % 32 = 0
  · have h1 : t.val < 30 := by have := lt_of_lt_of_eq t.isLt N_0; omega
    refine (congrFun (outsAt0_A m c t h0 h1) _).trans ?_
    unfold out0_A_4
    rw [View.read_writes_junk_eq_canon]
    exact (stored r j).trans (point_store t (ms0_0 t) (hs0_0 t) (ms0_1 t) (hs0_1 t) (ms0_2 t) (hs0_2 t) (ms0_3 t) (hs0_3 t) (iblk m c 0 t) (iblk m c 1 t) (iblk m c 2 t) (iblk m c 3 t) (V m c main_arg0) _ b p r j
      (fun i => ring_read t (V m c main_arg0) _ _ b p hb hp r i))
  · by_cases h1 : t.val < 30
    · refine (congrFun (outsAt0_B m c t h0 h1) _).trans ?_
      unfold out0_B_4
      rw [View.read_writes_junk_eq_canon]
      exact (stored r j).trans (point_store t (ms0_0 t) (hs0_0 t) (ms0_1 t) (hs0_1 t) (ms0_2 t) (hs0_2 t) (ms0_3 t) (hs0_3 t) (iblk m c 0 t) (iblk m c 1 t) (iblk m c 2 t) (iblk m c 3 t) (V m c main_arg0) _ b p r j
        (fun i => ring_read t (V m c main_arg0) _ _ b p hb hp r i))
    · refine (congrFun (outsAt0_C m c t h0 h1) _).trans ?_
      unfold out0_C_4
      rw [View.read_writes_junk_eq_canon]
      exact (stored r j).trans (point_store t (ms0_0 t) (hs0_0 t) (ms0_1 t) (hs0_1 t) (ms0_2 t) (hs0_2 t) (ms0_3 t) (hs0_3 t) (iblk m c 0 t) (iblk m c 1 t) (iblk m c 2 t) (iblk m c 3 t) (V m c main_arg0) _ b p r j
        (fun i => ring_read t (V m c main_arg0) _ _ b p hb hp r i))

end Cert.Out

end
-- ==== Proof.OutBlocks.lean ====
/- What a grid point of the output projection reads of the call's arrays, and the call's whole result. -/
module

public import proofs.«01_k».proof.Proof.OutPoint
public import Idealize.ShloMosaic.Lib.StableHlo.ReadAt

@[expose] public section

noncomputable section

namespace Cert.Out

open Idealize.ShloMosaic Cert.Kernel2Ideal Cert.Kernel2Ideal.Gen
open Idealize.ShloMosaic.TcCoe Idealize.SL

variable (m : (ℓ : Loc nD τ sig) → Buf (Elt Ideal) ℓ) (c : Dev nD)

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- The first branch's rows of a point. -/
theorem blk0 (t : Fin cfg0.N) (b : Fin 8) (p : Fin 4) (hb : t.val / 4 = b.val) (hp : t.val % 4 = p.val) (r : Fin 1024) (k : Fin 512) :
    iblk m c 0 t (ix3 0 r k) = m ((c : Thread nD τ).loc main_arg1) (ix3 b ⟨1024 * p.val + r.val, by omega⟩ k) := by
  obtain ⟨e0, e1, e2⟩ := index0 t
  rw [← V_main_arg1 m c]
  refine congrArg (V m c main_arg1) (funext fun a => Fin.ext ?_)
  match a with
  | ⟨0, _⟩ => show win0_0.index t (0 : Fin 3) * 1 + 1 * 0 = b.val; omega
  | ⟨1, _⟩ => show win0_0.index t (1 : Fin 3) * 1024 + 1 * r.val = 1024 * p.val + r.val; omega
  | ⟨2, _⟩ => show win0_0.index t (2 : Fin 3) * 512 + 1 * k.val = k.val; omega

/-- The second branch's rows of a point. -/
theorem blk1 (t : Fin cfg0.N) (b : Fin 8) (p : Fin 4) (hb : t.val / 4 = b.val) (hp : t.val % 4 = p.val) (r : Fin 1024) (k : Fin 512) :
    iblk m c 1 t (ix3 0 r k) = m ((c : Thread nD τ).loc main_arg2) (ix3 b ⟨1024 * p.val + r.val, by omega⟩ k) := by
  obtain ⟨e0, e1, e2⟩ := index1 t
  rw [← V_main_arg2 m c]
  refine congrArg (V m c main_arg2) (funext fun a => Fin.ext ?_)
  match a with
  | ⟨0, _⟩ => show win0_1.index t (0 : Fin 3) * 1 + 1 * 0 = b.val; omega
  | ⟨1, _⟩ => show win0_1.index t (1 : Fin 3) * 1024 + 1 * r.val = 1024 * p.val + r.val; omega
  | ⟨2, _⟩ => show win0_1.index t (2 : Fin 3) * 512 + 1 * k.val = k.val; omega

/-- The weights as the host hands them over: the argument without its leading axis. -/
theorem weights (k i : Fin 1024) : V m c main_v1 (ix2 k i) = m ((c : Thread nD τ).loc main_arg3) (ix3 (0 : Fin 1) k i) := by
  unfold V
  after_reads_at

/-- The gain as the host hands it over: the argument with an axis before it. -/
theorem gain (i : Fin 1024) : V m c main_v2 (ix2 (0 : Fin 1) i) = m ((c : Thread nD τ).loc main_arg4) (ix1 i) := by
  unfold V
  after_reads_at

/-- Every point stages all weights. -/
theorem blk2 (t : Fin cfg0.N) (k i : Fin 1024) :
    iblk m c 2 t (ix2 k i) = m ((c : Thread nD τ).loc main_arg3) (ix3 (0 : Fin 1) k i) := by
  obtain ⟨e0, e1⟩ := index2 t
  rw [← weights m c]
  refine congrArg (V m c main_v1) (funext fun a => Fin.ext ?_)
  match a with
  | ⟨0, _⟩ => show win0_2.index t (0 : Fin 2) * 1024 + 1 * k.val = k.val; omega
  | ⟨1, _⟩ => show win0_2.index t (1 : Fin 2) * 1024 + 1 * i.val = i.val; omega

/-- Every point stages the gain. -/
theorem blk3 (t : Fin cfg0.N) (i : Fin 1024) :
    iblk m c 3 t (ix2 (0 : Fin 1) i) = m ((c : Thread nD τ).loc main_arg4) (ix1 i) := by
  obtain ⟨e0, e1⟩ := index3 t
  rw [← gain m c]
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * i.val = i.val; omega

/-- The call's result, entry by entry. -/
theorem kernel_entry (b : Fin 8) (p : Fin 4) (r j : Fin 1024) :
    (dats m 0 c).arrAt 4 cfg0.N (ix3 b (⟨1024 * p.val + r.val, by omega⟩ : Fin 4096) j)
      = outv (fun i => m ((c : Thread nD τ).loc main_arg0) (ix3 b ⟨1024 * p.val + r.val, by omega⟩ i))
          (fun k => m ((c : Thread nD τ).loc main_arg1) (ix3 b ⟨1024 * p.val + r.val, by omega⟩ k))
          (fun k => m ((c : Thread nD τ).loc main_arg2) (ix3 b ⟨1024 * p.val + r.val, by omega⟩ k))
          (fun k i => m ((c : Thread nD τ).loc main_arg3) (ix3 (0 : Fin 1) ⟨k.val, by omega⟩ i))
          (fun k i => m ((c : Thread nD τ).loc main_arg3) (ix3 (0 : Fin 1) ⟨512 + k.val, by omega⟩ i))
          (fun i => m ((c : Thread nD τ).loc main_arg4) (ix1 i)) j := by
  have hb := b.isLt
  have hp := p.isLt
  have ht : 4 * b.val + p.val < cfg0.N := lt_of_lt_of_eq (by omega) N_0.symm
  have d : (4 * b.val + p.val) / 4 = b.val := by omega
  have q : (4 * b.val + p.val) % 4 = p.val := by omega
  have h := congrFun (Value.blocks4 m c ⟨4 * b.val + p.val, ht⟩ (flush0_4 _)) (ix3 0 r j)
  rw [Value.flushed4] at h
  obtain ⟨e0, e1, e2⟩ := index4 ⟨4 * b.val + p.val, ht⟩
  have ei : ((cfg0.win 4).blk ⟨4 * b.val + p.val, ht⟩).view.emb (ix3 0 r j) = ix3 b (⟨1024 * p.val + r.val, by omega⟩ : Fin 4096) j := by
    refine funext fun a => Fin.ext ?_
    match a with
    | ⟨0, _⟩ => show win0_4.index _ (0 : Fin 3) * 1 + 1 * 0 = b.val; rw [e0]; show (4 * b.val + p.val) / 4 * 1 + 1 * 0 = b.val; omega
    | ⟨1, _⟩ => show win0_4.index _ (1 : Fin 3) * 1024 + 1 * r.val = 1024 * p.val + r.val; rw [e1]; show (4 * b.val + p.val) % 4 * 1024 + 1 * r.val = _; omega
    | ⟨2, _⟩ => show win0_4.index _ (2 : Fin 3) * 1024 + 1 * j.val = j.val; rw [e2]; omega
  have hl : (dats m 0 c).arrAt 4 cfg0.N (ix3 b (⟨1024 * p.val + r.val, by omega⟩ : Fin 4096) j) = outsAt0 m c (4 * b.val + p.val) ht (ix3 0 r j) := by
    rw [← ei]
    exact h
  rw [hl]
  refine (point_out m c ⟨4 * b.val + p.val, ht⟩ b p d q r j).trans ?_
  rw [V_main_arg0 m c]
  congr 1
  · exact funext fun k => blk0 m c ⟨4 * b.val + p.val, ht⟩ b p d q r k
  · exact funext fun k => blk1 m c ⟨4 * b.val + p.val, ht⟩ b p d q r k
  · exact funext fun k => funext fun i => blk2 m c _ _ i
  · exact funext fun k => funext fun i => blk2 m c _ _ i
  · exact funext fun i => blk3 m c _ i

end Cert.Out

end
-- ==== Proof.OutRef.lean ====
/- The output projection's reference, entry by entry, and its agreement with the kernel. -/
module

public import proofs.«01_k».proof.Proof.OutBlocks
public import proofs.«01_k».proof.Proof.Gen.Reference2Ideal.Read
public import Idealize.ShloMosaic.Lib.KernelVsHost

@[expose] public section

noncomputable section

namespace Cert.Out

open Idealize.ShloMosaic Cert.Reference2Ideal Cert.Reference2Ideal.Gen Cert.Reference2Ideal.Read

variable (x0 : Vec Ideal S8x4096x1024 .f32) (x1 x2 : Vec Ideal S8x4096x512 .bf16) (x3 : Vec Ideal S1x1024x1024 .f32) (x4 : Vec Ideal S1024 .f32)

/-- The joined branches' first half. -/
theorem mix_left (b : Fin 8) (s : Fin 4096) (k : Fin 512) :
    val_main_v2 (F := Ideal) x1 x2 (ix3 b s (⟨k.val, by omega⟩ : Fin 1024)) = x1 (ix3 b s k) := by
  unfold val_main_v2
  exact concatenate_pair_apply_left (t := S8x4096x1024) (s₁ := S8x4096x512) (s₂ := S8x4096x512) (2 : Fin 3) _ _ _ _ rfl (ix3 b s k)
    (fun a => match a with | ⟨0, _⟩ => rfl | ⟨1, _⟩ => rfl | ⟨2, _⟩ => rfl)

/-- The joined branches' second half. -/
theorem mix_right (b : Fin 8) (s : Fin 4096) (k : Fin 512) :
    val_main_v2 (F := Ideal) x1 x2 (ix3 b s (⟨512 + k.val, by omega⟩ : Fin 1024)) = x2 (ix3 b s k) := by
  unfold val_main_v2
  exact concatenate_pair_apply_right (t := S8x4096x1024) (s₁ := S8x4096x512) (s₂ := S8x4096x512) (2 : Fin 3) _ _ _ _ rfl rfl (ix3 b s k)
    (fun a => match a with | ⟨0, _⟩ => fun _ => rfl | ⟨1, _⟩ => fun _ => rfl | ⟨2, _⟩ => fun h => absurd rfl h)
    (Nat.add_comm _ _)

/-- The weights without their leading axis. -/
theorem ref_w (k i : Fin 1024) : val_main_v3 (F := Ideal) x3 (ix2 k i) = x3 (ix3 0 k i) := by
  rw [val_main_v3_apply]
  refine congrArg x3 (funext fun a => Fin.ext ?_)
  match a with
  | ⟨0, _⟩ => rfl
  | ⟨1, _⟩ => show (k.val * 1024 + i.val) / 1024 % 1024 = k.val; omega
  | ⟨2, _⟩ => show (k.val * 1024 + i.val) % 1024 = i.val; omega

/-- A sum over all rows of the weights is the sum over the upper half and that over the lower. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- The row after the projection: one sum over both halves is the sum of the halves' sums. -/
theorem ref_hid (b : Fin 8) (s : Fin 4096) (j : Fin 1024) :
    val_main_v5 (F := Ideal) x0 x1 x2 x3 (ix3 b s j)
      = hid (fun i => x0 (ix3 b s i)) (fun k => x1 (ix3 b s k)) (fun k => x2 (ix3 b s k)) (fun k i => x3 (ix3 0 ⟨k.val, by omega⟩ i))
          (fun k i => x3 (ix3 0 ⟨512 + k.val, by omega⟩ i)) j := by
  rw [val_main_v5_apply, val_main_v4_apply]
  have e : ∀ k : Fin 1024, val_main_v2 (F := Ideal) x1 x2 (lidx_main_v4 (ix3 b s j) k) * val_main_v3 (F := Ideal) x3 (ridx_main_v4 (ix3 b s j) k)
      = val_main_v2 (F := Ideal) x1 x2 (ix3 b s k) * x3 (ix3 0 k j) := by
    intro k
    have e1 : lidx_main_v4 (ix3 b s j) k = ix3 b s k := funext fun a => match a with | ⟨0, _⟩ => rfl | ⟨1, _⟩ => rfl | ⟨2, _⟩ => rfl
    have e2 : ridx_main_v4 (ix3 b s j) k = ix2 k j := funext fun a => match a with | ⟨0, _⟩ => rfl | ⟨1, _⟩ => rfl
    rw [e1, e2, ref_w]
  have hs : ∑ k : Fin 1024, val_main_v2 (F := Ideal) x1 x2 (lidx_main_v4 (ix3 b s j) k) * val_main_v3 (F := Ideal) x3 (ridx_main_v4 (ix3 b s j) k)
      = (∑ k : Fin 512, x1 (ix3 b s k) * x3 (ix3 0 ⟨k.val, by omega⟩ j)) + ∑ k : Fin 512, x2 (ix3 b s k) * x3 (ix3 0 ⟨512 + k.val, by omega⟩ j) := by
    refine (Finset.sum_congr rfl fun k _ => e k).trans ((sum_halves _).trans (congrArg₂ (· + ·) ?_ ?_))
    · exact Finset.sum_congr rfl fun k _ => by rw [mix_left]
    · exact Finset.sum_congr rfl fun k _ => by rw [mix_right]
  rw [hs]
  exact (add_assoc _ _ _).symm

/-- The reference's result. -/
theorem ref_entry (b : Fin 8) (s : Fin 4096) (j : Fin 1024) :
    val_main_v18 (F := Ideal) x0 x1 x2 x3 x4 (ix3 b s j)
      = outv (fun i => x0 (ix3 b s i)) (fun k => x1 (ix3 b s k)) (fun k => x2 (ix3 b s k)) (fun k i => x3 (ix3 0 ⟨k.val, by omega⟩ i))
          (fun k i => x3 (ix3 0 ⟨512 + k.val, by omega⟩ i)) (fun i => x4 (ix1 i)) j := by
  rw [val_main_v18_apply, val_main_v15_apply, val_main_v14_apply, val_main_v13_apply, val_main_v12_apply, val_main_v10_apply, val_main_v8_apply,
    val_main_v7_apply, val_main_v9_apply, val_main_v11_apply, val_main_v17_apply, val_main_v16_apply, ref_hid]
  have e : ∀ k : Fin 1024, val_main_v6 (F := Ideal) x0 x1 x2 x3 (idx_main_v7 (idx_main_v8 (idx_main_v14 (ix3 b s j))) k)
      = hid (fun i => x0 (ix3 b s i)) (fun k => x1 (ix3 b s k)) (fun k => x2 (ix3 b s k)) (fun k i => x3 (ix3 0 ⟨k.val, by omega⟩ i))
          (fun k i => x3 (ix3 0 ⟨512 + k.val, by omega⟩ i)) k
        * hid (fun i => x0 (ix3 b s i)) (fun k => x1 (ix3 b s k)) (fun k => x2 (ix3 b s k)) (fun k i => x3 (ix3 0 ⟨k.val, by omega⟩ i))
          (fun k i => x3 (ix3 0 ⟨512 + k.val, by omega⟩ i)) k := by
    intro k
    have e1 : idx_main_v7 (idx_main_v8 (idx_main_v14 (ix3 b s j))) k = ix3 b s k := funext fun a => match a with | ⟨0, _⟩ => rfl | ⟨1, _⟩ => rfl | ⟨2, _⟩ => rfl
    rw [e1, val_main_v6_apply, ref_hid]
    rfl
  rw [Finset.sum_congr rfl fun k _ => e k]
  have ez : val_main_cst (F := Ideal) (Shape.Idx.first h_S_) = 0 := Ideal.ofBits_zero_f32
  rw [ez, zero_add]
  have eg : idx_main_v16 (idx_main_v17 (ix3 b s j)) = ix1 j := funext fun a => match a with | ⟨0, _⟩ => rfl
  rw [eg]
  rfl

end Cert.Out

namespace Cert.Out

open Idealize.ShloMosaic Cert.Kernel2Ideal Cert.Kernel2Ideal.Gen
open Idealize.ShloMosaic.TcCoe Idealize.SL

/-- The reference's result on the kernel's arguments is the kernel's result. -/
theorem value_eq (m : (ℓ : Loc nD τ sig) → Buf (Elt Ideal) ℓ) (c : Dev nD) :
    Cert.Reference2Ideal.Read.val_main_v18 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = (dats m 0 c).arrAt 4 cfg0.N := by
  funext i
  have h1 : (i 1).val < 4096 := (i 1).isLt
  have ei : i = ix3 (i 0) (⟨1024 * ((i 1).val / 1024) + (i 1).val % 1024, by omega⟩ : Fin 4096) (i 2) :=
    funext fun a => Fin.ext (match a with
      | ⟨0, _⟩ => rfl
      | ⟨1, _⟩ => (Nat.div_add_mod (i 1).val 1024).symm
      | ⟨2, _⟩ => rfl)
  rw [ei]
  refine (ref_entry _ _ _ _ _ (i 0) _ (i 2)).trans ?_
  exact (kernel_entry m c (i 0) ⟨(i 1).val / 1024, by omega⟩ ⟨(i 1).val % 1024, Nat.mod_lt _ (by decide)⟩ (i 2)).symm

end Cert.Out

end
-- ==== Proof.InBits.lean ====
/- The input projection at the words it computes with: no result is named, only that every execution ends, with the arguments
   in place. -/
module

public import proofs.«01_k».proof.Proof.Gen.Kernel3.Launch
public import proofs.«01_k».proof.Proof.Gen.Kernel3.Skeleton
public import proofs.«01_k».proof.Proof.Gen.Kernel3.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3.Hand

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat)

variable {F : FTy → Type} [FloatOps F]

local notation "𝕄" => MT nD τ sig Unit (Elt F) ℕ (UR sig nD τ) ℕ

/-- The condition of the body's first branch: the point is the first of its batch. -/
abbrev cond0 (i : grid0.Coords) : Prop := (Scalar.cmpi .ne (Scalar.extui (Scalar.cmpi .eq (BitVec.ofNat 32 (i 1).val) 0#32)) 0#32) = 1#1
/-- The condition of its second: the point is not. -/
abbrev cond1 (i : grid0.Coords) : Prop := (Scalar.cmpi .ne (Scalar.extui (Scalar.cmpi .sgt (BitVec.ofNat 32 (i 1).val) 0#32)) 0#32) = 1#1

/-- Exactly one of the two holds. -/
theorem conds : ∀ t : Fin cfg0.N, (cond0 (grid0.coords t) ∧ ¬cond1 (grid0.coords t)) ∨ (¬cond0 (grid0.coords t) ∧ cond1 (grid0.coords t)) :=
  (by decide +kernel : ∀ t : Fin grid0.N, (cond0 (grid0.coords t) ∧ ¬cond1 (grid0.coords t)) ∨ (¬cond0 (grid0.coords t) ∧ cond1 (grid0.coords t)))

set_option backward.proofsInPublic true in
set_option maxHeartbeats 8000000 in
/-- A point's run, whichever branch it takes: it ends with the inputs in place and with every other buffer owned. -/
theorem run (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S4112x1024 .bf16) (harg4 : arg4.IsWhole) (arg5 : Memref sig .tc .vmem S8x1 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S1x512x1024 .bf16) (harg10 : arg10.IsWhole) (arg11 : Memref sig .tc .vmem S1x1024x1024 .bf16) (harg11 : arg11.IsWhole) (arg12 : Memref sig .tc .vmem S1x512x1024 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S8x128 .f32) (harg15 : arg15.IsWhole) (arg16 : Memref sig .tc .vmem S2x1040x512 .f32) (harg16 : arg16.IsWhole)
    (hc : (cond0 i ∧ ¬cond1 i) ∨ (¬cond0 i ∧ cond1 i))
    (x0 : Vec F S1x1024x1024 .f32) (x1 : Vec F S1x1024 .f32) (x2 : Vec F S4112x1024 .bf16) (x3 : Vec F S8x1 .f32) (x4 : Vec F S3x512 .f32) (x5 : Vec F S1x512 .f32) (x6 : Vec F S8x512 .f32) (x7 : Vec F S8x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  rcases hc with ⟨hc0, hc1⟩ | ⟨hc0, hc1⟩
  all_goals
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call leaves: its inputs at their blocks, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed (cfg := cfg0) 8 t
    | ⟨9, _⟩ => Dat.unnamed (cfg := cfg0) 9 t
    | ⟨10, _⟩ => Dat.unnamed (cfg := cfg0) 10 t
    | ⟨11, _⟩ => Dat.unnamed (cfg := cfg0) 11 t
    | ⟨12, _⟩ => Dat.unnamed (cfg := cfg0) 12 t
  Φ _ := Pipeline.ΦA spec0 c
  q _ := fullShare
  owed _ := 0

/-- No result is named. -/
def forgets : Fin cfg0.W → Bool := fun w => decide (8 ≤ w.val)

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

abbrev ms0 (t : Fin cfg0.N) : Memref sig .tc .vmem S1x1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S4112x1024 .bf16 := win0_2.stage (cfg0.slots t 2)
abbrev ms3 (t : Fin cfg0.N) : Memref sig .tc .vmem S8x1 .f32 := win0_3.stage (cfg0.slots t 3)
abbrev ms4 (t : Fin cfg0.N) : Memref sig .tc .vmem S3x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S8x512 .f32 := win0_6.stage (cfg0.slots t 6)
abbrev ms7 (t : Fin cfg0.N) : Memref sig .tc .vmem S8x1 .f32 := win0_7.stage (cfg0.slots t 7)
abbrev ms8 (t : Fin cfg0.N) : Memref sig .tc .vmem S1x512x1024 .bf16 := win0_8.stage (cfg0.slots t 8)
abbrev ms9 (t : Fin cfg0.N) : Memref sig .tc .vmem S1x1024x1024 .bf16 := win0_9.stage (cfg0.slots t 9)
abbrev ms10 (t : Fin cfg0.N) : Memref sig .tc .vmem S1x512x1024 .bf16 := win0_10.stage (cfg0.slots t 10)
abbrev ms11 (t : Fin cfg0.N) : Memref sig .tc .vmem S1x1024x512 .bf16 := win0_11.stage (cfg0.slots t 11)
abbrev ms12 (t : Fin cfg0.N) : Memref sig .tc .vmem S1x1024x512 .bf16 := win0_12.stage (cfg0.slots t 12)
abbrev sc0 : Memref sig .tc .vmem S8x128 .f32 := Memref.whole cc0_scratch0
abbrev sc1 : Memref sig .tc .vmem S2x1040x512 .f32 := Memref.whole cc0_scratch1

/-- The two scratch buffers, owned at some contents between points. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.castSucc = Pipeline.ΦA spec0 c from rfl, show (dats m 0 c).Φ t.succ = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run c (grid0.coords t) _ _ _ _ _ _ _ _ _ _ _ _ _ _ _ _ _ _ _ _ _ _ _ _ _ _ _ _ _ _  (conds t) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The table's row of a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, with the counters at zero, the arrays as stated above and every other buffer as launched. -/
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget cfgs (dats m) (0 : Fin 1) launch0 defs₀ Variants.none forgets m ρ main
    (fun c => (body_obligation m c).loose) (fun c => (dats m 0 c).share_full fun _ => rfl)
    (fun _ _ => rfl) (V m) (hmain m Variants.none) (A_eq m) (fun _ _ => rfl) _ (fun _ h => h)

/-- The arguments in place and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1.arr_in c 0 rfl).trans (A_eq m c 0),
      (h.1.arr_in c 1 rfl).trans (A_eq m c 1),
      (h.1.arr_in c 2 rfl).trans (A_eq m c 2),
      (h.1.arr_in c 3 rfl).trans (A_eq m c 3),
      (h.1.arr_in c 4 rfl).trans (A_eq m c 4),
      (h.1.arr_in c 5 rfl).trans (A_eq m c 5),
      (h.1.arr_in c 6 rfl).trans (A_eq m c 6),
      (h.1.arr_in c 7 rfl).trans (A_eq m c 7)⟩, h.2⟩)
    (run_main m ρ)

end Cert.Kernel3.Hand

end
-- ==== Proof.InRun.lean ====
/- One grid point of the input projection's call: from the staged inputs and the two rows before the point's, what it leaves in
   the staged queries, values, gate rows and convolution rows, and which rows it leaves for the next point; of its other
   result and of the sums' scratch buffer, that they are owned. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueIdxCore
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's first branch: the point is the first of its batch. -/
abbrev cond0 (i : grid0.Coords) : Prop := (Scalar.cmpi .ne (Scalar.extui (Scalar.cmpi .eq (BitVec.ofNat 32 (i 1).val) 0#32)) 0#32) = 1#1
/-- The condition of its second: the point is not. -/
abbrev cond1 (i : grid0.Coords) : Prop := (Scalar.cmpi .ne (Scalar.extui (Scalar.cmpi .sgt (BitVec.ofNat 32 (i 1).val) 0#32)) 0#32) = 1#1

/-- Exactly one of the two holds. -/
theorem conds : ∀ t : Fin cfg0.N, (cond0 (grid0.coords t) ∧ ¬cond1 (grid0.coords t) ∧ t.val % 4 = 0) ∨ (¬cond0 (grid0.coords t) ∧ cond1 (grid0.coords t) ∧ ¬t.val % 4 = 0) :=
  (by decide +kernel : ∀ t : Fin grid0.N, (cond0 (grid0.coords t) ∧ ¬cond1 (grid0.coords t) ∧ t.val % 4 = 0) ∨ (¬cond0 (grid0.coords t) ∧ cond1 (grid0.coords t) ∧ ¬t.val % 4 = 0))

/-- The point's normalised rows. -/
def uB (x0 : Vec F S1x1024x1024 .f32) (x1 : Vec F S1x1024 .f32) : FVec F S1024x1024 .bf16 :=
  k0_pay7 (View.ld x0 (Rect.unit (s := S1x1024x1024) ![0, 0, 0] S1x1024x1024.size inb_S1x1024x1024_S1x1024x1024_0_0_0))
    (View.ld x1 (Rect.unit (s := S1x1024) ![0, 0] S1x1024.size inb_S1x1024_S1x1024_0_0))

/-- The weights of the queries, the values and the forget gate. -/
def wB (x2 : Vec F S4112x1024 .bf16) : Vec F S1040x1024 .bf16 :=
  View.ld x2 (Rect.unit (s := S4112x1024) ![0, 0] S1040x1024.size inb_S4112x1024_S1040x1024_0_0)

/-- The point's queries. -/
def qtB (x0 : Vec F S1x1024x1024 .f32) (x1 : Vec F S1x1024 .f32) (x2 : Vec F S4112x1024 .bf16) : Vec F S1x512x1024 .bf16 :=
  View.canon [⟨Rect.unit (s := S1x512x1024) ![0, 0, 0] S1x512x1024.size inb_S1x512x1024_S1x512x1024_0_0_0, k0_pay25 (uB x0 x1) (wB x2)⟩]

/-- The point's values. -/
def vtB (x0 : Vec F S1x1024x1024 .f32) (x1 : Vec F S1x1024 .f32) (x2 : Vec F S4112x1024 .bf16) : Vec F S1x512x1024 .bf16 :=
  View.canon [⟨Rect.unit (s := S1x512x1024) ![0, 0, 0] S1x512x1024.size inb_S1x512x1024_S1x512x1024_0_0_0, k0_pay26 (uB x0 x1) (wB x2)⟩]

/-- The point's gate rows. -/
def zB (x0 : Vec F S1x1024x1024 .f32) (x1 : Vec F S1x1024 .f32) (x2 : Vec F S4112x1024 .bf16) : Vec F S1x1024x512 .bf16 :=
  View.canon [⟨Rect.unit (s := S1x1024x512) ![0, 0, 0] S1x1024x512.size inb_S1x1024x512_S1x1024x512_0_0_0,
    k0_pay1 (k0_pay48 (uB x0 x1) (View.ld x2 (Rect.unit (s := S4112x1024) ![1552, 0] S512x1024.size inb_S4112x1024_S512x1024_1552_0)))⟩]

/-- The normalised rows of a run's reads. -/
theorem uB_run {arg2 : Memref sig .tc .vmem S1x1024x1024 .f32} (harg2 : arg2.IsWhole) {arg3 : Memref sig .tc .vmem S1x1024 .f32} (harg3 : arg3.IsWhole)
    (x0 : Vec F S1x1024x1024 .f32) (x1 : Vec F S1x1024 .f32) :
    k0_pay7 (View.readAt (Elt F) arg2.view (Rect.unit (s := S1x1024x1024) ![0, 0, 0] S1x1024x1024.size inb_S1x1024x1024_S1x1024x1024_0_0_0).toLoadRect (harg2.unread x0))
      (View.readAt (Elt F) arg3.view (Rect.unit (s := S1x1024) ![0, 0] S1x1024.size inb_S1x1024_S1x1024_0_0).toLoadRect (harg3.unread x1)) = uB x0 x1 := by
  unfold uB
  rw [View.readAt_eq_ld, View.readAt_eq_ld, harg2.read_unread, harg3.read_unread]

/-- The queries of a run's reads. -/
theorem qtB_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) (x0 : Vec F S1x1024x1024 .f32) (x1 : Vec F S1x1024 .f32) (x2 : Vec F S4112x1024 .bf16) :
    View.canon [⟨Rect.unit (s := S1x512x1024) ![0, 0, 0] S1x512x1024.size inb_S1x512x1024_S1x512x1024_0_0_0, k0_pay25 (k0_pay7 (View.readAt (Elt F) arg2.view (Rect.unit (s := S1x1024x1024) ![0, 0, 0] S1x1024x1024.size inb_S1x1024x1024_S1x1024x1024_0_0_0).toLoadRect (harg2.unread x0))
        (View.readAt (Elt F) arg3.view (Rect.unit (s := S1x1024) ![0, 0] S1x1024.size inb_S1x1024_S1x1024_0_0).toLoadRect (harg3.unread x1)))
        (View.readAt (Elt F) arg4.view (Rect.unit (s := S4112x1024) ![0, 0] S1040x1024.size inb_S4112x1024_S1040x1024_0_0).toLoadRect (harg4.unread x2))⟩] = qtB x0 x1 x2 := by
  rw [uB_run, View.readAt_eq_ld, harg4.read_unread]
  rfl

/-- The values of a run's reads. -/
theorem vtB_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) (x0 : Vec F S1x1024x1024 .f32) (x1 : Vec F S1x1024 .f32) (x2 : Vec F S4112x1024 .bf16) :
    View.canon [⟨Rect.unit (s := S1x512x1024) ![0, 0, 0] S1x512x1024.size inb_S1x512x1024_S1x512x1024_0_0_0, k0_pay26 (k0_pay7 (View.readAt (Elt F) arg2.view (Rect.unit (s := S1x1024x1024) ![0, 0, 0] S1x1024x1024.size inb_S1x1024x1024_S1x1024x1024_0_0_0).toLoadRect (harg2.unread x0))
        (View.readAt (Elt F) arg3.view (Rect.unit (s := S1x1024) ![0, 0] S1x1024.size inb_S1x1024_S1x1024_0_0).toLoadRect (harg3.unread x1)))
        (View.readAt (Elt F) arg4.view (Rect.unit (s := S4112x1024) ![0, 0] S1040x1024.size inb_S4112x1024_S1040x1024_0_0).toLoadRect (harg4.unread x2))⟩] = vtB x0 x1 x2 := by
  rw [uB_run, View.readAt_eq_ld, harg4.read_unread]
  rfl

/-- The gate rows of a run's reads. -/
theorem zB_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) (x0 : Vec F S1x1024x1024 .f32) (x1 : Vec F S1x1024 .f32) (x2 : Vec F S4112x1024 .bf16) :
    View.canon [⟨Rect.unit (s := S1x1024x512) ![0, 0, 0] S1x1024x512.size inb_S1x1024x512_S1x1024x512_0_0_0, k0_pay1 (k0_pay48 (k0_pay7 (View.readAt (Elt F) arg2.view (Rect.unit (s := S1x1024x1024) ![0, 0, 0] S1x1024x1024.size inb_S1x1024x1024_S1x1024x1024_0_0_0).toLoadRect (harg2.unread x0))
        (View.readAt (Elt F) arg3.view (Rect.unit (s := S1x1024) ![0, 0] S1x1024.size inb_S1x1024_S1x1024_0_0).toLoadRect (harg3.unread x1)))
        (View.readAt (Elt F) arg4.view (Rect.unit (s := S4112x1024) ![1552, 0] S512x1024.size inb_S4112x1024_S512x1024_1552_0).toLoadRect (harg4.unread x2)))⟩] = zB x0 x1 x2 := by
  rw [uB_run, View.readAt_eq_ld, harg4.read_unread]
  rfl

/-- A matrix of 512 weight rows. -/
def wRows (x2 : Vec F S4112x1024 .bf16) (o : ℕ) (inb : ∀ a, (![o, 0] : Fin 2 → ℕ) a + S512x1024.size a ≤ S4112x1024.size a) : Vec F S512x1024 .bf16 :=
  View.ld x2 (Rect.unit (s := S4112x1024) ![o, 0] S512x1024.size inb)

/-- The rows the convolution takes: the product of two projections. -/
def cxB (x0 : Vec F S1x1024x1024 .f32) (x1 : Vec F S1x1024 .f32) (x2 : Vec F S4112x1024 .bf16) : FVec F S1024x512 .f32 :=
  k0_pay9 (View.ld x0 (Rect.unit (s := S1x1024x1024) ![0, 0, 0] S1x1024x1024.size inb_S1x1024x1024_S1x1024x1024_0_0_0))
    (View.ld x1 (Rect.unit (s := S1x1024) ![0, 0] S1x1024.size inb_S1x1024_S1x1024_0_0))
    (wRows x2 2576 inb_S4112x1024_S512x1024_2576_0) (wRows x2 3088 inb_S4112x1024_S512x1024_3088_0)

/-- Those rows one later: the row before them, then all but the last. -/
def late1 (y : FVec F S1024x512 .f32) (p1 : Fin 512 → F .f32) : Vec F S1x1024x512 .f32 := fun i =>
  if h : (i 1).val = 0 then p1 (i 2) else y (ix2 (⟨(i 1).val - 1, lt_of_le_of_lt (Nat.sub_le _ _) (i 1).isLt⟩ : Fin 1024) (i 2))

/-- Those rows two later. -/
def late2 (y : FVec F S1024x512 .f32) (p1 p2 : Fin 512 → F .f32) : Vec F S1x1024x512 .f32 := fun i =>
  if (i 1).val = 0 then p2 (i 2) else if (i 1).val = 1 then p1 (i 2)
  else y (ix2 (⟨(i 1).val - 2, lt_of_le_of_lt (Nat.sub_le _ _) (i 1).isLt⟩ : Fin 1024) (i 2))

/-- A row of the convolution's weights. -/
def cRow (x4 : Vec F S3x512 .f32) (o : ℕ) (inb : ∀ a, (![o, 0] : Fin 2 → ℕ) a + S1x512.size a ≤ S3x512.size a) : Vec F S1x512 .f32 :=
  View.ld x4 (Rect.unit (s := S3x512) ![o, 0] S1x512.size inb)

/-- The convolution rows' stored vector from their gate, their norm's gain and what the convolution takes. -/
def ycV (g23 : FVec F S1024x512 .f32) (y : FVec F S1024x512 .f32) (w0 : Vec F S1x512 .f32) (l2 : Vec F S1x1024x512 .f32) (w1 : Vec F S1x512 .f32)
    (l1 : Vec F S1x1024x512 .f32) (w2 : Vec F S1x512 .f32) (g : Vec F S1x512 .f32) (z52 : FVec F S1024x512 .f32) : FVec F S1x1024x512 .bf16 :=
  k0_pay23 z52 (k0_pay22 (k0_pay12 g23 y w0 l2 w1 l1 w2) k0_pay14 (k0_pay18 k0_pay14 (k0_pay16 g23 y w0 l2 w1 l1 w2) (k0_pay17 g23 y w0 l2 w1 l1 w2))
    (k0_pay19 (k0_pay12 g23 y w0 l2 w1 l1 w2) k0_pay14) (k0_pay20 (k0_pay12 g23 y w0 l2 w1 l1 w2)) (k0_pay21 (k0_pay12 g23 y w0 l2 w1 l1 w2) k0_pay14)
    (Scalar.ofBits .f32 0x00000000#32) g)

/-- The point's convolution rows. -/
def ycB (x0 : Vec F S1x1024x1024 .f32) (x1 : Vec F S1x1024 .f32) (x2 : Vec F S4112x1024 .bf16) (x4 : Vec F S3x512 .f32) (x5 : Vec F S1x512 .f32)
    (p1 p2 : Fin 512 → F .f32) : Vec F S1x1024x512 .bf16 :=
  View.canon [⟨Rect.unit (s := S1x1024x512) ![0, 0, 0] S1x1024x512.size inb_S1x1024x512_S1x1024x512_0_0_0,
    ycV (k0_pay8 (View.ld x0 (Rect.unit (s := S1x1024x1024) ![0, 0, 0] S1x1024x1024.size inb_S1x1024x1024_S1x1024x1024_0_0_0))
        (View.ld x1 (Rect.unit (s := S1x1024) ![0, 0] S1x1024.size inb_S1x1024_S1x1024_0_0)) (wRows x2 2064 inb_S4112x1024_S512x1024_2064_0))
      (cxB x0 x1 x2) (cRow x4 0 inb_S3x512_S1x512_0_0) (late2 (cxB x0 x1 x2) p1 p2) (cRow x4 1 inb_S3x512_S1x512_1_0) (late1 (cxB x0 x1 x2) p1)
      (cRow x4 2 inb_S3x512_S1x512_2_0) (View.ld x5 (Rect.unit (s := S1x512) ![0, 0] S1x512.size inb_S1x512_S1x512_0_0))
      (k0_pay13 (uB x0 x1) (wRows x2 3600 inb_S4112x1024_S512x1024_3600_0))⟩]

/-- The scratch holds a point's last two rows where the next one looks for them. -/
def Tail (y : FVec F S1024x512 .f32) (d : Vec F S2x1040x512 .f32) : Prop := ∀ j : Fin 512,
  d (ix3 (0 : Fin 2) (1032 : Fin 1040) j) = y (ix2 (1023 : Fin 1024) j) ∧ d (ix3 (1 : Fin 2) (1032 : Fin 1040) j) = y (ix2 (1022 : Fin 1024) j)
    ∧ d (ix3 (1 : Fin 2) (1033 : Fin 1040) j) = y (ix2 (1023 : Fin 1024) j)

/-- The two rows before a point's are those the scratch holds. -/
def Before (d : Vec F S2x1040x512 .f32) (p1 p2 : Fin 512 → F .f32) : Prop := ∀ j : Fin 512,
  d (ix3 (0 : Fin 2) (1032 : Fin 1040) j) = p1 j ∧ d (ix3 (1 : Fin 2) (1032 : Fin 1040) j) = p2 j ∧ d (ix3 (1 : Fin 2) (1033 : Fin 1040) j) = p1 j

/-- The two rows before a batch's first point's are the halo's last. -/
def Halo (x6 : Vec F S8x512 .f32) (p1 p2 : Fin 512 → F .f32) : Prop := ∀ j : Fin 512, x6 (ix2 (7 : Fin 8) j) = p1 j ∧ x6 (ix2 (6 : Fin 8) j) = p2 j

/-- The stores a point makes into the two slabs of late rows, the last first. -/
def pcs (y : FVec F S1024x512 .f32) (b0 : FVec F S1x1x512 .f32) (b1 : FVec F S1x2x512 .f32) : List (View.Piece (Elt F) S2x1040x512 .f32) :=
  [⟨Rect.unit (s := S2x1040x512) ![1, 10, 0] S1x1024x512.size inb_S2x1040x512_S1x1024x512_1_10_0, k0_pay11 y⟩,
    ⟨Rect.unit (s := S2x1040x512) ![0, 9, 0] S1x1024x512.size inb_S2x1040x512_S1x1024x512_0_9_0, k0_pay11 y⟩,
    ⟨Rect.unit (s := S2x1040x512) ![1, 8, 0] S1x2x512.size inb_S2x1040x512_S1x2x512_1_8_0, b1⟩,
    ⟨Rect.unit (s := S2x1040x512) ![0, 8, 0] S1x1x512.size inb_S2x1040x512_S1x1x512_0_8_0, b0⟩]

/-- The rows stored ahead of the point's are the two before it. -/
def Enter (b0 : FVec F S1x1x512 .f32) (b1 : FVec F S1x2x512 .f32) (p1 p2 : Fin 512 → F .f32) : Prop := ∀ j : Fin 512,
  b0 (ix3 (0 : Fin 1) (0 : Fin 1) j) = p1 j ∧ b1 (ix3 (0 : Fin 1) (0 : Fin 2) j) = p2 j ∧ b1 (ix3 (0 : Fin 1) (1 : Fin 2) j) = p1 j

section Slabs

variable (v : View sig Kind.tc Space.vmem S2x1040x512 .f32) (f : v.ty.Contents (Elt F)) (y : FVec F S1024x512 .f32)
  {b0 : FVec F S1x1x512 .f32} {b1 : FVec F S1x2x512 .f32} {p1 p2 : Fin 512 → F .f32}

theorem pay11_apply (r : Fin 1024) (j : Fin 512) : k0_pay11 y (ix3 0 r j) = y (ix2 r j) := by
  pointwise [k0_pay11]

theorem slab0 (i : Fin 1040) (r : Fin 1024) (j : Fin 512) (h : i.val = 9 + r.val) :
    v.read (Elt F) (v.writes (Elt F) f (pcs y b0 b1)) (ix3 0 i j) = y (ix2 r j) :=
  (View.read_writes_cons_unit_of_not_mem v f _ _ _ _ rfl 0 (Or.inl Nat.zero_lt_one)).trans
    ((View.read_writes_cons_unit_of_mem v f _ _ _ _ (ix3 0 r j) rfl (by intro a; fin_cases a; exacts [rfl, h, (Nat.zero_add _).symm])).trans (pay11_apply y r j))

theorem slab1 (i : Fin 1040) (r : Fin 1024) (j : Fin 512) (h : i.val = 10 + r.val) :
    v.read (Elt F) (v.writes (Elt F) f (pcs y b0 b1)) (ix3 1 i j) = y (ix2 r j) :=
  (View.read_writes_cons_unit_of_mem v f _ _ _ _ (ix3 0 r j) rfl (by intro a; fin_cases a; exacts [rfl, h, (Nat.zero_add _).symm])).trans (pay11_apply y r j)

theorem first0 (hb : Enter b0 b1 p1 p2) (i : Fin 1040) (j : Fin 512) (h : i.val = 8) :
    v.read (Elt F) (v.writes (Elt F) f (pcs y b0 b1)) (ix3 0 i j) = p1 j :=
  (View.read_writes_cons_unit_of_not_mem v f _ _ _ _ rfl 0 (Or.inl Nat.zero_lt_one)).trans
    ((View.read_writes_cons_unit_of_not_mem v f _ _ _ _ rfl 1 (Or.inl (by show i.val < 9; omega))).trans
    ((View.read_writes_cons_unit_of_not_mem v f _ _ _ _ rfl 0 (Or.inl Nat.zero_lt_one)).trans
    ((View.read_writes_cons_unit_of_mem v f _ _ _ _ (ix3 0 0 j) rfl (by intro a; fin_cases a; exacts [rfl, h, (Nat.zero_add _).symm])).trans (hb j).1)))

theorem first1 (i : Fin 1040) (q : Fin 2) (j : Fin 512) (h : i.val = 8 + q.val) :
    v.read (Elt F) (v.writes (Elt F) f (pcs y b0 b1)) (ix3 1 i j) = b1 (ix3 0 q j) :=
  (View.read_writes_cons_unit_of_not_mem v f _ _ _ _ rfl 1 (Or.inl (by show i.val < 10; omega))).trans
    ((View.read_writes_cons_unit_of_not_mem v f _ _ _ _ rfl 0 (Or.inr (le_refl _))).trans
    (View.read_writes_cons_unit_of_mem v f _ _ _ _ (ix3 0 q j) rfl (by intro a; fin_cases a; exacts [rfl, h, (Nat.zero_add _).symm])))

theorem at_idx (q : ℕ) (hq : q < 2) (o : ℕ) (sz : Fin 3 → ℕ) (inb) (x : (Rect.unit (s := S2x1040x512) ![q, o, 0] sz inb).toLoadRect.shape.Idx)
    (i : Fin 1040) (j : Fin 512) (h0 : (x 0).val = 0) (h1 : o + (x 1).val = i.val) (h2 : (x 2).val = j.val) :
    (Rect.unit (s := S2x1040x512) ![q, o, 0] sz inb).toLoadRect.idx x = ix3 (⟨q, hq⟩ : Fin 2) i j := by
  refine funext fun a => Fin.ext ?_
  fin_cases a
  · show q + 1 * (x 0).val = q; omega
  · show o + 1 * (x 1).val = i.val; omega
  · show 0 + 1 * (x 2).val = j.val; omega

theorem late1_pcs (hb : Enter b0 b1 p1 p2) :
    v.readCov (pcs y b0 b1) (Rect.unit (s := S2x1040x512) ![0, 8, 0] S1x1024x512.size inb_S2x1040x512_S1x1024x512_0_8_0).toLoadRect = late1 y p1 := by
  refine funext fun x => ?_
  have hx0 : (x 0).val = 0 := Nat.lt_one_iff.mp (x 0).isLt
  have hx1 : (x 1).val < 1024 := (x 1).isLt
  have hi := at_idx 0 (by omega) 8 S1x1024x512.size inb_S2x1040x512_S1x1024x512_0_8_0 x ⟨8 + (x 1).val, by omega⟩ (x 2) hx0 rfl rfl
  refine (congrArg (v.read (Elt F) (v.writes (Elt F) v.junk (pcs y b0 b1))) hi).trans ?_
  unfold late1
  split
  · next h => exact first0 v _ y hb _ _ (by show 8 + (x 1).val = 8; omega)
  · next h => exact slab0 v _ y _ _ _ (by show 8 + (x 1).val = 9 + ((x 1).val - 1); omega)

theorem late2_pcs (hb : Enter b0 b1 p1 p2) :
    v.readCov (pcs y b0 b1) (Rect.unit (s := S2x1040x512) ![1, 8, 0] S1x1024x512.size inb_S2x1040x512_S1x1024x512_1_8_0).toLoadRect = late2 y p1 p2 := by
  refine funext fun x => ?_
  have hx0 : (x 0).val = 0 := Nat.lt_one_iff.mp (x 0).isLt
  have hx1 : (x 1).val < 1024 := (x 1).isLt
  have hi := at_idx 1 (by omega) 8 S1x1024x512.size inb_S2x1040x512_S1x1024x512_1_8_0 x ⟨8 + (x 1).val, by omega⟩ (x 2) hx0 rfl rfl
  refine (congrArg (v.read (Elt F) (v.writes (Elt F) v.junk (pcs y b0 b1))) hi).trans ?_
  unfold late2
  split
  · next h => exact (first1 v _ y _ 0 _ (by show 8 + (x 1).val = 8 + 0; omega)).trans (hb _).2.1
  · split
    · next h => exact (first1 v _ y _ 1 _ (by show 8 + (x 1).val = 8 + 1; omega)).trans (hb _).2.2
    · next h h' => exact slab1 v _ y _ _ _ (by show 8 + (x 1).val = 10 + ((x 1).val - 2); omega)

theorem tail_pcs : Tail y (v.read (Elt F) (v.writes (Elt F) f (pcs y b0 b1))) := fun j =>
  ⟨slab0 v f y 1032 1023 j rfl, slab1 v f y 1032 1022 j rfl, slab1 v f y 1033 1023 j rfl⟩

end Slabs

/-- The rows a batch's first point stores ahead of its own, -/
theorem halo_run {arg8 : Memref sig .tc .vmem S8x512 .f32} (harg8 : arg8.IsWhole) {x6 : Vec F S8x512 .f32} {p1 p2 : Fin 512 → F .f32} (hp : Halo x6 p1 p2) :
    Enter (k0_pay2 (View.readAt (Elt F) arg8.view (Rect.unit (s := S8x512) ![7, 0] S1x512.size inb_S8x512_S1x512_7_0).toLoadRect (harg8.unread x6)))
      (k0_pay3 (View.readAt (Elt F) arg8.view (Rect.unit (s := S8x512) ![6, 0] S2x512.size inb_S8x512_S2x512_6_0).toLoadRect (harg8.unread x6))) p1 p2 := by
  have hr : ∀ (o n : ℕ) (inb) (q : Fin n) (i : Fin 8) (j : Fin 512), o + q.val = i.val →
      View.readAt (Elt F) arg8.view (Rect.unit (s := S8x512) ![o, 0] ![n, 512] inb).toLoadRect (harg8.unread x6) (ix2 q j) = x6 (ix2 i j) :=
    fun o n inb q i j h => (congrArg (fun z : Vec F S8x512 .f32 => z _) (harg8.read_unread x6)).trans (congrArg x6 (funext fun a => Fin.ext (by
      fin_cases a
      · show o + 1 * q.val = i.val; omega
      · show 0 + 1 * j.val = j.val; omega)))
  intro j
  refine ⟨.trans ?_ ((hr 7 1 inb_S8x512_S1x512_7_0 0 7 j rfl).trans (hp j).1), .trans ?_ ((hr 6 2 inb_S8x512_S2x512_6_0 0 6 j rfl).trans (hp j).2), .trans ?_ ((hr 6 2 inb_S8x512_S2x512_6_0 1 7 j rfl).trans (hp j).1)⟩
  · pointwise [k0_pay2]
  · pointwise [k0_pay3]
  · pointwise [k0_pay3]

/-- and the rows any other point does. -/
theorem before_run {arg16 : Memref sig .tc .vmem S2x1040x512 .f32} (harg16 : arg16.IsWhole) {d : Vec F S2x1040x512 .f32} {p1 p2 : Fin 512 → F .f32} (hp : Before d p1 p2) :
    Enter (k0_pay5 (View.readAt (Elt F) arg16.view (Rect.unit (s := S2x1040x512) ![0, 1032, 0] S1x1x512.size inb_S2x1040x512_S1x1x512_0_1032_0).toLoadRect (harg16.unread d)))
      (k0_pay6 (View.readAt (Elt F) arg16.view (Rect.unit (s := S2x1040x512) ![1, 1032, 0] S1x2x512.size inb_S2x1040x512_S1x2x512_1_1032_0).toLoadRect (harg16.unread d))) p1 p2 := by
  have hr : ∀ (k : ℕ) (hk : k < 2) (n : ℕ) (inb) (q : Fin n) (i : Fin 1040) (j : Fin 512), 1032 + q.val = i.val →
      View.readAt (Elt F) arg16.view (Rect.unit (s := S2x1040x512) ![k, 1032, 0] ![1, n, 512] inb).toLoadRect (harg16.unread d) (ix3 0 q j) = d (ix3 (⟨k, hk⟩ : Fin 2) i j) :=
    fun k hk n inb q i j h => (congrArg (fun z : Vec F S2x1040x512 .f32 => z _) (harg16.read_unread d)).trans (congrArg d (at_idx k hk 1032 _ inb _ i j rfl h rfl))
  intro j
  refine ⟨.trans ?_ ((hr 0 (by omega) 1 inb_S2x1040x512_S1x1x512_0_1032_0 0 1032 j rfl).trans (hp j).1), .trans ?_ ((hr 1 (by omega) 2 inb_S2x1040x512_S1x2x512_1_1032_0 0 1032 j rfl).trans (hp j).2.1),
    .trans ?_ ((hr 1 (by omega) 2 inb_S2x1040x512_S1x2x512_1_1032_0 1 1033 j rfl).trans (hp j).2.2)⟩
  · pointwise [k0_pay5]
  · pointwise [k0_pay6]
  · pointwise [k0_pay6]

/-- What the convolution takes, of a run's reads. -/
theorem cxB_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) (x0 : Vec F S1x1024x1024 .f32) (x1 : Vec F S1x1024 .f32) (x2 : Vec F S4112x1024 .bf16) :
    k0_pay9 (View.readAt (Elt F) arg2.view (Rect.unit (s := S1x1024x1024) ![0, 0, 0] S1x1024x1024.size inb_S1x1024x1024_S1x1024x1024_0_0_0).toLoadRect (harg2.unread x0))
      (View.readAt (Elt F) arg3.view (Rect.unit (s := S1x1024) ![0, 0] S1x1024.size inb_S1x1024_S1x1024_0_0).toLoadRect (harg3.unread x1))
      (View.readAt (Elt F) arg4.view (Rect.unit (s := S4112x1024) ![2576, 0] S512x1024.size inb_S4112x1024_S512x1024_2576_0).toLoadRect (harg4.unread x2))
      (View.readAt (Elt F) arg4.view (Rect.unit (s := S4112x1024) ![3088, 0] S512x1024.size inb_S4112x1024_S512x1024_3088_0).toLoadRect (harg4.unread x2)) = cxB x0 x1 x2 := by
  unfold cxB wRows
  rw [View.readAt_eq_ld, View.readAt_eq_ld, View.readAt_eq_ld, View.readAt_eq_ld, harg2.read_unread, harg3.read_unread, harg4.read_unread]

/-- The last rows a run leaves. -/
theorem tail_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) (x0 : Vec F S1x1024x1024 .f32) (x1 : Vec F S1x1024 .f32) (x2 : Vec F S4112x1024 .bf16)
    (v : View sig Kind.tc Space.vmem S2x1040x512 .f32) (f : v.ty.Contents (Elt F)) (b0 : FVec F S1x1x512 .f32) (b1 : FVec F S1x2x512 .f32) :
    Tail (cxB x0 x1 x2) (v.read (Elt F) (v.writes (Elt F) f (pcs (k0_pay9 (View.readAt (Elt F) arg2.view (Rect.unit (s := S1x1024x1024) ![0, 0, 0] S1x1024x1024.size inb_S1x1024x1024_S1x1024x1024_0_0_0).toLoadRect (harg2.unread x0))
      (View.readAt (Elt F) arg3.view (Rect.unit (s := S1x1024) ![0, 0] S1x1024.size inb_S1x1024_S1x1024_0_0).toLoadRect (harg3.unread x1))
      (View.readAt (Elt F) arg4.view (Rect.unit (s := S4112x1024) ![2576, 0] S512x1024.size inb_S4112x1024_S512x1024_2576_0).toLoadRect (harg4.unread x2))
      (View.readAt (Elt F) arg4.view (Rect.unit (s := S4112x1024) ![3088, 0] S512x1024.size inb_S4112x1024_S512x1024_3088_0).toLoadRect (harg4.unread x2))) b0 b1))) := by
  rw [cxB_run]
  exact tail_pcs v f _

/-- The convolution rows of a run's reads. -/
theorem ycB_run {arg2 : Memref sig .tc .vmem S1x1024x1024 .f32} (harg2 : arg2.IsWhole) {arg3 : Memref sig .tc .vmem S1x1024 .f32} (harg3 : arg3.IsWhole)
    {arg4 : Memref sig .tc .vmem S4112x1024 .bf16} (harg4 : arg4.IsWhole) {arg6 : Memref sig .tc .vmem S3x512 .f32} (harg6 : arg6.IsWhole)
    {arg7 : Memref sig .tc .vmem S1x512 .f32} (harg7 : arg7.IsWhole)
    (x0 : Vec F S1x1024x1024 .f32) (x1 : Vec F S1x1024 .f32) (x2 : Vec F S4112x1024 .bf16) (x4 : Vec F S3x512 .f32) (x5 : Vec F S1x512 .f32)
    (v : View sig Kind.tc Space.vmem S2x1040x512 .f32) (b0 : FVec F S1x1x512 .f32) (b1 : FVec F S1x2x512 .f32) (p1 p2 : Fin 512 → F .f32) (hb : Enter b0 b1 p1 p2)
    (r0) (hr0 : r0 = (View.readAt (Elt F) arg2.view (Rect.unit (s := S1x1024x1024) ![0, 0, 0] S1x1024x1024.size inb_S1x1024x1024_S1x1024x1024_0_0_0).toLoadRect (harg2.unread x0)))
    (r1) (hr1 : r1 = (View.readAt (Elt F) arg3.view (Rect.unit (s := S1x1024) ![0, 0] S1x1024.size inb_S1x1024_S1x1024_0_0).toLoadRect (harg3.unread x1)))
    (y) (hy : y = k0_pay9 r0 r1
      (View.readAt (Elt F) arg4.view (Rect.unit (s := S4112x1024) ![2576, 0] S512x1024.size inb_S4112x1024_S512x1024_2576_0).toLoadRect (harg4.unread x2))
      (View.readAt (Elt F) arg4.view (Rect.unit (s := S4112x1024) ![3088, 0] S512x1024.size inb_S4112x1024_S512x1024_3088_0).toLoadRect (harg4.unread x2))) :
    View.canon [⟨Rect.unit (s := S1x1024x512) ![0, 0, 0] S1x1024x512.size inb_S1x1024x512_S1x1024x512_0_0_0,
      ycV (k0_pay8 r0 r1 (View.readAt (Elt F) arg4.view (Rect.unit (s := S4112x1024) ![2064, 0] S512x1024.size inb_S4112x1024_S512x1024_2064_0).toLoadRect (harg4.unread x2)))
        y (View.readAt (Elt F) arg6.view (Rect.unit (s := S3x512) ![0, 0] S1x512.size inb_S3x512_S1x512_0_0).toLoadRect (harg6.unread x4))
        (v.readCov (pcs y b0 b1) (Rect.unit (s := S2x1040x512) ![1, 8, 0] S1x1024x512.size inb_S2x1040x512_S1x1024x512_1_8_0).toLoadRect)
        (View.readAt (Elt F) arg6.view (Rect.unit (s := S3x512) ![1, 0] S1x512.size inb_S3x512_S1x512_1_0).toLoadRect (harg6.unread x4))
        (v.readCov (pcs y b0 b1) (Rect.unit (s := S2x1040x512) ![0, 8, 0] S1x1024x512.size inb_S2x1040x512_S1x1024x512_0_8_0).toLoadRect)
        (View.readAt (Elt F) arg6.view (Rect.unit (s := S3x512) ![2, 0] S1x512.size inb_S3x512_S1x512_2_0).toLoadRect (harg6.unread x4))
        (View.readAt (Elt F) arg7.view (Rect.unit (s := S1x512) ![0, 0] S1x512.size inb_S1x512_S1x512_0_0).toLoadRect (harg7.unread x5))
        (k0_pay13 (k0_pay7 r0 r1) (View.readAt (Elt F) arg4.view (Rect.unit (s := S4112x1024) ![3600, 0] S512x1024.size inb_S4112x1024_S512x1024_3600_0).toLoadRect (harg4.unread x2)))⟩]
      = ycB x0 x1 x2 x4 x5 p1 p2 := by
  rw [late1_pcs v y hb, late2_pcs v y hb]
  subst hy hr0 hr1
  rw [cxB_run, uB_run]
  unfold ycB wRows cRow
  simp only [View.readAt_eq_ld, harg2.read_unread, harg3.read_unread, harg4.read_unread, harg6.read_unread, harg7.read_unread]

set_option backward.proofsInPublic true in
set_option maxHeartbeats 8000000 in
/-- A point's run, whichever branch it takes: it ends with the inputs in place with the four results named above
    and with its last rows left for the next point. -/
theorem run (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S4112x1024 .bf16) (harg4 : arg4.IsWhole) (arg5 : Memref sig .tc .vmem S8x1 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S1x512x1024 .bf16) (harg10 : arg10.IsWhole) (arg11 : Memref sig .tc .vmem S1x1024x1024 .bf16) (harg11 : arg11.IsWhole) (arg12 : Memref sig .tc .vmem S1x512x1024 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S8x128 .f32) (harg15 : arg15.IsWhole) (arg16 : Memref sig .tc .vmem S2x1040x512 .f32) (harg16 : arg16.IsWhole)
    (d14 : Vec F S2x1040x512 .f32) (p1 p2 : Fin 512 → F .f32)
    (x0 : Vec F S1x1024x1024 .f32) (x1 : Vec F S1x1024 .f32) (x2 : Vec F S4112x1024 .bf16) (x3 : Vec F S8x1 .f32) (x4 : Vec F S3x512 .f32) (x5 : Vec F S1x512 .f32) (x6 : Vec F S8x512 .f32) (x7 : Vec F S8x1 .f32)
    (hc : (cond0 i ∧ ¬cond1 i ∧ Halo x6 p1 p2) ∨ (¬cond0 i ∧ cond1 i ∧ Before d14 p1 p2))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (qtB x0 x1 x2) ∗ (∃ d, owns (c : Thread nD τ) arg11 fullShare d) ∗ owns (c : Thread nD τ) arg12 fullShare (vtB x0 x1 x2) ∗ owns (c : Thread nD τ) arg13 fullShare (zB x0 x1 x2) ∗ owns (c : Thread nD τ) arg14 fullShare (ycB x0 x1 x2 x4 x5 p1 p2) ∗ (∃ d, owns (c : Thread nD τ) arg15 fullShare d) ∗ (∃ d, ⌜Tail (cxB x0 x1 x2) d⌝ ∗ owns (c : Thread nD τ) arg16 fullShare d)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg16.eq_unread hf14
  rcases hc with ⟨hc0, hc1, hp⟩ | ⟨hc0, hc1, hp⟩
  all_goals
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine (View.read_writes_eq_canon _ _ _ (View.cover_of_tiledL _ S1x512x1024.size (by sl_kernel_rfl))).trans ?_
      exact qtB_run harg2 harg3 harg4 x0 x1 x2
    isplitl [H9]
    · iexists _, _; isplitr; swap; · iexact H9
      ipureintro; rfl
    isplitl [H10]
    · iexists _; isplitr; swap; · iexact H10
      ipureintro
      refine (View.read_writes_eq_canon _ _ _ (View.cover_of_tiledL _ S1x512x1024.size (by sl_kernel_rfl))).trans ?_
      exact vtB_run harg2 harg3 harg4 x0 x1 x2
    isplitl [H11]
    · iexists _; isplitr; swap; · iexact H11
      ipureintro
      refine (View.read_writes_eq_canon _ _ _ (View.cover_of_tiledL _ S1x1024x512.size (by sl_kernel_rfl))).trans ?_
      exact zB_run harg2 harg3 harg4 x0 x1 x2
    isplitl [H12]
    · iexists _; isplitr; swap; · iexact H12
      ipureintro
      refine (View.read_writes_eq_canon _ _ _ (View.cover_of_tiledL _ S1x1024x512.size (by sl_kernel_rfl))).trans ?_
      first
      | exact ycB_run harg2 harg3 harg4 harg6 harg7 x0 x1 x2 x4 x5 arg16.view _ _ p1 p2 (halo_run harg8 hp) _ rfl _ rfl _ rfl
      | exact ycB_run harg2 harg3 harg4 harg6 harg7 x0 x1 x2 x4 x5 arg16.view _ _ p1 p2 (before_run harg16 hp) _ rfl _ rfl _ rfl
    isplitl [H13]
    · iexists _, _; isplitr; swap; · iexact H13
      ipureintro; rfl
    iexists _; isplitr; swap
    · iexists _; isplitr; swap; · iexact H14
      ipureintro; rfl
    ipureintro
    exact tail_run harg2 harg3 harg4 x0 x1 x2 arg16.view _ _ _

end Cert.Kernel3Ideal.Hand

end
-- ==== Proof.InFrame.lean ====
/- The input projection's call as a whole: every execution ends with the arguments in place and with the queries, the
   values, the gate rows and the convolution rows at what its points leave of them. Its other result is not named. Between
   points the scratch buffer of late rows holds the last point's last two. -/
module

public import proofs.«01_k».proof.Proof.InRun

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the convolution takes at a point. -/
def cxP (c : Dev nD) (t : Fin cfg0.N) : FVec F S1024x512 .f32 := cxB (iblk m c 0 t) (iblk m c 1 t) (iblk m c 2 t)

/-- The point before. -/
def prev (t : Fin cfg0.N) : Fin cfg0.N := ⟨t.val - 1, lt_of_le_of_lt (Nat.sub_le _ _) t.isLt⟩

/-- The row before a point's: the halo's last at a batch's first point, elsewhere the last of the point before; -/
def before1Row (c : Dev nD) (t : Fin cfg0.N) (j : Fin 512) : F .f32 :=
  if t.val % 4 = 0 then (iblk m c 6 t : Vec F S8x512 .f32) (ix2 (7 : Fin 8) j) else cxP m c (prev t) (ix2 (1023 : Fin 1024) j)

/-- and the row before that. -/
def before2Row (c : Dev nD) (t : Fin cfg0.N) (j : Fin 512) : F .f32 :=
  if t.val % 4 = 0 then (iblk m c 6 t : Vec F S8x512 .f32) (ix2 (6 : Fin 8) j) else cxP m c (prev t) (ix2 (1022 : Fin 1024) j)

/-- What the buffer of late rows holds before point `k`: the last rows of the point before, if there is one. -/
def Inv (c : Dev nD) (k : ℕ) (d : Vec F S2x1040x512 .f32) : Prop := ∀ p : Fin cfg0.N, p.val + 1 = k → Tail (cxP m c p) d

/-- So a point finds the two rows before its own. -/
theorem found (c : Dev nD) (t : Fin cfg0.N) (d : Vec F S2x1040x512 .f32) (h : Inv m c t.val d) :
    (cond0 (grid0.coords t) ∧ ¬cond1 (grid0.coords t) ∧ Halo (iblk m c 6 t) (before1Row m c t) (before2Row m c t))
      ∨ (¬cond0 (grid0.coords t) ∧ cond1 (grid0.coords t) ∧ Before d (before1Row m c t) (before2Row m c t)) := by
  rcases conds t with ⟨h0, h1, h4⟩ | ⟨h0, h1, h4⟩
  · refine .inl ⟨h0, h1, fun j => ⟨?_, ?_⟩⟩
    · exact (if_pos h4).symm
    · exact (if_pos h4).symm
  · have hT := h (prev t) (by show t.val - 1 + 1 = t.val; omega)
    refine .inr ⟨h0, h1, fun j => ⟨(hT j).1.trans ?_, (hT j).2.1.trans ?_, (hT j).2.2.trans ?_⟩⟩
    · exact (if_neg h4).symm
    · exact (if_neg h4).symm
    · exact (if_neg h4).symm

abbrev sc0 : Memref sig .tc .vmem S8x128 .f32 := Memref.whole cc0_scratch0
abbrev sc1 : Memref sig .tc .vmem S2x1040x512 .f32 := Memref.whole cc0_scratch1

/-- The two scratch buffers between points. -/
def Kept (c : Dev nD) (k : ℕ) : sProp 𝕄 :=
  iprop(iprop((∃ d, owns (c : Thread nD τ) sc0 fullShare d) ∗ (∃ d, ⌜Inv m c k d⌝ ∗ owns (c : Thread nD τ) sc1 fullShare d)) ∗ (∃ r, prngReg c r))

/-- What the call leaves: its inputs at their blocks, four results at their points', the other unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qtB (iblk m c 0 t) (iblk m c 1 t) (iblk m c 2 t)
    | ⟨9, _⟩ => Dat.unnamed (cfg := cfg0) 9 t
    | ⟨10, _⟩ => vtB (iblk m c 0 t) (iblk m c 1 t) (iblk m c 2 t)
    | ⟨11, _⟩ => zB (iblk m c 0 t) (iblk m c 1 t) (iblk m c 2 t)
    | ⟨12, _⟩ => ycB (iblk m c 0 t) (iblk m c 1 t) (iblk m c 2 t) (iblk m c 4 t) (iblk m c 5 t) (before1Row m c t) (before2Row m c t)
  Φ k := Kept m c k.val
  q _ := fullShare
  owed _ := 0

/-- The result not named. -/
def forgets : Fin cfg0.W → Bool := fun w => w.val == 9

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = qtB (iblk m c 0 t) (iblk m c 1 t) (iblk m c 2 t) := by dsimp only [dats]
theorem after10 (c : Dev nD) (t : Fin cfg0.N) : (dats m 0 c).after 10 t = vtB (iblk m c 0 t) (iblk m c 1 t) (iblk m c 2 t) := by dsimp only [dats]
theorem after11 (c : Dev nD) (t : Fin cfg0.N) : (dats m 0 c).after 11 t = zB (iblk m c 0 t) (iblk m c 1 t) (iblk m c 2 t) := by dsimp only [dats]
theorem after12 (c : Dev nD) (t : Fin cfg0.N) : (dats m 0 c).after 12 t = ycB (iblk m c 0 t) (iblk m c 1 t) (iblk m c 2 t) (iblk m c 4 t) (iblk m c 5 t) (before1Row m c t) (before2Row m c t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

abbrev ms0 (t : Fin cfg0.N) : Memref sig .tc .vmem S1x1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S4112x1024 .bf16 := win0_2.stage (cfg0.slots t 2)
abbrev ms3 (t : Fin cfg0.N) : Memref sig .tc .vmem S8x1 .f32 := win0_3.stage (cfg0.slots t 3)
abbrev ms4 (t : Fin cfg0.N) : Memref sig .tc .vmem S3x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S8x512 .f32 := win0_6.stage (cfg0.slots t 6)
abbrev ms7 (t : Fin cfg0.N) : Memref sig .tc .vmem S8x1 .f32 := win0_7.stage (cfg0.slots t 7)
abbrev ms8 (t : Fin cfg0.N) : Memref sig .tc .vmem S1x512x1024 .bf16 := win0_8.stage (cfg0.slots t 8)
abbrev ms9 (t : Fin cfg0.N) : Memref sig .tc .vmem S1x1024x1024 .bf16 := win0_9.stage (cfg0.slots t 9)
abbrev ms10 (t : Fin cfg0.N) : Memref sig .tc .vmem S1x512x1024 .bf16 := win0_10.stage (cfg0.slots t 10)
abbrev ms11 (t : Fin cfg0.N) : Memref sig .tc .vmem S1x1024x512 .bf16 := win0_11.stage (cfg0.slots t 11)
abbrev ms12 (t : Fin cfg0.N) : Memref sig .tc .vmem S1x1024x512 .bf16 := win0_12.stage (cfg0.slots t 12)

/-- The two scratch buffers, owned at some contents between points. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Nothing is asked of them before the first point, -/
theorem kept_in (c : Dev nD) : (Pipeline.ΦA spec0 c : sProp 𝕄) ⊢ Kept m c 0 := by
  rw [PhiA_eq]
  unfold Kept
  iintro ⟨⟨HS0, ⟨%d, HS1⟩⟩, Hg⟩
  isplitl [HS0 HS1]
  · isplitl [HS0]; · iexact HS0
    iexists _; isplitr; swap; · iexact HS1
    ipureintro
    exact fun p h => absurd h (Nat.succ_ne_zero _)
  iexact Hg

/-- and nothing after the last. -/
theorem kept_out (c : Dev nD) (k : ℕ) : Kept m c k ⊢ (Pipeline.ΦA spec0 c : sProp 𝕄) := by
  rw [PhiA_eq]
  unfold Kept
  iintro ⟨⟨HS0, ⟨%d, -, HS1⟩⟩, Hg⟩
  isplitl [HS0 HS1]
  · isplitl [HS0]; · iexact HS0
    iexists _; iexact HS1
  iexact Hg

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare d)
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (∃ d, owns (c : Thread nD τ) (ms9 t) fullShare d)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8, after10, after11, after12]
  rw [show (dats m 0 c).Φ t.castSucc = Kept m c t.val from rfl, show (dats m 0 c).Φ t.succ = Kept m c (t.val + 1) from rfl]
  unfold Kept
  iintro ⟨⟨⟨HS0, ⟨%e, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run c (grid0.coords t) _ _ _ _ _ _ _ _ _ _ _ _ _ _ _ _ _ _ _ _ _ _ _ _ _ _ _ _ _ _ e (before1Row m c t) (before2Row m c t) (iblk m c 0 t) (iblk m c 1 t) (iblk m c 2 t) (iblk m c 3 t) (iblk m c 4 t) (iblk m c 5 t) (iblk m c 6 t) (iblk m c 7 t) (found m c t e he) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, ⟨%e', %he', HS1⟩⟩
  isplitl [HS0 HS1 Hg]
  · isplitl [HS0 HS1]
    · isplitl [HS0]; · iexact HS0
      iexists _; isplitr; swap; · iexact HS1
      ipureintro
      intro p hp
      obtain rfl : p = t := Fin.ext (Nat.succ.inj hp)
      exact he'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The table's row of a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, with the counters at zero, the arrays as stated above and every other buffer as launched. -/
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_track_forget cfgs (dats m) (0 : Fin 1) launch0 defs₀ Variants.none forgets m ρ main
    (fun c => (body_obligation m c).loose) (fun c => (dats m 0 c).share_full fun _ => rfl)
    (fun _ _ => rfl) (V m) (hmain m Variants.none) (A_eq m) (kept_in m) (fun c => kept_out m c _) _ (fun _ h => h)

/-- The four results named, and the arguments in place. -/
theorem run_named : θ_run defs (onTc (τ := τ) (main (F := F))) ⟨m, fun _ => 0, ρ⟩ (fun r => (∀ c : Dev nD,
      r.2.mem ((c.tc : Thread nD τ).loc main_v0_0) = (dats m 0 c).arrAt 8 cfg0.N
      ∧ r.2.mem ((c.tc : Thread nD τ).loc main_v0_2) = (dats m 0 c).arrAt 10 cfg0.N
      ∧ r.2.mem ((c.tc : Thread nD τ).loc main_v0_3) = (dats m 0 c).arrAt 11 cfg0.N
      ∧ r.2.mem ((c.tc : Thread nD τ).loc main_v0_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((dats m 0 c).toRForget_arrAt_iff (by rfl : forgets 8 = false) _ _).mp ((h.1 c).1 8),
      ((dats m 0 c).toRForget_arrAt_iff (by rfl : forgets 10 = false) _ _).mp ((h.1 c).1 10),
      ((dats m 0 c).toRForget_arrAt_iff (by rfl : forgets 11 = false) _ _).mp ((h.1 c).1 11),
      ((dats m 0 c).toRForget_arrAt_iff (by rfl : forgets 12 = false) _ _).mp ((h.1 c).1 12),
      (h.1.arr_in c 0 rfl).trans (A_eq m c 0),
      (h.1.arr_in c 1 rfl).trans (A_eq m c 1),
      (h.1.arr_in c 2 rfl).trans (A_eq m c 2),
      (h.1.arr_in c 3 rfl).trans (A_eq m c 3),
      (h.1.arr_in c 4 rfl).trans (A_eq m c 4),
      (h.1.arr_in c 5 rfl).trans (A_eq m c 5),
      (h.1.arr_in c 6 rfl).trans (A_eq m c 6),
      (h.1.arr_in c 7 rfl).trans (A_eq m c 7)⟩, h.2⟩)
    (run_main m ρ)

/-- The arguments in place and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2.2.2.2, h.2⟩) (run_named m ρ)

end Cert.Kernel3Ideal.Hand

end
-- ==== Proof.InPoint.lean ====
/- The input projection's blocks, entry by entry. -/
module

public import proofs.«01_k».proof.Proof.InFrame
public import proofs.«01_k».proof.Proof.Reads
public import Idealize.ShloMosaic.Lib.Pointwise
public import Idealize.ShloMosaic.Lib.ValueIdxCore

@[expose] public section

noncomputable section

namespace Cert.In

open Idealize.ShloMosaic Cert.Kernel3Ideal Cert.Kernel3Ideal.Gen Cert.Kernel3Ideal.Hand
open Idealize.ShloMosaic.TcCoe Idealize.SL

/-- An entry of a row normalised to mean square one and scaled by the gain. -/
def nrm (x g : Fin 1024 → EReal) (i : Fin 1024) : EReal :=
  x i * Ideal.rsqrt (Ideal.div (∑ k : Fin 1024, x k * x k) (Ideal.ofBits .f32 0x44800000#32) + Ideal.ofBits .f32 0x358637BD#32) * g i

/-- The product of a normalised row with a row of the weights. -/
def proj (x g w : Fin 1024 → EReal) : EReal := ∑ k : Fin 1024, nrm x g k * w k

/-- A load at literal coordinates, of three axes, -/
theorem ld3 {n0 n1 n2 : ℕ} {e : EltTy} (x : (⟨3, ![n0, n1, n2]⟩ : Shape).Idx → Elt Ideal e) (off sz : Fin 3 → ℕ) (inb)
    (j : (Rect.unit (s := (⟨3, ![n0, n1, n2]⟩ : Shape)) off sz inb).shape.Idx)
    (i0 : Fin n0) (i1 : Fin n1) (i2 : Fin n2) (h0 : off 0 + (j 0).val = i0.val) (h1 : off 1 + (j 1).val = i1.val)
    (h2 : off 2 + (j 2).val = i2.val) :
    View.ld (Val := Elt Ideal) x (Rect.unit (s := (⟨3, ![n0, n1, n2]⟩ : Shape)) off sz inb) j = x (ix3 i0 i1 i2) :=
  congrArg x (Cert.Flash.unit_idx off sz inb j i0 i1 i2 h0 h1 h2)

/-- and of two. -/
theorem ld2 {n0 n1 : ℕ} {e : EltTy} (x : (⟨2, ![n0, n1]⟩ : Shape).Idx → Elt Ideal e) (off sz : Fin 2 → ℕ) (inb)
    (j : (Rect.unit (s := (⟨2, ![n0, n1]⟩ : Shape)) off sz inb).shape.Idx)
    (i0 : Fin n0) (i1 : Fin n1) (h0 : off 0 + (j 0).val = i0.val) (h1 : off 1 + (j 1).val = i1.val) :
    View.ld (Val := Elt Ideal) x (Rect.unit (s := (⟨2, ![n0, n1]⟩ : Shape)) off sz inb) j = x (ix2 i0 i1) :=
  congrArg x (Cert.Flash.unit_idx2 off sz inb j i0 i1 h0 h1)

/-- One store of a whole block leaves what it stores. -/
theorem whole {n1 n2 : ℕ} {e : EltTy} (sz : Fin 3 → ℕ) (inb) (w : (Rect.unit (s := (⟨3, ![1, n1, n2]⟩ : Shape)) ![0, 0, 0] sz inb).shape.Idx → Elt Ideal e)
    (j : (Rect.unit (s := (⟨3, ![1, n1, n2]⟩ : Shape)) ![0, 0, 0] sz inb).shape.Idx) (i1 : Fin n1) (i2 : Fin n2)
    (h0 : (j 0).val = 0) (h1 : (j 1).val = i1.val) (h2 : (j 2).val = i2.val) :
    View.canon (Val := Elt Ideal) [⟨Rect.unit (s := (⟨3, ![1, n1, n2]⟩ : Shape)) ![0, 0, 0] sz inb, w⟩] (ix3 0 i1 i2) = w j := by
  have hz : (Rect.unit (s := (⟨3, ![1, n1, n2]⟩ : Shape)) ![0, 0, 0] sz inb).emb j = ix3 0 i1 i2 :=
    Cert.Flash.unit_idx _ _ _ _ 0 i1 i2 ((Nat.zero_add _).trans h0) ((Nat.zero_add _).trans h1) ((Nat.zero_add _).trans h2)
  exact (congrArg _ hz.symm).trans (View.canon_cons_emb _ w [] j)

theorem pay7_apply (v6 : Vec Ideal S1x1024x1024 .f32) (v18 : Vec Ideal S1x1024 .f32) (r i : Fin 1024) :
    k0_pay7 v6 v18 (ix2 r i) = nrm (fun k => v6 (ix3 0 r k)) (fun k => v18 (ix2 0 k)) i := by
  pointwise [k0_pay7]
  rfl

theorem uB_apply (x0 : Vec Ideal S1x1024x1024 .f32) (x1 : Vec Ideal S1x1024 .f32) (r i : Fin 1024) :
    uB x0 x1 (ix2 r i) = nrm (fun k => x0 (ix3 0 r k)) (fun k => x1 (ix2 0 k)) i := by
  unfold uB
  rw [pay7_apply]
  congr 1
  · exact funext fun k => ld3 x0 _ _ _ _ 0 r k rfl (Nat.zero_add _) (Nat.zero_add _)
  · exact funext fun k => ld2 x1 _ _ _ _ 0 k rfl (Nat.zero_add _)

theorem pay25_apply (v21 : FVec Ideal S1024x1024 .bf16) (v178 : Vec Ideal S1040x1024 .bf16) (e : Fin 512) (r : Fin 1024) :
    k0_pay25 v21 v178 (ix3 0 e r) = (∑ k : Fin 1024, v178 (ix2 (⟨e.val, by omega⟩ : Fin 1040) k) * v21 (ix2 r k)) * Ideal.ofBits .f32 0x3E38AA3B#32 := by
  pointwise [k0_pay25, k0_pay24]

theorem pay26_apply (v21 : FVec Ideal S1024x1024 .bf16) (v178 : Vec Ideal S1040x1024 .bf16) (e : Fin 512) (r : Fin 1024) :
    k0_pay26 v21 v178 (ix3 0 e r) = ∑ k : Fin 1024, v178 (ix2 (⟨512 + e.val, by omega⟩ : Fin 1040) k) * v21 (ix2 r k) := by
  pointwise [k0_pay26, k0_pay24]

theorem pay48_apply (v21 : FVec Ideal S1024x1024 .bf16) (v314 : Vec Ideal S512x1024 .bf16) (r : Fin 1024) (e : Fin 512) :
    k0_pay1 (k0_pay48 v21 v314) (ix3 0 r e) = ∑ k : Fin 1024, v21 (ix2 r k) * v314 (ix2 e k) := by
  pointwise [k0_pay1, k0_pay48]

/-! ## The convolution rows -/

theorem pay8_apply (v6 : Vec Ideal S1x1024x1024 .f32) (v18 : Vec Ideal S1x1024 .f32) (w : Vec Ideal S512x1024 .bf16) (r : Fin 1024) (e : Fin 512) :
    k0_pay8 v6 v18 w (ix2 r e) = ∑ k : Fin 1024, k0_pay7 v6 v18 (ix2 r k) * w (ix2 e k) := by
  pointwise [k0_pay8]

theorem pay9_apply (v6 : Vec Ideal S1x1024x1024 .f32) (v18 : Vec Ideal S1x1024 .f32) (w w' : Vec Ideal S512x1024 .bf16) (r : Fin 1024) (e : Fin 512) :
    k0_pay9 v6 v18 w w' (ix2 r e) = (∑ k : Fin 1024, k0_pay7 v6 v18 (ix2 r k) * w (ix2 e k)) * (∑ k : Fin 1024, k0_pay7 v6 v18 (ix2 r k) * w' (ix2 e k)) := by
  pointwise [k0_pay9]

theorem pay13_apply (u : FVec Ideal S1024x1024 .bf16) (w : Vec Ideal S512x1024 .bf16) (r : Fin 1024) (e : Fin 512) :
    k0_pay13 u w (ix2 r e) = ∑ k : Fin 1024, u (ix2 r k) * w (ix2 e k) := by
  pointwise [k0_pay13]

/-- A convolved entry: the gate times the weighted sum of a position's row and the two before it. -/
def conv (gb w0 c2 w1 c1 w2 c0 : EReal) : EReal := gb * ((w0 * c2 + w1 * c1) + w2 * c0)

theorem pay12_apply (g23 y : FVec Ideal S1024x512 .f32) (w0 w1 w2 : Vec Ideal S1x512 .f32) (l2 l1 : Vec Ideal S1x1024x512 .f32) (r : Fin 1024) (e : Fin 512) :
    k0_pay12 g23 y w0 l2 w1 l1 w2 (ix2 r e)
      = conv (g23 (ix2 r e)) (w0 (ix2 0 e)) (l2 (ix3 0 r e)) (w1 (ix2 0 e)) (l1 (ix3 0 r e)) (w2 (ix2 0 e)) (y (ix2 r e)) := by
  pointwise [k0_pay12]
  rfl

theorem pay14_apply (l : Fin 128) : k0_pay14 (ix2 0 l) = BitVec.ofBool (decide (l.val < 64)) := by
  have hl := l.isLt
  pointwise [k0_pay14]
  exact WordCmp.cmpi_slt_ofNat (by omega) (by omega)

/-- The sum over the group of 64 columns an entry lies in. -/
def grp (f : Fin 512 → EReal) (e : Fin 512) : EReal := ∑ k : Fin 64, f ⟨64 * (e.val / 64) + k.val, by omega⟩

theorem pick (p : Prop) [Decidable p] (a b : EReal) : Scalar.select (BitVec.ofBool (decide p)) a b = if p then a else b := by
  by_cases h : p <;> simp only [h, decide_true, decide_false, if_true, if_false] <;> rfl

/-- Two groups lie side by side in 128 columns: the half an entry lies in gives its group's sum. -/
theorem half (f : Fin 512 → EReal) (h : Fin 128 → EReal) (o : ℕ) (ho : o + 128 ≤ 512) (hm : o % 128 = 0)
    (hh : ∀ x : Fin 128, h x = f ⟨o + x.val, by omega⟩) (l : Fin 128) (e : Fin 512) (he : e.val = o + l.val) :
    Scalar.select (k0_pay14 (ix2 0 l)) (∑ x : Fin 128, Scalar.select (k0_pay14 (ix2 0 x)) (h x) 0) (∑ x : Fin 128, Scalar.select (k0_pay14 (ix2 0 x)) 0 (h x))
      = grp f e := by
  have hl := l.isLt
  simp only [pay14_apply, pick]
  have e1 : (∑ x : Fin 128, if x.val < 64 then h x else 0) = ∑ k : Fin 64, h ⟨k.val, by omega⟩ := by
    refine (Fin.sum_univ_add (a := 64) (b := 64) fun x : Fin 128 => if x.val < 64 then h x else 0).trans ?_
    rw [Finset.sum_eq_zero (s := Finset.univ) (f := fun i : Fin 64 => if (Fin.natAdd 64 i).val < 64 then h (Fin.natAdd 64 i) else 0)
      fun i _ => if_neg (by show ¬ 64 + i.val < 64; omega), add_zero]
    exact Finset.sum_congr rfl fun k _ => if_pos k.isLt
  have e2 : (∑ x : Fin 128, if x.val < 64 then 0 else h x) = ∑ k : Fin 64, h ⟨64 + k.val, by omega⟩ := by
    refine (Fin.sum_univ_add (a := 64) (b := 64) fun x : Fin 128 => if x.val < 64 then 0 else h x).trans ?_
    rw [Finset.sum_eq_zero (s := Finset.univ) (f := fun i : Fin 64 => if (Fin.castAdd 64 i).val < 64 then 0 else h (Fin.castAdd 64 i))
      fun i _ => if_pos i.isLt, zero_add]
    exact Finset.sum_congr rfl fun k _ => if_neg (by show ¬ 64 + k.val < 64; omega)
  rw [e1, e2]
  unfold grp
  split
  · exact Finset.sum_congr rfl fun k _ => (hh _).trans (congrArg f (Fin.ext (by show o + k.val = 64 * (e.val / 64) + k.val; omega)))
  · exact Finset.sum_congr rfl fun k _ => (hh _).trans (congrArg f (Fin.ext (by show o + (64 + k.val) = 64 * (e.val / 64) + k.val; omega)))

/-- One over the root of a group's mean square. -/
def grms (Y : Fin 512 → EReal) (e : Fin 512) : EReal :=
  Ideal.rsqrt (grp (fun i => Y i * Y i) e * Ideal.ofBits .f32 1015021568#32 + Ideal.ofBits .f32 897988541#32)

/-- A gated entry of the convolution rows: normalised over its group, scaled, and gated. -/
def gate (Y : Fin 512 → EReal) (g z : EReal) (e : Fin 512) : EReal :=
  Y e * grms Y e * g * (z * Ideal.div 1 (1 + Ideal.exp (0 - z)))

theorem pay23_apply (z y : FVec Ideal S1024x512 .f32) (r : Fin 1024) (e : Fin 512) :
    k0_pay23 z y (ix3 0 r e) = y (ix2 r e) * (z (ix2 r e) * Ideal.div 1 (1 + Ideal.exp (0 - z (ix2 r e)))) := by
  pointwise [k0_pay23]

section
variable (g23 y : FVec Ideal S1024x512 .f32) (w0 w1 w2 : Vec Ideal S1x512 .f32) (l2 l1 : Vec Ideal S1x1024x512 .f32)

theorem pay18_apply (r : Fin 1024) (l : Fin 128) (e : Fin 512) (he : e.val = l.val) :
    k0_pay18 k0_pay14 (k0_pay16 g23 y w0 l2 w1 l1 w2) (k0_pay17 g23 y w0 l2 w1 l1 w2) (ix2 r l)
      = grms (fun i => k0_pay12 g23 y w0 l2 w1 l1 w2 (ix2 r i)) e := by
  pointwise [k0_pay18, k0_pay16, k0_pay17, k0_pay15]
  refine congrArg (fun x => Ideal.rsqrt (x * _ + _)) (half (fun i => k0_pay12 g23 y w0 l2 w1 l1 w2 (ix2 r i) * k0_pay12 g23 y w0 l2 w1 l1 w2 (ix2 r i))
    _ 0 (by decide) rfl (fun x => ?_) l e (by omega))
  simp only [Nat.zero_add]

theorem pay19_apply (v : FVec Ideal S1024x512 .f32) (r : Fin 1024) (l : Fin 128) (e : Fin 512) (he : e.val = 128 + l.val) :
    k0_pay19 v k0_pay14 (ix2 r l) = grms (fun i => v (ix2 r i)) e := by
  pointwise [k0_pay19]
  exact congrArg (fun x => Ideal.rsqrt (x * _ + _)) (half (fun i => v (ix2 r i) * v (ix2 r i)) _ 128 (by decide) rfl (fun x => rfl) l e he)

theorem pay22_apply (v : FVec Ideal S1024x512 .f32) (a b : FVec Ideal S1024x128 .f32) (g : Vec Ideal S1x512 .f32) (r : Fin 1024)
    (ha : ∀ (l : Fin 128) (e : Fin 512), e.val = l.val → a (ix2 r l) = grms (fun i => v (ix2 r i)) e)
    (hb : ∀ (l : Fin 128) (e : Fin 512), e.val = 128 + l.val → b (ix2 r l) = grms (fun i => v (ix2 r i)) e) (e : Fin 512) :
    k0_pay22 v k0_pay14 a b (k0_pay20 v) (k0_pay21 v k0_pay14) (Scalar.ofBits .f32 0x00000000#32) g (ix2 r e)
      = v (ix2 r e) * grms (fun i => v (ix2 r i)) e * g (ix2 0 e) := by
  have he := e.isLt
  pointwise [k0_pay22, k0_pay20, k0_pay21]
  refine congrArg (fun x => _ * x * _) ?_
  split
  · exact ha _ e rfl
  split
  · exact hb _ e (by show e.val = 128 + (e.val - 128); omega)
  split
  · exact congrArg (fun x => Ideal.rsqrt (x * _ + _)) (half (fun i => v (ix2 r i) * v (ix2 r i)) _ 256 (by decide) rfl (fun x => rfl) _ e
      (by show e.val = 256 + (e.val - 128 - 128); omega))
  · exact congrArg (fun x => Ideal.rsqrt (x * _ + _)) (half (fun i => v (ix2 r i) * v (ix2 r i)) _ 384 (by decide) rfl (fun x => rfl) _ e
      (by show e.val = 384 + (e.val - 128 - 128 - 128); omega))

theorem ycV_apply (g : Vec Ideal S1x512 .f32) (z : FVec Ideal S1024x512 .f32) (r : Fin 1024) (e : Fin 512) :
    ycV g23 y w0 l2 w1 l1 w2 g z (ix3 0 r e)
      = gate (fun i => conv (g23 (ix2 r i)) (w0 (ix2 0 i)) (l2 (ix3 0 r i)) (w1 (ix2 0 i)) (l1 (ix3 0 r i)) (w2 (ix2 0 i)) (y (ix2 r i)))
          (g (ix2 0 e)) (z (ix2 r e)) e := by
  unfold ycV
  rw [pay23_apply, pay22_apply _ _ _ _ _ (pay18_apply g23 y w0 w1 w2 l2 l1 r) (pay19_apply _ r)]
  simp only [pay12_apply]
  rfl

end

variable (x0 : Vec Ideal S1x1024x1024 .f32) (x1 : Vec Ideal S1x1024 .f32) (x2 : Vec Ideal S4112x1024 .bf16)

theorem wB_apply (e : Fin 1040) (k : Fin 1024) : wB x2 (ix2 e k) = x2 (ix2 (⟨e.val, by omega⟩ : Fin 4112) k) :=
  ld2 x2 _ _ _ _ ⟨e.val, by omega⟩ k (Nat.zero_add _) (Nat.zero_add _)

/-- A staged query entry. -/
theorem qtB_apply (e : Fin 512) (r : Fin 1024) :
    qtB x0 x1 x2 (ix3 0 e r)
      = proj (fun k => x0 (ix3 0 r k)) (fun k => x1 (ix2 0 k)) (fun k => x2 (ix2 (⟨e.val, by omega⟩ : Fin 4112) k)) * Ideal.ofBits .f32 0x3E38AA3B#32 := by
  unfold qtB
  refine (whole _ _ _ (ix3 0 e r) e r rfl rfl rfl).trans ((pay25_apply _ _ e r).trans (congrArg (· * _) (Finset.sum_congr rfl fun k _ => ?_)))
  rw [uB_apply, wB_apply]
  exact mul_comm _ _

/-- A staged value entry. -/
theorem vtB_apply (e : Fin 512) (r : Fin 1024) :
    vtB x0 x1 x2 (ix3 0 e r)
      = proj (fun k => x0 (ix3 0 r k)) (fun k => x1 (ix2 0 k)) (fun k => x2 (ix2 (⟨512 + e.val, by omega⟩ : Fin 4112) k)) := by
  unfold vtB
  refine (whole _ _ _ (ix3 0 e r) e r rfl rfl rfl).trans ((pay26_apply _ _ e r).trans (Finset.sum_congr rfl fun k _ => ?_))
  rw [uB_apply, wB_apply]
  exact mul_comm _ _

/-- A staged gate entry. -/
theorem zB_apply (r : Fin 1024) (e : Fin 512) :
    zB x0 x1 x2 (ix3 0 r e)
      = proj (fun k => x0 (ix3 0 r k)) (fun k => x1 (ix2 0 k)) (fun k => x2 (ix2 (⟨1552 + e.val, by omega⟩ : Fin 4112) k)) := by
  unfold zB
  refine (whole _ _ _ (ix3 0 r e) r e rfl rfl rfl).trans ((pay48_apply _ _ r e).trans (Finset.sum_congr rfl fun k _ => ?_))
  rw [uB_apply]
  exact congrArg (_ * ·) (ld2 x2 _ _ _ _ ⟨1552 + e.val, by omega⟩ k rfl (Nat.zero_add _))

/-- An entry of the rows the convolution takes. -/
def cxRow (x g : Fin 1024 → EReal) (w : Fin 4112 → Fin 1024 → EReal) (e : Fin 512) : EReal :=
  proj x g (w ⟨2576 + e.val, by omega⟩) * proj x g (w ⟨3088 + e.val, by omega⟩)

/-- The product of a row of the point with 512 rows of the weights. -/
theorem wRows_sum (o : ℕ) (inb) (ho : o + 512 ≤ 4112) (r : Fin 1024) (e : Fin 512) :
    (∑ k : Fin 1024, uB x0 x1 (ix2 r k) * wRows x2 o inb (ix2 e k))
      = proj (fun k => x0 (ix3 0 r k)) (fun k => x1 (ix2 0 k)) (fun k => x2 (ix2 (⟨o + e.val, by omega⟩ : Fin 4112) k)) := by
  refine Finset.sum_congr rfl fun k _ => ?_
  rw [uB_apply]
  exact congrArg (_ * ·) (ld2 x2 _ _ _ _ ⟨o + e.val, by omega⟩ k rfl (Nat.zero_add _))

theorem cxB_apply (r : Fin 1024) (e : Fin 512) :
    cxB x0 x1 x2 (ix2 r e) = cxRow (fun k => x0 (ix3 0 r k)) (fun k => x1 (ix2 0 k)) (fun i k => x2 (ix2 i k)) e := by
  unfold cxB
  rw [pay9_apply]
  exact congrArg₂ (· * ·) (wRows_sum x0 x1 x2 2576 _ (by decide) r e) (wRows_sum x0 x1 x2 3088 _ (by decide) r e)

/-- A staged entry of the convolution rows, from the rows two and one before. -/
theorem ycB_apply (x4 : Vec Ideal S3x512 .f32) (x5 : Vec Ideal S1x512 .f32) (p1 p2 : Fin 512 → EReal) (r : Fin 1024) (e : Fin 512) :
    ycB x0 x1 x2 x4 x5 p1 p2 (ix3 0 r e)
      = gate (fun i => conv (proj (fun k => x0 (ix3 0 r k)) (fun k => x1 (ix2 0 k)) (fun k => x2 (ix2 (⟨2064 + i.val, by omega⟩ : Fin 4112) k)))
            (x4 (ix2 0 i)) (late2 (cxB x0 x1 x2) p1 p2 (ix3 0 r i)) (x4 (ix2 1 i)) (late1 (cxB x0 x1 x2) p1 (ix3 0 r i)) (x4 (ix2 2 i))
            (cxRow (fun k => x0 (ix3 0 r k)) (fun k => x1 (ix2 0 k)) (fun a k => x2 (ix2 a k)) i))
          (x5 (ix2 0 e)) (proj (fun k => x0 (ix3 0 r k)) (fun k => x1 (ix2 0 k)) (fun k => x2 (ix2 (⟨3600 + e.val, by omega⟩ : Fin 4112) k))) e := by
  unfold ycB
  refine (whole _ _ _ (ix3 0 r e) r e rfl rfl rfl).trans ((ycV_apply _ _ _ _ _ _ _ _ _ r e).trans ?_)
  have hw : ∀ (o : Fin 3) (inb) (i : Fin 512), cRow x4 o.val inb (ix2 0 i) = x4 (ix2 o i) :=
    fun o inb i => ld2 x4 _ _ _ _ o i (Nat.add_zero _) (Nat.zero_add _)
  have h5 : ∀ (inb), View.ld (Val := Elt Ideal) x5 (Rect.unit (s := S1x512) ![0, 0] S1x512.size inb) (ix2 0 e) = x5 (ix2 0 e) :=
    fun inb => ld2 x5 _ _ _ _ 0 e rfl (Nat.zero_add _)
  have h8 : ∀ i : Fin 512, _ = _ := fun i => (pay8_apply _ _ _ r i).trans (wRows_sum x0 x1 x2 2064 inb_S4112x1024_S512x1024_2064_0 (by decide) r i)
  have h13 := (pay13_apply _ _ r e).trans (wRows_sum x0 x1 x2 3600 inb_S4112x1024_S512x1024_3600_0 (by decide) r e)
  refine congr (congr (congrArg₂ gate (funext fun i => ?_) (h5 _)) h13) rfl
  rw [cxB_apply, h8]
  exact congr (congr (congr (congr (congr (congrArg (conv _) (hw 0 _ i)) rfl) (hw 1 _ i)) rfl) (hw 2 _ i)) rfl

end Cert.In

end
-- ==== Proof.InBlocks.lean ====
/- What a grid point of the input projection reads of the call's arrays, and four results entry by entry. -/
module

public import proofs.«01_k».proof.Proof.InPoint

@[expose] public section

noncomputable section

namespace Cert.In

open Idealize.ShloMosaic Cert.Kernel3Ideal Cert.Kernel3Ideal.Gen Cert.Kernel3Ideal.Hand
open Idealize.ShloMosaic.TcCoe Idealize.SL

variable (m : (ℓ : Loc nD τ sig) → Buf (Elt Ideal) ℓ) (c : Dev nD)

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index8 : ∀ t : Fin cfg0.N, win0_8.index t (0 : Fin 3) = t.val / 4 ∧ win0_8.index t (1 : Fin 3) = 0 ∧ win0_8.index t (2 : Fin 3) = t.val % 4 :=
  (by decide +kernel : ∀ t : Fin grid0.N, _)
theorem index10 : ∀ t : Fin cfg0.N, win0_10.index t (0 : Fin 3) = t.val / 4 ∧ win0_10.index t (1 : Fin 3) = 0 ∧ win0_10.index t (2 : Fin 3) = t.val % 4 :=
  (by decide +kernel : ∀ t : Fin grid0.N, _)
theorem index11 : ∀ t : Fin cfg0.N, win0_11.index t (0 : Fin 3) = t.val / 4 ∧ win0_11.index t (1 : Fin 3) = t.val % 4 ∧ win0_11.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index12 : ∀ t : Fin cfg0.N, win0_12.index t (0 : Fin 3) = t.val / 4 ∧ win0_12.index t (1 : Fin 3) = t.val % 4 ∧ win0_12.index t (2 : Fin 3) = 0 :=
  (by decide +kernel : ∀ t : Fin grid0.N, _)

/-- The rows of a point. -/
theorem blk0 (t : Fin cfg0.N) (b : Fin 8) (p : Fin 4) (hb : t.val / 4 = b.val) (hp : t.val % 4 = p.val) (r k : Fin 1024) :
    iblk m c 0 t (ix3 0 r k) = m ((c : Thread nD τ).loc main_arg0) (ix3 b ⟨1024 * p.val + r.val, by omega⟩ k) := by
  obtain ⟨e0, e1, e2⟩ := index0 t
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = 1024 * p.val + r.val; omega
  | ⟨2, _⟩ => show win0_0.index t (2 : Fin 3) * 1024 + 1 * k.val = k.val; omega

/-- Every point stages the gain, -/
theorem blk1 (t : Fin cfg0.N) (k : Fin 1024) : iblk m c 1 t (ix2 (0 : Fin 1) k) = m ((c : Thread nD τ).loc main_arg1) (ix2 (0 : Fin 1) k) := by
  obtain ⟨e0, e1⟩ := index1 t
  refine congrArg (V m c main_arg1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- and all weights. -/
theorem blk2 (t : Fin cfg0.N) (e : Fin 4112) (k : Fin 1024) : iblk m c 2 t (ix2 e k) = m ((c : Thread nD τ).loc main_arg2) (ix2 e k) := by
  obtain ⟨e0, e1⟩ := index2 t
  refine congrArg (V m c main_arg2) (funext fun a => Fin.ext ?_)
  match a with
  | ⟨0, _⟩ => show win0_2.index t (0 : Fin 2) * 4112 + 1 * e.val = e.val; omega
  | ⟨1, _⟩ => show win0_2.index t (1 : Fin 2) * 1024 + 1 * k.val = k.val; omega

/-- Every point stages the convolution's weights, -/
theorem blk4 (t : Fin cfg0.N) (o : Fin 3) (e : Fin 512) : iblk m c 4 t (ix2 o e) = m ((c : Thread nD τ).loc main_arg4) (ix2 o e) := by
  obtain ⟨e0, e1⟩ := index4 t
  refine congrArg (V m c main_arg4) (funext fun a => Fin.ext ?_)
  match a with
  | ⟨0, _⟩ => show win0_4.index t (0 : Fin 2) * 3 + 1 * o.val = o.val; omega
  | ⟨1, _⟩ => show win0_4.index t (1 : Fin 2) * 512 + 1 * e.val = e.val; omega

/-- its norm's gain -/
theorem blk5 (t : Fin cfg0.N) (o : Fin 1) (e : Fin 512) : iblk m c 5 t (ix2 o e) = m ((c : Thread nD τ).loc main_arg5) (ix2 o e) := by
  obtain ⟨e0, e1⟩ := index5 t
  refine congrArg (V m c main_arg5) (funext fun a => Fin.ext ?_)
  match a with
  | ⟨0, _⟩ => show win0_5.index t (0 : Fin 2) * 1 + 1 * o.val = o.val; omega
  | ⟨1, _⟩ => show win0_5.index t (1 : Fin 2) * 512 + 1 * e.val = e.val; omega

/-- and the rows before the first position. -/
theorem blk6 (t : Fin cfg0.N) (o : Fin 8) (e : Fin 512) : iblk m c 6 t (ix2 o e) = m ((c : Thread nD τ).loc main_arg6) (ix2 o e) := by
  obtain ⟨e0, e1⟩ := index6 t
  refine congrArg (V m c main_arg6) (funext fun a => Fin.ext ?_)
  match a with
  | ⟨0, _⟩ => show win0_6.index t (0 : Fin 2) * 8 + 1 * o.val = o.val; omega
  | ⟨1, _⟩ => show win0_6.index t (1 : Fin 2) * 512 + 1 * e.val = e.val; omega

/-- The product of a point's row with a weight row, of the call's arrays. -/
theorem proj_blk (t : Fin cfg0.N) (b : Fin 8) (p : Fin 4) (hb : t.val / 4 = b.val) (hp : t.val % 4 = p.val) (r : Fin 1024) (e : Fin 4112) :
    proj (fun k => iblk m c 0 t (ix3 0 r k)) (fun k => iblk m c 1 t (ix2 0 k)) (fun k => iblk m c 2 t (ix2 e k))
      = proj (fun k => m ((c : Thread nD τ).loc main_arg0) (ix3 b ⟨1024 * p.val + r.val, by omega⟩ k))
          (fun k => m ((c : Thread nD τ).loc main_arg1) (ix2 (0 : Fin 1) k)) (fun k => m ((c : Thread nD τ).loc main_arg2) (ix2 e k)) := by
  congr 1
  · exact funext fun k => blk0 m c t b p hb hp r k
  · exact funext fun k => blk1 m c t k
  · exact funext fun k => blk2 m c t e k

/-! Two points' blocks of a result share nothing. -/

theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (by
    have h0 := congrFun h (0 : Fin 3)
    have h1 := congrFun h (2 : Fin 3)
    have a := index8 t
    have a' := index8 t'
    have h0' : win0_8.index t (0 : Fin 3) = win0_8.index t' (0 : Fin 3) := h0
    have h1' : win0_8.index t (2 : Fin 3) = win0_8.index t' (2 : Fin 3) := h1
    omega))

theorem apart10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (Fin.ext (by
    have h0 := congrFun h (0 : Fin 3)
    have h1 := congrFun h (2 : Fin 3)
    have a := index10 t
    have a' := index10 t'
    have h0' : win0_10.index t (0 : Fin 3) = win0_10.index t' (0 : Fin 3) := h0
    have h1' : win0_10.index t (2 : Fin 3) = win0_10.index t' (2 : Fin 3) := h1
    omega))

theorem apart11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (Fin.ext (by
    have h0 := congrFun h (0 : Fin 3)
    have h1 := congrFun h (1 : Fin 3)
    have a := index11 t
    have a' := index11 t'
    have h0' : win0_11.index t (0 : Fin 3) = win0_11.index t' (0 : Fin 3) := h0
    have h1' : win0_11.index t (1 : Fin 3) = win0_11.index t' (1 : Fin 3) := h1
    omega))

theorem apart12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (Fin.ext (by
    have h0 := congrFun h (0 : Fin 3)
    have h1 := congrFun h (1 : Fin 3)
    have a := index12 t
    have a' := index12 t'
    have h0' : win0_12.index t (0 : Fin 3) = win0_12.index t' (0 : Fin 3) := h0
    have h1' : win0_12.index t (1 : Fin 3) = win0_12.index t' (1 : Fin 3) := h1
    omega))

/-- The queries, entry by entry. -/
theorem qt_entry (b : Fin 8) (p : Fin 4) (r : Fin 1024) (e : Fin 512) :
    (dats m 0 c).arrAt 8 cfg0.N (ix3 b e (⟨1024 * p.val + r.val, by omega⟩ : Fin 4096))
      = proj (fun k => m ((c : Thread nD τ).loc main_arg0) (ix3 b ⟨1024 * p.val + r.val, by omega⟩ k))
          (fun k => m ((c : Thread nD τ).loc main_arg1) (ix2 (0 : Fin 1) k))
          (fun k => m ((c : Thread nD τ).loc main_arg2) (ix2 (⟨e.val, by omega⟩ : Fin 4112) k)) * Ideal.ofBits .f32 0x3E38AA3B#32 := by
  have hb := b.isLt
  have hp := p.isLt
  have ht : 4 * b.val + p.val < cfg0.N := lt_of_lt_of_eq (by omega) N_0.symm
  have d : (4 * b.val + p.val) / 4 = b.val := by omega
  have q : (4 * b.val + p.val) % 4 = p.val := by omega
  have h := congrFun ((dats m 0 c).read_blk_arrAt_eq_flushed 8 apart8 cfg0.N ⟨4 * b.val + p.val, ht⟩ ht (flush0_8 _)) (ix3 0 e r)
  obtain ⟨e0, e1, e2⟩ := index8 ⟨4 * b.val + p.val, ht⟩
  have ei : ((cfg0.win 8).blk ⟨4 * b.val + p.val, ht⟩).view.emb (ix3 0 e r) = (ix3 b e (⟨1024 * p.val + r.val, by omega⟩ : Fin 4096)) := by
    refine funext fun a => Fin.ext ?_
    match a with
    | ⟨0, _⟩ => show win0_8.index _ (0 : Fin 3) * 1 + 1 * 0 = b.val; rw [e0]; show (4 * b.val + p.val) / 4 * 1 + 1 * 0 = b.val; omega
    | ⟨1, _⟩ => show win0_8.index _ (1 : Fin 3) * 512 + 1 * e.val = e.val; rw [e1]; omega
    | ⟨2, _⟩ => show win0_8.index _ (2 : Fin 3) * 1024 + 1 * r.val = 1024 * p.val + r.val; rw [e2]; show (4 * b.val + p.val) % 4 * 1024 + 1 * r.val = _; omega
  have hl : (dats m 0 c).arrAt 8 cfg0.N (ix3 b e (⟨1024 * p.val + r.val, by omega⟩ : Fin 4096)) = (dats m 0 c).after 8 ⟨4 * b.val + p.val, ht⟩ (ix3 0 e r) := by
    rw [← ei]
    exact h
  rw [hl, after8]
  refine (qtB_apply _ _ _ e r).trans ?_
  rw [proj_blk m c _ b p d q]

/-- The values, entry by entry. -/
theorem vt_entry (b : Fin 8) (p : Fin 4) (r : Fin 1024) (e : Fin 512) :
    (dats m 0 c).arrAt 10 cfg0.N (ix3 b e (⟨1024 * p.val + r.val, by omega⟩ : Fin 4096))
      = proj (fun k => m ((c : Thread nD τ).loc main_arg0) (ix3 b ⟨1024 * p.val + r.val, by omega⟩ k))
          (fun k => m ((c : Thread nD τ).loc main_arg1) (ix2 (0 : Fin 1) k))
          (fun k => m ((c : Thread nD τ).loc main_arg2) (ix2 (⟨512 + e.val, by omega⟩ : Fin 4112) k)) := by
  have hb := b.isLt
  have hp := p.isLt
  have ht : 4 * b.val + p.val < cfg0.N := lt_of_lt_of_eq (by omega) N_0.symm
  have d : (4 * b.val + p.val) / 4 = b.val := by omega
  have q : (4 * b.val + p.val) % 4 = p.val := by omega
  have h := congrFun ((dats m 0 c).read_blk_arrAt_eq_flushed 10 apart10 cfg0.N ⟨4 * b.val + p.val, ht⟩ ht (flush0_10 _)) (ix3 0 e r)
  obtain ⟨e0, e1, e2⟩ := index10 ⟨4 * b.val + p.val, ht⟩
  have ei : ((cfg0.win 10).blk ⟨4 * b.val + p.val, ht⟩).view.emb (ix3 0 e r) = (ix3 b e (⟨1024 * p.val + r.val, by omega⟩ : Fin 4096)) := by
    refine funext fun a => Fin.ext ?_
    match a with
    | ⟨0, _⟩ => show win0_10.index _ (0 : Fin 3) * 1 + 1 * 0 = b.val; rw [e0]; show (4 * b.val + p.val) / 4 * 1 + 1 * 0 = b.val; omega
    | ⟨1, _⟩ => show win0_10.index _ (1 : Fin 3) * 512 + 1 * e.val = e.val; rw [e1]; omega
    | ⟨2, _⟩ => show win0_10.index _ (2 : Fin 3) * 1024 + 1 * r.val = 1024 * p.val + r.val; rw [e2]; show (4 * b.val + p.val) % 4 * 1024 + 1 * r.val = _; omega
  have hl : (dats m 0 c).arrAt 10 cfg0.N (ix3 b e (⟨1024 * p.val + r.val, by omega⟩ : Fin 4096)) = (dats m 0 c).after 10 ⟨4 * b.val + p.val, ht⟩ (ix3 0 e r) := by
    rw [← ei]
    exact h
  rw [hl, after10]
  refine (vtB_apply _ _ _ e r).trans ?_
  rw [proj_blk m c _ b p d q]

/-- The gate rows, entry by entry. -/
theorem z_entry (b : Fin 8) (p : Fin 4) (r : Fin 1024) (e : Fin 512) :
    (dats m 0 c).arrAt 11 cfg0.N (ix3 b (⟨1024 * p.val + r.val, by omega⟩ : Fin 4096) e)
      = proj (fun k => m ((c : Thread nD τ).loc main_arg0) (ix3 b ⟨1024 * p.val + r.val, by omega⟩ k))
          (fun k => m ((c : Thread nD τ).loc main_arg1) (ix2 (0 : Fin 1) k))
          (fun k => m ((c : Thread nD τ).loc main_arg2) (ix2 (⟨1552 + e.val, by omega⟩ : Fin 4112) k)) := by
  have hb := b.isLt
  have hp := p.isLt
  have ht : 4 * b.val + p.val < cfg0.N := lt_of_lt_of_eq (by omega) N_0.symm
  have d : (4 * b.val + p.val) / 4 = b.val := by omega
  have q : (4 * b.val + p.val) % 4 = p.val := by omega
  have h := congrFun ((dats m 0 c).read_blk_arrAt_eq_flushed 11 apart11 cfg0.N ⟨4 * b.val + p.val, ht⟩ ht (flush0_11 _)) (ix3 0 r e)
  obtain ⟨e0, e1, e2⟩ := index11 ⟨4 * b.val + p.val, ht⟩
  have ei : ((cfg0.win 11).blk ⟨4 * b.val + p.val, ht⟩).view.emb (ix3 0 r e) = (ix3 b (⟨1024 * p.val + r.val, by omega⟩ : Fin 4096) e) := by
    refine funext fun a => Fin.ext ?_
    match a with
    | ⟨0, _⟩ => show win0_11.index _ (0 : Fin 3) * 1 + 1 * 0 = b.val; rw [e0]; show (4 * b.val + p.val) / 4 * 1 + 1 * 0 = b.val; omega
    | ⟨1, _⟩ => show win0_11.index _ (1 : Fin 3) * 1024 + 1 * r.val = 1024 * p.val + r.val; rw [e1]; show (4 * b.val + p.val) % 4 * 1024 + 1 * r.val = _; omega
    | ⟨2, _⟩ => show win0_11.index _ (2 : Fin 3) * 512 + 1 * e.val = e.val; rw [e2]; omega
  have hl : (dats m 0 c).arrAt 11 cfg0.N (ix3 b (⟨1024 * p.val + r.val, by omega⟩ : Fin 4096) e) = (dats m 0 c).after 11 ⟨4 * b.val + p.val, ht⟩ (ix3 0 r e) := by
    rw [← ei]
    exact h
  rw [hl, after11]
  refine (zB_apply _ _ _ r e).trans ?_
  rw [proj_blk m c _ b p d q]

/-! ## The convolution rows -/

section
variable (X : Vec Ideal S8x4096x1024 .f32) (g : Vec Ideal S1x1024 .f32) (W : Vec Ideal S4112x1024 .bf16) (cw : Vec Ideal S3x512 .f32)
  (cg : Vec Ideal S1x512 .f32) (halo : Vec Ideal S8x512 .f32)

/-- The product of a position's row with a weight row. -/
def pj (b : Fin 8) (s : Fin 4096) (i : Fin 4112) : EReal := proj (fun k => X (ix3 b s k)) (fun k => g (ix2 0 k)) (fun k => W (ix2 i k))

/-- What the convolution takes at a position, -/
def cxAt (b : Fin 8) (s : Fin 4096) (e : Fin 512) : EReal := pj X g W b s ⟨2576 + e.val, by omega⟩ * pj X g W b s ⟨3088 + e.val, by omega⟩

/-- after the two rows before the first. -/
def padAt (b : Fin 8) (j : ℕ) (h : j < 4098) (e : Fin 512) : EReal :=
  if hj : j < 2 then halo (ix2 ⟨6 + j, by omega⟩ e) else cxAt X g W b ⟨j - 2, by omega⟩ e

/-- An entry of the convolution rows. -/
def ycAt (b : Fin 8) (s : Fin 4096) (e : Fin 512) : EReal :=
  gate (fun i => conv (pj X g W b s ⟨2064 + i.val, by omega⟩) (cw (ix2 0 i)) (padAt X g W halo b s.val (by omega) i)
      (cw (ix2 1 i)) (padAt X g W halo b (s.val + 1) (by omega) i) (cw (ix2 2 i)) (padAt X g W halo b (s.val + 2) (by omega) i))
    (cg (ix2 0 e)) (pj X g W b s ⟨3600 + e.val, by omega⟩) e

theorem padAt_lt (b : Fin 8) (j : ℕ) (h : j < 4098) (e : Fin 512) (o : Fin 8) (hj : j < 2) (ho : 6 + j = o.val) : padAt X g W halo b j h e = halo (ix2 o e) :=
  (dif_pos hj).trans (congrArg (fun o => halo (ix2 o e)) (Fin.ext ho))

theorem padAt_ge (b : Fin 8) (j : ℕ) (h : j < 4098) (e : Fin 512) (s : Fin 4096) (hs : j = s.val + 2) : padAt X g W halo b j h e = cxAt X g W b s e :=
  (dif_neg (by omega)).trans (congrArg (fun s => cxAt X g W b s e) (Fin.ext (by show j - 2 = s.val; omega)))

end

/-- The rows a point's convolution takes. -/
theorem cx_blk (t : Fin cfg0.N) (b : Fin 8) (p : Fin 4) (hb : t.val / 4 = b.val) (hp : t.val % 4 = p.val) (r : Fin 1024) (e : Fin 512) :
    cxP m c t (ix2 r e)
      = cxAt (m ((c : Thread nD τ).loc main_arg0)) (m ((c : Thread nD τ).loc main_arg1)) (m ((c : Thread nD τ).loc main_arg2)) b ⟨1024 * p.val + r.val, by omega⟩ e :=
  (cxB_apply _ _ _ r e).trans (congrArg₂ (· * ·) (proj_blk m c t b p hb hp r _) (proj_blk m c t b p hb hp r _))

/-- The row before a point's rows, -/
theorem row_before1 (t : Fin cfg0.N) (b : Fin 8) (p : Fin 4) (hb : t.val / 4 = b.val) (hp : t.val % 4 = p.val) (e : Fin 512) :
    before1Row m c t e = padAt (m ((c : Thread nD τ).loc main_arg0)) (m ((c : Thread nD τ).loc main_arg1)) (m ((c : Thread nD τ).loc main_arg2))
      (m ((c : Thread nD τ).loc main_arg6)) b (1024 * p.val + 1) (by omega) e := by
  have hpl := p.isLt
  have ht := lt_of_lt_of_eq t.isLt N_0
  unfold before1Row
  split
  · next h =>
    rw [padAt_lt _ _ _ _ b _ _ e 7 (by omega) (by show 6 + (1024 * p.val + 1) = 7; omega)]
    exact blk6 m c t 7 e
  · next h =>
    rw [padAt_ge _ _ _ _ b _ _ e ⟨1024 * (p.val - 1) + 1023, by omega⟩ (by show 1024 * p.val + 1 = 1024 * (p.val - 1) + 1023 + 2; omega)]
    exact cx_blk m c (prev t) b ⟨p.val - 1, by omega⟩ (by show (t.val - 1) / 4 = b.val; omega) (by show (t.val - 1) % 4 = p.val - 1; omega) 1023 e

/-- and the one before it. -/
theorem row_before2 (t : Fin cfg0.N) (b : Fin 8) (p : Fin 4) (hb : t.val / 4 = b.val) (hp : t.val % 4 = p.val) (e : Fin 512) :
    before2Row m c t e = padAt (m ((c : Thread nD τ).loc main_arg0)) (m ((c : Thread nD τ).loc main_arg1)) (m ((c : Thread nD τ).loc main_arg2))
      (m ((c : Thread nD τ).loc main_arg6)) b (1024 * p.val) (by omega) e := by
  have hpl := p.isLt
  have ht := lt_of_lt_of_eq t.isLt N_0
  unfold before2Row
  split
  · next h =>
    rw [padAt_lt _ _ _ _ b _ _ e 6 (by omega) (by show 6 + 1024 * p.val = 6; omega)]
    exact blk6 m c t 6 e
  · next h =>
    rw [padAt_ge _ _ _ _ b _ _ e ⟨1024 * (p.val - 1) + 1022, by omega⟩ (by show 1024 * p.val = 1024 * (p.val - 1) + 1022 + 2; omega)]
    exact cx_blk m c (prev t) b ⟨p.val - 1, by omega⟩ (by show (t.val - 1) / 4 = b.val; omega) (by show (t.val - 1) % 4 = p.val - 1; omega) 1022 e

/-- The convolution rows, entry by entry. -/
theorem yc_entry (b : Fin 8) (p : Fin 4) (r : Fin 1024) (e : Fin 512) :
    (dats m 0 c).arrAt 12 cfg0.N (ix3 b (⟨1024 * p.val + r.val, by omega⟩ : Fin 4096) e)
      = ycAt (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6)) b ⟨1024 * p.val + r.val, by omega⟩ e := by
  have hb := b.isLt
  have hp := p.isLt
  have ht : 4 * b.val + p.val < cfg0.N := lt_of_lt_of_eq (by omega) N_0.symm
  have d : (4 * b.val + p.val) / 4 = b.val := by omega
  have q : (4 * b.val + p.val) % 4 = p.val := by omega
  have h := congrFun ((dats m 0 c).read_blk_arrAt_eq_flushed 12 apart12 cfg0.N ⟨4 * b.val + p.val, ht⟩ ht (flush0_12 _)) (ix3 0 r e)
  obtain ⟨e0, e1, e2⟩ := index12 ⟨4 * b.val + p.val, ht⟩
  have ei : ((cfg0.win 12).blk ⟨4 * b.val + p.val, ht⟩).view.emb (ix3 0 r e) = (ix3 b (⟨1024 * p.val + r.val, by omega⟩ : Fin 4096) e) := by
    refine funext fun a => Fin.ext ?_
    match a with
    | ⟨0, _⟩ => show win0_12.index _ (0 : Fin 3) * 1 + 1 * 0 = b.val; rw [e0]; show (4 * b.val + p.val) / 4 * 1 + 1 * 0 = b.val; omega
    | ⟨1, _⟩ => show win0_12.index _ (1 : Fin 3) * 1024 + 1 * r.val = 1024 * p.val + r.val; rw [e1]; show (4 * b.val + p.val) % 4 * 1024 + 1 * r.val = _; omega
    | ⟨2, _⟩ => show win0_12.index _ (2 : Fin 3) * 512 + 1 * e.val = e.val; rw [e2]; omega
  have hl : (dats m 0 c).arrAt 12 cfg0.N (ix3 b (⟨1024 * p.val + r.val, by omega⟩ : Fin 4096) e) = (dats m 0 c).after 12 ⟨4 * b.val + p.val, ht⟩ (ix3 0 r e) := by
    rw [← ei]
    exact h
  rw [hl, after12]
  refine (ycB_apply _ _ _ _ _ _ _ r e).trans ?_
  unfold ycAt pj
  have hr := r.isLt
  refine congr (congr (congrArg₂ gate (funext fun i => ?_) (blk5 m c _ 0 e)) (proj_blk m c _ b p d q r _)) rfl
  refine congr (congr (congr (congr (congr (congrArg₂ conv (proj_blk m c _ b p d q r _) (blk4 m c _ 0 i)) ?_) (blk4 m c _ 1 i)) ?_) (blk4 m c _ 2 i)) ?_
  · show (if r.val = 0 then before2Row m c _ i else if r.val = 1 then before1Row m c _ i else cxP m c _ (ix2 (⟨r.val - 2, _⟩ : Fin 1024) i)) = _
    split
    · next h => exact (row_before2 m c _ b p d q i).trans (congrArg (fun j : Fin 4098 => padAt _ _ _ _ b j.val j.isLt i) (Fin.ext (by show 1024 * p.val = 1024 * p.val + r.val; omega) : (⟨1024 * p.val, by omega⟩ : Fin 4098) = ⟨1024 * p.val + r.val, by omega⟩))
    split
    · next h => exact (row_before1 m c _ b p d q i).trans (congrArg (fun j : Fin 4098 => padAt _ _ _ _ b j.val j.isLt i) (Fin.ext (by show 1024 * p.val + 1 = 1024 * p.val + r.val; omega) : (⟨1024 * p.val + 1, by omega⟩ : Fin 4098) = ⟨1024 * p.val + r.val, by omega⟩))
    · exact (cx_blk m c _ b p d q _ i).trans (padAt_ge _ _ _ _ b _ _ i _ (by show 1024 * p.val + r.val = 1024 * p.val + (r.val - 2) + 2; omega)).symm
  · show (if h : r.val = 0 then before1Row m c _ i else cxP m c _ (ix2 (⟨r.val - 1, _⟩ : Fin 1024) i)) = _
    split
    · next h => exact (row_before1 m c _ b p d q i).trans (congrArg (fun j : Fin 4098 => padAt _ _ _ _ b j.val j.isLt i) (Fin.ext (by show 1024 * p.val + 1 = 1024 * p.val + r.val + 1; omega) : (⟨1024 * p.val + 1, by omega⟩ : Fin 4098) = ⟨1024 * p.val + r.val + 1, by omega⟩))
    · exact (cx_blk m c _ b p d q _ i).trans (padAt_ge _ _ _ _ b _ _ i _ (by show 1024 * p.val + r.val + 1 = 1024 * p.val + (r.val - 1) + 2; omega)).symm
  · exact (congrArg₂ (· * ·) (proj_blk m c _ b p d q r _) (proj_blk m c _ b p d q r _)).trans (padAt_ge _ _ _ _ b _ _ i ⟨1024 * p.val + r.val, by omega⟩ rfl).symm

end Cert.In

end
-- ==== Proof.InRef.lean ====
/- The input projection's reference, entry by entry, and its agreement with the kernel. -/
module

public import proofs.«01_k».proof.Proof.InBlocks
public import proofs.«01_k».proof.Proof.Ref
public import proofs.«01_k».proof.Proof.Gen.Reference3Ideal.Read
public import Idealize.ShloMosaic.Lib.KernelVsHost

@[expose] public section

noncomputable section

namespace Cert.In

open Idealize.ShloMosaic Cert.Reference3Ideal Cert.Reference3Ideal.Gen Cert.Reference3Ideal.Read

variable (x0 : Vec Ideal S8x4096x1024 .f32) (x1 : Vec Ideal S1x1024 .f32) (x2 : Vec Ideal S4112x1024 .bf16)

/-- The reference's normalised rows. -/
theorem ref_nrm (b : Fin 8) (s : Fin 4096) (i : Fin 1024) :
    val_main_v12 (F := Ideal) x0 x1 (ix3 b s i) = nrm (fun k => x0 (ix3 b s k)) (fun k => x1 (ix2 0 k)) i := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have e : ∀ k : Fin 1024, val_main_v0 (F := Ideal) x0 (idx_main_v1 (idx_main_v2 (idx_main_v8 (ix3 b s i))) k) = x0 (ix3 b s k) * x0 (ix3 b s k) := by
    intro k
    have e1 : idx_main_v1 (idx_main_v2 (idx_main_v8 (ix3 b s i))) k = ix3 b s k := funext fun a => match a with | ⟨0, _⟩ => rfl | ⟨1, _⟩ => rfl | ⟨2, _⟩ => rfl
    rw [e1]
    rfl
  have ez : val_main_cst (F := Ideal) (Shape.Idx.first h_S_) = 0 := Ideal.ofBits_zero_f32
  rw [Finset.sum_congr rfl fun k _ => e k, ez, zero_add]
  have eg : idx_main_v10 (idx_main_v11 (ix3 b s i)) = ix2 0 i := funext fun a => match a with | ⟨0, _⟩ => rfl | ⟨1, _⟩ => rfl
  rw [eg]
  rfl

/-- An index is known by its three coordinates, -/
theorem idx3 {n0 n1 n2 : ℕ} {i : (⟨3, ![n0, n1, n2]⟩ : Shape).Idx} {a : Fin n0} {b : Fin n1} {c : Fin n2} (h0 : (i 0).val = a.val) (h1 : (i 1).val = b.val)
    (h2 : (i 2).val = c.val) : i = ix3 a b c := funext fun x => Fin.ext (match x with | ⟨0, _⟩ => h0 | ⟨1, _⟩ => h1 | ⟨2, _⟩ => h2)

/-- or its two. -/
theorem idx2 {n0 n1 : ℕ} {i : (⟨2, ![n0, n1]⟩ : Shape).Idx} {a : Fin n0} {b : Fin n1} (h0 : (i 0).val = a.val) (h1 : (i 1).val = b.val) : i = ix2 a b :=
  funext fun x => Fin.ext (match x with | ⟨0, _⟩ => h0 | ⟨1, _⟩ => h1)

/-- A product with a row of the weights. -/
theorem ref_row (b : Fin 8) (s : Fin 4096) (i : Fin 4112) (l : Fin 1024 → S8x4096x1024.Idx) (y : Fin 1024 → EReal) (hl : ∀ k, l k = ix3 b s k)
    (hy : ∀ k, y k = x2 (ix2 i k)) : (∑ k : Fin 1024, val_main_v12 (F := Ideal) x0 x1 (l k) * y k) = pj x0 x1 x2 b s i :=
  Finset.sum_congr rfl fun k _ => congrArg₂ (· * ·) ((congrArg _ (hl k)).trans (ref_nrm x0 x1 b s k)) (hy k)

section
variable (b : Fin 8) (s : Fin 4096) (e : Fin 512)

/-- The reference's queries before their factor, -/
theorem ref_q : val_main_v15 (F := Ideal) x0 x1 x2 (ix3 b s e) = pj x0 x1 x2 b s ⟨e.val, by omega⟩ := by
  rw [val_main_v15_apply]
  exact ref_row x0 x1 x2 b s _ _ _ (fun k => idx3 rfl rfl rfl) fun k => (val_main_v14_apply x2 _).trans (congrArg x2 (idx2 rfl rfl))
/-- its values, -/
theorem ref_v : val_main_v17 (F := Ideal) x0 x1 x2 (ix3 b s e) = pj x0 x1 x2 b s ⟨512 + e.val, by omega⟩ := by
  rw [val_main_v17_apply]
  exact ref_row x0 x1 x2 b s _ _ _ (fun k => idx3 rfl rfl rfl) fun k => (val_main_v16_apply x2 _).trans (congrArg x2 (idx2 rfl rfl))
/-- its gate rows, -/
theorem ref_z : val_main_v19 (F := Ideal) x0 x1 x2 (ix3 b s e) = pj x0 x1 x2 b s ⟨1552 + e.val, by omega⟩ := by
  rw [val_main_v19_apply]
  exact ref_row x0 x1 x2 b s _ _ _ (fun k => idx3 rfl rfl rfl) fun k => (val_main_v18_apply x2 _).trans (congrArg x2 (idx2 rfl rfl))
/-- the convolution's gate, -/
theorem ref_gb : val_main_v21 (F := Ideal) x0 x1 x2 (ix3 b s e) = pj x0 x1 x2 b s ⟨2064 + e.val, by omega⟩ := by
  rw [val_main_v21_apply]
  exact ref_row x0 x1 x2 b s _ _ _ (fun k => idx3 rfl rfl rfl) fun k => (val_main_v20_apply x2 _).trans (congrArg x2 (idx2 rfl rfl))
/-- the factors of what it takes -/
theorem ref_gc : val_main_v23 (F := Ideal) x0 x1 x2 (ix3 b s e) = pj x0 x1 x2 b s ⟨2576 + e.val, by omega⟩ := by
  rw [val_main_v23_apply]
  exact ref_row x0 x1 x2 b s _ _ _ (fun k => idx3 rfl rfl rfl) fun k => (val_main_v22_apply x2 _).trans (congrArg x2 (idx2 rfl rfl))
theorem ref_xc : val_main_v25 (F := Ideal) x0 x1 x2 (ix3 b s e) = pj x0 x1 x2 b s ⟨3088 + e.val, by omega⟩ := by
  rw [val_main_v25_apply]
  exact ref_row x0 x1 x2 b s _ _ _ (fun k => idx3 rfl rfl rfl) fun k => (val_main_v24_apply x2 _).trans (congrArg x2 (idx2 rfl rfl))
/-- and its gate after the norm. -/
theorem ref_zc : val_main_v27 (F := Ideal) x0 x1 x2 (ix3 b s e) = pj x0 x1 x2 b s ⟨3600 + e.val, by omega⟩ := by
  rw [val_main_v27_apply]
  exact ref_row x0 x1 x2 b s _ _ _ (fun k => idx3 rfl rfl rfl) fun k => (val_main_v26_apply x2 _).trans (congrArg x2 (idx2 rfl rfl))

end

/-- The queries in the layout the attention takes, -/
theorem ref_qt (b : Fin 8) (e : Fin 512) (s : Fin 4096) :
    val_main_v74 (F := Ideal) x0 x1 x2 (ix3 b e s)
      = proj (fun k => x0 (ix3 b s k)) (fun k => x1 (ix2 0 k)) (fun k => x2 (ix2 (⟨e.val, by omega⟩ : Fin 4112) k)) * Ideal.ofBits .f32 0x3E38AA3B#32 := by
  have ei : idx_main_v73 (ix3 b e s) = ix3 b s e := funext fun a => match a with | ⟨0, _⟩ => rfl | ⟨1, _⟩ => rfl | ⟨2, _⟩ => rfl
  rw [val_main_v74_apply, val_main_v73_apply, ei, val_main_v72_apply, ref_q, val_main_v71_apply]
  rfl

/-- and the values. -/
theorem ref_vt (b : Fin 8) (e : Fin 512) (s : Fin 4096) :
    val_main_v76 (F := Ideal) x0 x1 x2 (ix3 b e s)
      = proj (fun k => x0 (ix3 b s k)) (fun k => x1 (ix2 0 k)) (fun k => x2 (ix2 (⟨512 + e.val, by omega⟩ : Fin 4112) k)) := by
  have ei : idx_main_v75 (ix3 b e s) = ix3 b s e := funext fun a => match a with | ⟨0, _⟩ => rfl | ⟨1, _⟩ => rfl | ⟨2, _⟩ => rfl
  rw [val_main_v76_apply, val_main_v75_apply, ei, ref_v]
  rfl

/-! The convolution rows. -/

section
variable (x4 : Vec Ideal S3x512 .f32) (x5 : Vec Ideal S1x512 .f32) (x6 : Vec Ideal S8x512 .f32) (b : Fin 8)

/-- The rows the convolution takes, after the two before them. -/
theorem ref_pad (j : Fin 4098) (e : Fin 512) : val_main_v32 (F := Ideal) x0 x1 x2 x6 (ix3 b j e) = padAt x0 x1 x2 x6 b j.val j.isLt e := by
  unfold val_main_v32
  by_cases h : j.val < 2
  · refine (concatenate_pair_apply_left (t := S8x4098x512) (s₁ := S8x2x512) (s₂ := S8x4096x512) (1 : Fin 3) _ _ _ _ rfl (ix3 b ⟨j.val, h⟩ e)
      (fun a => match a with | ⟨0, _⟩ => rfl | ⟨1, _⟩ => rfl | ⟨2, _⟩ => rfl)).trans ?_
    rw [val_main_v30_apply, val_main_v29_apply, val_main_v28_apply, padAt_lt _ _ _ _ b _ _ e ⟨6 + j.val, by omega⟩ h rfl]
    exact congrArg x6 (idx2 rfl rfl)
  · refine (concatenate_pair_apply_right (t := S8x4098x512) (s₁ := S8x2x512) (s₂ := S8x4096x512) (1 : Fin 3) _ _ _ _ rfl rfl (ix3 b ⟨j.val - 2, by omega⟩ e)
      (fun a => match a with | ⟨0, _⟩ => fun _ => rfl | ⟨1, _⟩ => fun h => absurd rfl h | ⟨2, _⟩ => fun _ => rfl)
      (by show j.val - 2 + 2 = j.val; omega)).trans ?_
    rw [val_main_v31_apply, ref_gc, ref_xc, padAt_ge _ _ _ _ b _ _ e ⟨j.val - 2, by omega⟩ (by show j.val = j.val - 2 + 2; omega)]
    rfl

/-- The gated convolution at a position. -/
def cv (s : Fin 4096) (i : Fin 512) : EReal :=
  conv (pj x0 x1 x2 b s ⟨2064 + i.val, by omega⟩) (x4 (ix2 0 i)) (padAt x0 x1 x2 x6 b s.val (by omega) i) (x4 (ix2 1 i))
    (padAt x0 x1 x2 x6 b (s.val + 1) (by omega) i) (x4 (ix2 2 i)) (padAt x0 x1 x2 x6 b (s.val + 2) (by omega) i)

theorem ref_cv (s : Fin 4096) (e : Fin 512) : val_main_v53 (F := Ideal) x0 x1 x2 x4 x6 (ix3 b s e) = cv x0 x1 x2 x4 x6 b s e := by
  have he := e.isLt
  have h0 : val_main_v37 (F := Ideal) x4 (ix3 b s e) = x4 (ix2 0 e) := by
    rw [val_main_v37_apply, val_main_v36_apply, val_main_v34_apply, val_main_v33_apply]
    exact congrArg x4 (idx2 rfl (Nat.mod_eq_of_lt he))
  have h1 : val_main_v43 (F := Ideal) x4 (ix3 b s e) = x4 (ix2 1 e) := by
    rw [val_main_v43_apply, val_main_v42_apply, val_main_v40_apply, val_main_v39_apply]
    exact congrArg x4 (idx2 rfl (Nat.mod_eq_of_lt he))
  have h2 : val_main_v50 (F := Ideal) x4 (ix3 b s e) = x4 (ix2 2 e) := by
    rw [val_main_v50_apply, val_main_v49_apply, val_main_v47_apply, val_main_v46_apply]
    exact congrArg x4 (idx2 rfl (Nat.mod_eq_of_lt he))
  have c0 : idx_main_v35 (ix3 b s e) = ix3 b (⟨s.val, by omega⟩ : Fin 4098) e := idx3 rfl rfl rfl
  have c1 : idx_main_v41 (ix3 b s e) = ix3 b (⟨s.val + 1, by omega⟩ : Fin 4098) e := idx3 rfl (Nat.add_comm _ _) rfl
  have c2 : idx_main_v48 (ix3 b s e) = ix3 b (⟨s.val + 2, by omega⟩ : Fin 4098) e := idx3 rfl (Nat.add_comm _ _) rfl
  rw [val_main_v53_apply, ref_gb, val_main_v52_apply, val_main_v45_apply, val_main_v38_apply, val_main_v44_apply, val_main_v51_apply, h0, h1, h2,
    val_main_v35_apply, val_main_v41_apply, val_main_v48_apply, c0, c1, c2, ref_pad, ref_pad, ref_pad]
  rfl

/-- The same by group. -/
theorem ref_cv4 (s : Fin 4096) (h : Fin 8) (d : Fin 64) :
    val_main_v54 (F := Ideal) x0 x1 x2 x4 x6 (ValueIdx.ix4 b s h d) = cv x0 x1 x2 x4 x6 b s ⟨64 * h.val + d.val, by omega⟩ := by
  have hs := s.isLt
  have hb := b.isLt
  have hh := h.isLt
  have hd := d.isLt
  have e : idx_main_v54 (ValueIdx.ix4 b s h d) = ix3 b s ⟨64 * h.val + d.val, by omega⟩ := idx3
    (by show (((b.val * 4096 + s.val) * 8 + h.val) * 64 + d.val) / 2097152 = b.val; omega)
    (by show (((b.val * 4096 + s.val) * 8 + h.val) * 64 + d.val) / 512 % 4096 = s.val; omega)
    (by show (((b.val * 4096 + s.val) * 8 + h.val) * 64 + d.val) % 512 = 64 * h.val + d.val; omega)
  rw [val_main_v54_apply, e, ref_cv]

/-- One over the root of a group's mean square. -/
theorem ref_grms (s : Fin 4096) (e : Fin 512) :
    val_main_v62 (F := Ideal) x0 x1 x2 x4 x6 (ValueIdx.ix4 b s ⟨e.val / 64, by omega⟩ 0) = grms (cv x0 x1 x2 x4 x6 b s) e := by
  rw [val_main_v62_apply, val_main_v61_apply, val_main_v59_apply, val_main_v57_apply, val_main_v56_apply, val_main_v58_apply, val_main_v60_apply]
  have ez : val_main_cst_2 (F := Ideal) (Shape.Idx.first h_S_) = 0 := Ideal.ofBits_zero_f32
  have es : ∀ k : Fin 64, val_main_v55 (F := Ideal) x0 x1 x2 x4 x6 (idx_main_v56 (idx_main_v57 (ValueIdx.ix4 b s ⟨e.val / 64, by omega⟩ 0)) k)
      = cv x0 x1 x2 x4 x6 b s ⟨64 * (e.val / 64) + k.val, by omega⟩ * cv x0 x1 x2 x4 x6 b s ⟨64 * (e.val / 64) + k.val, by omega⟩ := by
    intro k
    have e1 : idx_main_v56 (idx_main_v57 (ValueIdx.ix4 b s ⟨e.val / 64, by omega⟩ 0)) k = ValueIdx.ix4 b s ⟨e.val / 64, by omega⟩ k :=
      funext fun a => match a with | ⟨0, _⟩ => rfl | ⟨1, _⟩ => rfl | ⟨2, _⟩ => rfl | ⟨3, _⟩ => rfl
    rw [e1, val_main_v55_apply, ref_cv4]
    rfl
  rw [Finset.sum_congr rfl fun k _ => es k, ez, zero_add]
  unfold grms grp
  rw [← Cert.Flash.mean_factor]
  rfl

/-- The reference's convolution rows. -/
theorem ref_yc (s : Fin 4096) (e : Fin 512) : val_main_v78 (F := Ideal) x0 x1 x2 x4 x5 x6 (ix3 b s e) = ycAt x0 x1 x2 x4 x5 x6 b s e := by
  have hs := s.isLt
  have hb := b.isLt
  have he := e.isLt
  have e4 : idx_main_v65 (ix3 b s e) = ValueIdx.ix4 b s ⟨e.val / 64, by omega⟩ ⟨e.val % 64, Nat.mod_lt _ (by decide)⟩ := by
    refine funext fun a => Fin.ext ?_
    match a with
    | ⟨0, _⟩ => show ((b.val * 4096 + s.val) * 512 + e.val) / 2097152 = b.val; omega
    | ⟨1, _⟩ => show ((b.val * 4096 + s.val) * 512 + e.val) / 512 % 4096 = s.val; omega
    | ⟨2, _⟩ => show ((b.val * 4096 + s.val) * 512 + e.val) / 64 % 8 = e.val / 64; omega
    | ⟨3, _⟩ => show ((b.val * 4096 + s.val) * 512 + e.val) % 64 = e.val % 64; omega
  have e5 : idx_main_v63 (ValueIdx.ix4 b s ⟨e.val / 64, by omega⟩ ⟨e.val % 64, Nat.mod_lt _ (by decide)⟩) = ValueIdx.ix4 b s ⟨e.val / 64, by omega⟩ 0 :=
    funext fun a => match a with | ⟨0, _⟩ => rfl | ⟨1, _⟩ => rfl | ⟨2, _⟩ => rfl | ⟨3, _⟩ => rfl
  have e6 : (⟨64 * (e.val / 64) + e.val % 64, by omega⟩ : Fin 512) = e := Fin.ext (Nat.div_add_mod _ _)
  have eg : val_main_v67 (F := Ideal) x5 (ix3 b s e) = x5 (ix2 0 e) := by
    rw [val_main_v67_apply, val_main_v66_apply]
    exact congrArg x5 (idx2 rfl rfl)
  rw [val_main_v78_apply, val_main_v70_apply, val_main_v68_apply, val_main_v65_apply, e4, val_main_v64_apply, ref_cv4, val_main_v63_apply, e5, ref_grms, e6, eg,
    val_main_v69_apply, val_main_call0_v5_apply, val_main_call0_v4_apply, val_main_call0_v3_apply, val_main_call0_v2_apply, val_main_call0_v1_apply,
    val_main_call0_v0_apply, ref_zc]
  rw [show val_main_call0_cst (F := Ideal) (idx_main_call0_v2 (ix3 b s e)) = (1 : EReal) from Ideal.ofBits_one_f32,
    show val_main_call0_cst_0 (F := Ideal) (idx_main_call0_v4 (ix3 b s e)) = (1 : EReal) from Ideal.ofBits_one_f32]
  unfold ycAt gate
  rw [zero_sub]
  rfl

end

/-- A position is a row of a block. -/
theorem position (s : Fin 4096) : s = ⟨1024 * (⟨s.val / 1024, by omega⟩ : Fin 4).val + (⟨s.val % 1024, Nat.mod_lt _ (by decide)⟩ : Fin 1024).val, by
    show 1024 * (s.val / 1024) + s.val % 1024 < 4096; omega⟩ := Fin.ext (Nat.div_add_mod s.val 1024).symm

/-- Two arrays of three axes are equal where their entries are. -/
theorem ext3 {n0 n1 n2 : ℕ} {A : Type} {f g : (⟨3, ![n0, n1, n2]⟩ : Shape).Idx → A} (h : ∀ a b d, f (ix3 a b d) = g (ix3 a b d)) : f = g :=
  funext fun i => by
    have ei : i = ix3 (i 0) (i 1) (i 2) := funext fun a => match a with | ⟨0, _⟩ => rfl | ⟨1, _⟩ => rfl | ⟨2, _⟩ => rfl
    rw [ei]
    exact h _ _ _

end Cert.In

namespace Cert.In

open Idealize.ShloMosaic Cert.Kernel3Ideal Cert.Kernel3Ideal.Gen Cert.Kernel3Ideal.Hand
open Idealize.ShloMosaic.TcCoe Idealize.SL
open Cert.Reference3Ideal.Read

variable (m : (ℓ : Loc nD τ sig) → Buf (Elt Ideal) ℓ) (c : Dev nD)

/-- The reference's queries on the kernel's arguments are the kernel's, -/
theorem qt_eq : val_main_v74 (F := Ideal) (m ((c : Thread nD τ).loc main_arg0)) (m ((c : Thread nD τ).loc main_arg1))
      (m ((c : Thread nD τ).loc main_arg2)) = (dats m 0 c).arrAt 8 cfg0.N :=
  ext3 fun b e s => by
    rw [position s]
    exact (ref_qt _ _ _ b e _).trans (qt_entry m c b _ _ e).symm

/-- the values are, -/
theorem vt_eq : val_main_v76 (F := Ideal) (m ((c : Thread nD τ).loc main_arg0)) (m ((c : Thread nD τ).loc main_arg1))
      (m ((c : Thread nD τ).loc main_arg2)) = (dats m 0 c).arrAt 10 cfg0.N :=
  ext3 fun b e s => by
    rw [position s]
    exact (ref_vt _ _ _ b e _).trans (vt_entry m c b _ _ e).symm

/-- the gate rows are, -/
theorem z_eq : val_main_v77 (F := Ideal) (m ((c : Thread nD τ).loc main_arg0)) (m ((c : Thread nD τ).loc main_arg1))
      (m ((c : Thread nD τ).loc main_arg2)) = (dats m 0 c).arrAt 11 cfg0.N :=
  ext3 fun b s e => by
    rw [position s, val_main_v77_apply]
    exact (ref_z _ _ _ b _ e).trans (z_entry m c b _ _ e).symm

/-- and the convolution rows are. -/
theorem yc_eq : val_main_v78 (F := Ideal) (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) = (dats m 0 c).arrAt 12 cfg0.N :=
  ext3 fun b s e => by
    rw [position s]
    exact (ref_yc _ _ _ _ _ _ b _ e).trans (yc_entry m c b _ _ e).symm

end Cert.In

end
-- ==== Proof.lean ====
/- The claims of `Cert.Claim`: the frames by the generated frames, the input projection's own two and the references' runs; the
   value claims by the kernels' value runs, the references' runs and `Cert.Flash.value_eq` (the attention), `Cert.Out.value_eq`
   (the output projection) and `Cert.In.qt_eq`, `vt_eq`, `z_eq`, `yc_eq` (the input projection), which put the results side by side
   entry by entry. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Agree
public import proofs.«01_k».proof.Proof.OutRef
public import proofs.«01_k».proof.Proof.InBits
public import proofs.«01_k».proof.Proof.InRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v76_eq]
  obtain ⟨a0, a1, a2, a3, a4, a5, a6⟩ := hagree c
  rw [a0, a1, a2, a3, a4, a5, a6]
  exact Cert.Flash.value_eq m c

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v18_eq]
  obtain ⟨a0, a1, a2, a3, a4⟩ := hagree c
  rw [a0, a1, a2, a3, a4]
  exact Cert.Out.value_eq m c

theorem quiescent_Reference3Ideal : quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, _, _, _, (θ_run Cert.Kernel3Ideal.defs _ _).mono (fun _ h c => h.1 c) (Cert.Kernel3Ideal.Hand.run_named (F := Ideal) m ρ), ?_⟩
  refine (θ_run Cert.Reference3Ideal.defs _ _).mono (fun _ h c => ⟨?_, ?_, ?_, ?_, (h c).2.2.2.2⟩) (Cert.Reference3Ideal.Value.run (F := Ideal) m' ρ')
  all_goals obtain ⟨a0, a1, a2, _, a4, a5, a6, _⟩ := hagree c
  · rw [(h c).1, Cert.Reference3Ideal.Read.val_main_v74_eq, a0, a1, a2]
    exact Cert.In.qt_eq m c
  · rw [(h c).2.1, Cert.Reference3Ideal.Read.val_main_v76_eq, a0, a1, a2]
    exact Cert.In.vt_eq m c
  · rw [(h c).2.2.1, Cert.Reference3Ideal.Read.val_main_v77_eq, a0, a1, a2]
    exact Cert.In.z_eq m c
  · rw [(h c).2.2.2.1, Cert.Reference3Ideal.Read.val_main_v78_eq, a0, a1, a2, a4, a5, a6]
    exact Cert.In.yc_eq m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Hand.frame m ρ, fun m ρ _ => Cert.Kernel3Ideal.Hand.frame m ρ, quiescent_Reference3Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal⟩

end Cert.Proof

end
